-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "q_scale" .f32 0x3DD53B95#32 (((Real.sqrt 192)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S16384x8x128 : Shape := ⟨3, ![16384, 8, 128]⟩
abbrev S16384x8x64 : Shape := ⟨3, ![16384, 8, 64]⟩
abbrev S16384x64 : Shape := ⟨2, ![16384, 64]⟩
abbrev S16384x1x64 : Shape := ⟨3, ![16384, 1, 64]⟩
abbrev S_ : Shape := ⟨0, ![]⟩
abbrev S16384x8x192 : Shape := ⟨3, ![16384, 8, 192]⟩

class Facts : Prop where
  bcast_S16384x64_S16384x1x64_0_2 : S16384x64.BroadcastsInDim S16384x1x64 (![0, 2] : Fin 2 → Fin S16384x1x64.rank)
  bcast_S16384x1x64_S16384x8x64_0_1_2 : S16384x1x64.BroadcastsInDim S16384x8x64 (![0, 1, 2] : Fin 3 → Fin S16384x8x64.rank)
  bcast_S_S16384x8x128 : S_.BroadcastsInDim S16384x8x128 (![] : Fin 0 → Fin S16384x8x128.rank)
  bcast_S_S16384x8x64 : S_.BroadcastsInDim S16384x8x64 (![] : Fin 0 → Fin S16384x8x64.rank)
  concatenates_S16384x8x128_S16384x8x64_S16384x8x192_d2 : Shape.Concatenates [S16384x8x128, S16384x8x64] S16384x8x192 2

variable [Facts]

def fn {F : FTy → Type} [FloatOps F] (main_arg0 : FVec F S16384x8x128 .f32) (main_arg1 : FVec F S16384x8x64 .f32) (main_arg2 : FVec F S16384x8x128 .f32) (main_arg3 : FVec F S16384x64 .f32) (main_arg4 : FVec F S16384x8x128 .f32) : IVec S16384x8x192 1 :=
  let main_v0 : FVec F S16384x1x64 .f32 := broadcastInDim S16384x1x64 ![0, 2] bcast_S16384x64_S16384x1x64_0_2 main_arg3
  let main_v1 : FVec F S16384x8x64 .f32 := broadcastInDim S16384x8x64 ![0, 1, 2] bcast_S16384x1x64_S16384x8x64_0_1_2 main_v0
  let main_v2 : FVec F S16384x8x128 .f32 := Host.absf main_arg0
  let main_cst : FVec F S_ .f32 := constant S_ .f32 0x7F800000#32
  let main_v3 : FVec F S16384x8x128 .f32 := broadcastInDim S16384x8x128 ![] bcast_S_S16384x8x128 main_cst
  let main_v4 : IVec S16384x8x128 1 := cmpf .olt main_v2 main_v3
  let main_v5 : FVec F S16384x8x128 .f32 := Host.absf main_arg2
  let main_cst_0 : FVec F S_ .f32 := constant S_ .f32 0x7F800000#32
  let main_v6 : FVec F S16384x8x128 .f32 := broadcastInDim S16384x8x128 ![] bcast_S_S16384x8x128 main_cst_0
  let main_v7 : IVec S16384x8x128 1 := cmpf .olt main_v5 main_v6
  let main_v8 : IVec S16384x8x128 1 := andi main_v4 main_v7
  let main_v9 : FVec F S16384x8x64 .f32 := Host.absf main_arg1
  let main_cst_1 : FVec F S_ .f32 := constant S_ .f32 0x7F800000#32
  let main_v10 : FVec F S16384x8x64 .f32 := broadcastInDim S16384x8x64 ![] bcast_S_S16384x8x64 main_cst_1
  let main_v11 : IVec S16384x8x64 1 := cmpf .olt main_v9 main_v10
  let main_v12 : FVec F S16384x8x64 .f32 := Host.absf main_v1
  let main_cst_2 : FVec F S_ .f32 := constant S_ .f32 0x7F800000#32
  let main_v13 : FVec F S16384x8x64 .f32 := broadcastInDim S16384x8x64 ![] bcast_S_S16384x8x64 main_cst_2
  let main_v14 : IVec S16384x8x64 1 := cmpf .olt main_v12 main_v13
  let main_v15 : IVec S16384x8x64 1 := andi main_v11 main_v14
  let main_v16 : IVec S16384x8x192 1 := (fun a b => concatenate S16384x8x192 2 [⟨S16384x8x128, a⟩, ⟨S16384x8x64, b⟩] concatenates_S16384x8x128_S16384x8x64_S16384x8x192_d2) main_v8 main_v15
  main_v16
-- ==== Kernel.lean ====
abbrev S16384x8x128 : Shape := ⟨3, ![16384, 8, 128]⟩
abbrev S16384x8x64 : Shape := ⟨3, ![16384, 8, 64]⟩
abbrev S16384x64 : Shape := ⟨2, ![16384, 64]⟩
abbrev S16384x8x192 : Shape := ⟨3, ![16384, 8, 192]⟩
abbrev S16384x1x64 : Shape := ⟨3, ![16384, 1, 64]⟩
abbrev S16384x1024 : Shape := ⟨2, ![16384, 1024]⟩
abbrev S1024x16384 : Shape := ⟨2, ![1024, 16384]⟩
abbrev S8x16384x192 : Shape := ⟨3, ![8, 16384, 192]⟩
abbrev S1x2048x192 : Shape := ⟨3, ![1, 2048, 192]⟩
abbrev S1x16384x192 : Shape := ⟨3, ![1, 16384, 192]⟩
abbrev S128x16384 : Shape := ⟨2, ![128, 16384]⟩
abbrev S2048x128 : Shape := ⟨2, ![2048, 128]⟩
abbrev S128x2048 : Shape := ⟨2, ![128, 2048]⟩
abbrev S8x1024x256 : Shape := ⟨3, ![8, 1024, 256]⟩
abbrev S2048x192 : Shape := ⟨2, ![2048, 192]⟩
abbrev S1x256 : Shape := ⟨2, ![1, 256]⟩
abbrev S1x1024x192 : Shape := ⟨3, ![1, 1024, 192]⟩
abbrev S1024x192 : Shape := ⟨2, ![1024, 192]⟩
abbrev S256x192 : Shape := ⟨2, ![256, 192]⟩
abbrev S1024x256 : Shape := ⟨2, ![1024, 256]⟩
abbrev S1x1024x256 : Shape := ⟨3, ![1, 1024, 256]⟩
abbrev S128x1024 : Shape := ⟨2, ![128, 1024]⟩
abbrev S256 : Shape := ⟨1, ![256]⟩
abbrev S128x256 : Shape := ⟨2, ![128, 256]⟩
abbrev S256x256 : Shape := ⟨2, ![256, 256]⟩
abbrev S1x256x256 : Shape := ⟨3, ![1, 256, 256]⟩
abbrev S512x192 : Shape := ⟨2, ![512, 192]⟩
abbrev S512x256 : Shape := ⟨2, ![512, 256]⟩
abbrev S1x512x256 : Shape := ⟨3, ![1, 512, 256]⟩
abbrev S768x192 : Shape := ⟨2, ![768, 192]⟩
abbrev S768x256 : Shape := ⟨2, ![768, 256]⟩
abbrev S1x768x256 : Shape := ⟨3, ![1, 768, 256]⟩
abbrev S128x512 : Shape := ⟨2, ![128, 512]⟩
abbrev S128x768 : Shape := ⟨2, ![128, 768]⟩
abbrev S256x128 : Shape := ⟨2, ![256, 128]⟩

abbrev nBuf : Space → Nat
  | .hbm => 16
  | .vmem => 11
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S16384x8x192, .f32⟩
  | .hbm, ⟨6, _⟩ => ⟨S16384x1x64, .f32⟩
  | .hbm, ⟨7, _⟩ => ⟨S16384x8x64, .f32⟩
  | .hbm, ⟨8, _⟩ => ⟨S16384x8x192, .f32⟩
  | .hbm, ⟨9, _⟩ => ⟨S16384x8x192, .bf16⟩
  | .hbm, ⟨10, _⟩ => ⟨S16384x1024, .f32⟩
  | .hbm, ⟨11, _⟩ => ⟨S1024x16384, .f32⟩
  | .hbm, ⟨12, _⟩ => ⟨S1024x16384, .bf16⟩
  | .hbm, ⟨13, _⟩ => ⟨S8x16384x192, .f32⟩
  | .hbm, ⟨14, _⟩ => ⟨S8x16384x192, .bf16⟩
  | .hbm, ⟨15, _⟩ => ⟨S16384x1024, .bf16⟩
  | .local _ .vmem, ⟨0, _⟩ => ⟨S1x2048x192, .f32⟩
  | .local _ .vmem, ⟨1, _⟩ => ⟨S1x2048x192, .f32⟩
  | .local _ .vmem, ⟨2, _⟩ => ⟨S1x16384x192, .bf16⟩
  | .local _ .vmem, ⟨3, _⟩ => ⟨S1x16384x192, .bf16⟩
  | .local _ .vmem, ⟨4, _⟩ => ⟨S128x16384, .bf16⟩
  | .local _ .vmem, ⟨5, _⟩ => ⟨S128x16384, .bf16⟩
  | .local _ .vmem, ⟨6, _⟩ => ⟨S2048x128, .bf16⟩
  | .local _ .vmem, ⟨7, _⟩ => ⟨S2048x128, .bf16⟩
  | .local _ .vmem, ⟨8, _⟩ => ⟨S128x2048, .f32⟩
  | .local _ .vmem, ⟨9, _⟩ => ⟨S8x1024x256, .f32⟩
  | .local _ .vmem, ⟨10, _⟩ => ⟨S8x1024x256, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop (i : grid0.Coords) : Scf.Loop 32 :=
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_56 : BitVec 32 := 1#32
  ⟨c0_i32_54, v91, c1_i32_56⟩
def k0_mult2 (i : grid0.Coords) (k0_t1 : Fin (k0_t1_loop i).trips) : BitVec 32 :=
  let c2_i32_247 : BitVec 32 := 2#32
  let c0_i32_54 : BitVec 32 := 0#32
  let c1_i32_56 : BitVec 32 := 1#32
  let arg9 : BitVec 32 := Scf.iv c0_i32_54 c1_i32_56 k0_t1
  let v538 : BitVec 32 := Scalar.muli c2_i32_247 arg9
  let c1_i32_248 : BitVec 32 := 1#32
  let v539 : BitVec 32 := Scalar.addi v538 c1_i32_248
  let c1024_i32_249 : BitVec 32 := 1024#32
  let v540 : BitVec 32 := Scalar.muli v539 c1024_i32_249
  v540
def k0_off1 (i : grid0.Coords) (k0_t1 : Fin (k0_t1_loop i).trips) (c1_i32_248 : BitVec 32) : Fin 3 → Nat :=
  let c0_250 : Index := 0#32
  let c2_i32_247 : BitVec 32 := 2#32
  let c0_i32_54 : BitVec 32 := 0#32
  let c1_i32_56 : BitVec 32 := 1#32
  let arg9 : BitVec 32 := Scf.iv c0_i32_54 c1_i32_56 k0_t1
  let v538 : BitVec 32 := Scalar.muli c2_i32_247 arg9
  let v539 : BitVec 32 := Scalar.addi v538 c1_i32_248
  let c1024_i32_249 : BitVec 32 := 1024#32
  let v540 : BitVec 32 := Scalar.muli v539 c1024_i32_249
  let v541 : BitVec 32 := v540
  let v542 : Index := Scalar.indexCast v541
  let c0_251 : Index := 0#32
  ![0, v542.toNat, 0]
def k0_mult3 (i : grid0.Coords) (k0_t1 : Fin (k0_t1_loop i).trips) : BitVec 32 :=
  let c2_i32_247 : BitVec 32 := 2#32
  let c0_i32_54 : BitVec 32 := 0#32
  let c1_i32_56 : BitVec 32 := 1#32
  let arg9 : BitVec 32 := Scf.iv c0_i32_54 c1_i32_56 k0_t1
  let v538 : BitVec 32 := Scalar.muli c2_i32_247 arg9
  let c1024_i32_284 : BitVec 32 := 1024#32
  let v585 : BitVec 32 := Scalar.muli v538 c1024_i32_284
  v585
def k0_off2 (i : grid0.Coords) (k0_t1 : Fin (k0_t1_loop i).trips) : Fin 2 → Nat :=
  let c0_285 : Index := 0#32
  let c2_i32_247 : BitVec 32 := 2#32
  let c0_i32_54 : BitVec 32 := 0#32
  let c1_i32_56 : BitVec 32 := 1#32
  let arg9 : BitVec 32 := Scf.iv c0_i32_54 c1_i32_56 k0_t1
  let v538 : BitVec 32 := Scalar.muli c2_i32_247 arg9
  let c1024_i32_284 : BitVec 32 := 1024#32
  let v585 : BitVec 32 := Scalar.muli v538 c1024_i32_284
  let v586 : BitVec 32 := v585
  let v587 : Index := Scalar.indexCast v586
  ![0, v587.toNat]
def k0_mult4 (i : grid0.Coords) (k0_t1 : Fin (k0_t1_loop i).trips) : BitVec 32 :=
  let c2_i32_247 : BitVec 32 := 2#32
  let c0_i32_54 : BitVec 32 := 0#32
  let c1_i32_56 : BitVec 32 := 1#32
  let arg9 : BitVec 32 := Scf.iv c0_i32_54 c1_i32_56 k0_t1
  let v538 : BitVec 32 := Scalar.muli c2_i32_247 arg9
  let c2_i32_366 : BitVec 32 := 2#32
  let v774 : BitVec 32 := Scalar.addi v538 c2_i32_366
  let c1024_i32_367 : BitVec 32 := 1024#32
  let v775 : BitVec 32 := Scalar.muli v774 c1024_i32_367
  v775
def k0_mult5 (i : grid0.Coords) (k0_t1 : Fin (k0_t1_loop i).trips) : BitVec 32 :=
  let c2_i32_247 : BitVec 32 := 2#32
  let c0_i32_54 : BitVec 32 := 0#32
  let c1_i32_56 : BitVec 32 := 1#32
  let arg9 : BitVec 32 := Scf.iv c0_i32_54 c1_i32_56 k0_t1
  let v538 : BitVec 32 := Scalar.muli c2_i32_247 arg9
  let c1_i32_402 : BitVec 32 := 1#32
  let v820 : BitVec 32 := Scalar.addi v538 c1_i32_402
  let c1024_i32_403 : BitVec 32 := 1024#32
  let v821 : BitVec 32 := Scalar.muli v820 c1024_i32_403
  v821
def k0_off3 (i : grid0.Coords) (k0_t1 : Fin (k0_t1_loop i).trips) : Fin 2 → Nat :=
  let c0_404 : Index := 0#32
  let c2_i32_247 : BitVec 32 := 2#32
  let c0_i32_54 : BitVec 32 := 0#32
  let c1_i32_56 : BitVec 32 := 1#32
  let arg9 : BitVec 32 := Scf.iv c0_i32_54 c1_i32_56 k0_t1
  let v538 : BitVec 32 := Scalar.muli c2_i32_247 arg9
  let c1_i32_402 : BitVec 32 := 1#32
  let v820 : BitVec 32 := Scalar.addi v538 c1_i32_402
  let c1024_i32_403 : BitVec 32 := 1024#32
  let v821 : BitVec 32 := Scalar.muli v820 c1024_i32_403
  let v822 : BitVec 32 := v821
  let v823 : Index := Scalar.indexCast v822
  ![0, v823.toNat]
@[reducible] def k0_t2_loop (i : grid0.Coords) : Scf.Loop 32 :=
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let v88 : BitVec 32 := Scalar.addi c0_i32_54 v87
  let c1_i32_57 : BitVec 32 := 1#32
  ⟨v91, v88, c1_i32_57⟩
def k0_mult6 (i : grid0.Coords) (k0_t2 : Fin (k0_t2_loop i).trips) : BitVec 32 :=
  let c2_i32_247 : BitVec 32 := 2#32
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_57 : BitVec 32 := 1#32
  let arg9 : BitVec 32 := Scf.iv v91 c1_i32_57 k0_t2
  let v538 : BitVec 32 := Scalar.muli c2_i32_247 arg9
  let c1_i32_248 : BitVec 32 := 1#32
  let v539 : BitVec 32 := Scalar.addi v538 c1_i32_248
  let c1024_i32_249 : BitVec 32 := 1024#32
  let v540 : BitVec 32 := Scalar.muli v539 c1024_i32_249
  v540
def k0_off4 (i : grid0.Coords) (k0_t2 : Fin (k0_t2_loop i).trips) (c1_i32_248 : BitVec 32) : Fin 3 → Nat :=
  let c0_250 : Index := 0#32
  let c2_i32_247 : BitVec 32 := 2#32
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_57 : BitVec 32 := 1#32
  let arg9 : BitVec 32 := Scf.iv v91 c1_i32_57 k0_t2
  let v538 : BitVec 32 := Scalar.muli c2_i32_247 arg9
  let v539 : BitVec 32 := Scalar.addi v538 c1_i32_248
  let c1024_i32_249 : BitVec 32 := 1024#32
  let v540 : BitVec 32 := Scalar.muli v539 c1024_i32_249
  let v541 : BitVec 32 := v540
  let v542 : Index := Scalar.indexCast v541
  let c0_251 : Index := 0#32
  ![0, v542.toNat, 0]
def k0_mult7 (i : grid0.Coords) (k0_t2 : Fin (k0_t2_loop i).trips) : BitVec 32 :=
  let c2_i32_247 : BitVec 32 := 2#32
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_57 : BitVec 32 := 1#32
  let arg9 : BitVec 32 := Scf.iv v91 c1_i32_57 k0_t2
  let v538 : BitVec 32 := Scalar.muli c2_i32_247 arg9
  let c1024_i32_284 : BitVec 32 := 1024#32
  let v585 : BitVec 32 := Scalar.muli v538 c1024_i32_284
  v585
def k0_off5 (i : grid0.Coords) (k0_t2 : Fin (k0_t2_loop i).trips) : Fin 2 → Nat :=
  let c0_285 : Index := 0#32
  let c2_i32_247 : BitVec 32 := 2#32
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_57 : BitVec 32 := 1#32
  let arg9 : BitVec 32 := Scf.iv v91 c1_i32_57 k0_t2
  let v538 : BitVec 32 := Scalar.muli c2_i32_247 arg9
  let c1024_i32_284 : BitVec 32 := 1024#32
  let v585 : BitVec 32 := Scalar.muli v538 c1024_i32_284
  let v586 : BitVec 32 := v585
  let v587 : Index := Scalar.indexCast v586
  ![0, v587.toNat]
def k0_mult8 (i : grid0.Coords) (k0_t2 : Fin (k0_t2_loop i).trips) : BitVec 32 :=
  let c2_i32_247 : BitVec 32 := 2#32
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_57 : BitVec 32 := 1#32
  let arg9 : BitVec 32 := Scf.iv v91 c1_i32_57 k0_t2
  let v538 : BitVec 32 := Scalar.muli c2_i32_247 arg9
  let c2_i32_366 : BitVec 32 := 2#32
  let v774 : BitVec 32 := Scalar.addi v538 c2_i32_366
  let c1024_i32_367 : BitVec 32 := 1024#32
  let v775 : BitVec 32 := Scalar.muli v774 c1024_i32_367
  v775
def k0_mult9 (i : grid0.Coords) (k0_t2 : Fin (k0_t2_loop i).trips) : BitVec 32 :=
  let c2_i32_247 : BitVec 32 := 2#32
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_57 : BitVec 32 := 1#32
  let arg9 : BitVec 32 := Scf.iv v91 c1_i32_57 k0_t2
  let v538 : BitVec 32 := Scalar.muli c2_i32_247 arg9
  let c1_i32_402 : BitVec 32 := 1#32
  let v820 : BitVec 32 := Scalar.addi v538 c1_i32_402
  let c1024_i32_403 : BitVec 32 := 1024#32
  let v821 : BitVec 32 := Scalar.muli v820 c1024_i32_403
  v821
def k0_off6 (i : grid0.Coords) (k0_t2 : Fin (k0_t2_loop i).trips) : Fin 2 → Nat :=
  let c0_404 : Index := 0#32
  let c2_i32_247 : BitVec 32 := 2#32
  let c0_i32_54 : BitVec 32 := 0#32
  let arg1 : BitVec 32 := BitVec.ofNat 32 (i 1).val
  let c2_i32 : BitVec 32 := 2#32
  let v25 : BitVec 32 := Scalar.muli arg1 c2_i32
  let c0_i32_49 : BitVec 32 := 0#32
  let v71 : BitVec 1 := Scalar.cmpi .sgt v25 c0_i32_49
  let v72 : BitVec 32 := Scalar.extui v71
  let c0_i32_50 : BitVec 32 := 0#32
  let v73 : BitVec 1 := Scalar.cmpi .slt v25 c0_i32_50
  let v74 : BitVec 32 := Scalar.extui v73
  let v75 : BitVec 32 := Scalar.subi v72 v74
  let c2_i32_48 : BitVec 32 := 2#32
  let c0_i32_51 : BitVec 32 := 0#32
  let v76 : BitVec 1 := Scalar.cmpi .sgt c2_i32_48 c0_i32_51
  let v77 : BitVec 32 := Scalar.extui v76
  let c0_i32_52 : BitVec 32 := 0#32
  let v78 : BitVec 1 := Scalar.cmpi .slt c2_i32_48 c0_i32_52
  let v79 : BitVec 32 := Scalar.extui v78
  let v80 : BitVec 32 := Scalar.subi v77 v79
  let v81 : BitVec 1 := Scalar.cmpi .ne v75 v80
  let v82 : BitVec 32 := Scalar.remsi v25 c2_i32_48
  let c0_i32_53 : BitVec 32 := 0#32
  let v83 : BitVec 1 := Scalar.cmpi .ne v82 c0_i32_53
  let v84 : BitVec 1 := Scalar.andi v81 v83
  let v70 : BitVec 32 := Scalar.divsi v25 c2_i32_48
  let c1_i32 : BitVec 32 := 1#32
  let v85 : BitVec 32 := Scalar.subi v70 c1_i32
  let v86 : BitVec 32 := Scalar.select v84 v85 v70
  let v87 : BitVec 32 := Scalar.subi v86 c0_i32_54
  let c1_i32_55 : BitVec 32 := 1#32
  let v89 : BitVec 32 := Scalar.divsi v87 c1_i32_55
  let v90 : BitVec 32 := Scalar.muli v89 c1_i32_55
  let v91 : BitVec 32 := Scalar.addi c0_i32_54 v90
  let c1_i32_57 : BitVec 32 := 1#32
  let arg9 : BitVec 32 := Scf.iv v91 c1_i32_57 k0_t2
  let v538 : BitVec 32 := Scalar.muli c2_i32_247 arg9
  let c1_i32_402 : BitVec 32 := 1#32
  let v820 : BitVec 32 := Scalar.addi v538 c1_i32_402
  let c1024_i32_403 : BitVec 32 := 1024#32
  let v821 : BitVec 32 := Scalar.muli v820 c1024_i32_403
  let v822 : BitVec 32 := v821
  let v823 : Index := Scalar.indexCast v822
  ![0, v823.toNat]
def k0_mult10 (i : grid0.Coords) : BitVec 32 :=
  let arg1 : BitVec 32 := BitVec.ofNat 32 (i 1).val
  let c2_i32 : BitVec 32 := 2#32
  let v25 : BitVec 32 := Scalar.muli arg1 c2_i32
  let c0_i32_58 : BitVec 32 := 0#32
  let v94 : BitVec 32 := Scalar.addi v25 c0_i32_58
  let c1_i32_59 : BitVec 32 := 1#32
  let v95 : BitVec 32 := Scalar.addi v94 c1_i32_59
  let c1024_i32 : BitVec 32 := 1024#32
  let v96 : BitVec 32 := Scalar.muli v95 c1024_i32
  v96
def k0_off7 (i : grid0.Coords) : Fin 3 → Nat :=
  let c0_60 : Index := 0#32
  let arg1 : BitVec 32 := BitVec.ofNat 32 (i 1).val
  let c2_i32 : BitVec 32 := 2#32
  let v25 : BitVec 32 := Scalar.muli arg1 c2_i32
  let c0_i32_58 : BitVec 32 := 0#32
  let v94 : BitVec 32 := Scalar.addi v25 c0_i32_58
  let c1_i32_59 : BitVec 32 := 1#32
  let v95 : BitVec 32 := Scalar.addi v94 c1_i32_59
  let c1024_i32 : BitVec 32 := 1024#32
  let v96 : BitVec 32 := Scalar.muli v95 c1024_i32
  let v97 : BitVec 32 := v96
  let v98 : Index := Scalar.indexCast v97
  let c0_61 : Index := 0#32
  ![0, v98.toNat, 0]
def k0_mult11 (i : grid0.Coords) : BitVec 32 :=
  let arg1 : BitVec 32 := BitVec.ofNat 32 (i 1).val
  let c2_i32 : BitVec 32 := 2#32
  let v25 : BitVec 32 := Scalar.muli arg1 c2_i32
  let c0_i32_78 : BitVec 32 := 0#32
  let v124 : BitVec 32 := Scalar.addi v25 c0_i32_78
  let c1024_i32_79 : BitVec 32 := 1024#32
  let v125 : BitVec 32 := Scalar.muli v124 c1024_i32_79
  v125
def k0_off8 (i : grid0.Coords) (c0_i32_78 : BitVec 32) : Fin 2 → Nat :=
  let c0_80 : Index := 0#32
  let arg1 : BitVec 32 := BitVec.ofNat 32 (i 1).val
  let c2_i32 : BitVec 32 := 2#32
  let v25 : BitVec 32 := Scalar.muli arg1 c2_i32
  let v124 : BitVec 32 := Scalar.addi v25 c0_i32_78
  let c1024_i32_79 : BitVec 32 := 1024#32
  let v125 : BitVec 32 := Scalar.muli v124 c1024_i32_79
  let v126 : BitVec 32 := v125
  let v127 : Index := Scalar.indexCast v126
  ![0, v127.toNat]
def k0_mult12 (i : grid0.Coords) : BitVec 32 :=
  let arg1 : BitVec 32 := BitVec.ofNat 32 (i 1).val
  let c2_i32 : BitVec 32 := 2#32
  let v25 : BitVec 32 := Scalar.muli arg1 c2_i32
  let c1_i32_163 : BitVec 32 := 1#32
  let v353 : BitVec 32 := Scalar.addi v25 c1_i32_163
  let c1024_i32_164 : BitVec 32 := 1024#32
  let v354 : BitVec 32 := Scalar.muli v353 c1024_i32_164
  v354
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "q_scale" => some (((Real.sqrt 192)⁻¹ * (Real.log 2)⁻¹ : ℝ) : EReal)
  | _ => none
-- ==== ReferenceIdeal.lean ====
abbrev S16384x8x128 : Shape := ⟨3, ![16384, 8, 128]⟩
abbrev S16384x8x64 : Shape := ⟨3, ![16384, 8, 64]⟩
abbrev S16384x64 : Shape := ⟨2, ![16384, 64]⟩
abbrev S16384 : Shape := ⟨1, ![16384]⟩
abbrev S8x16384x16384 : Shape := ⟨3, ![8, 16384, 16384]⟩
abbrev S16384x16384x8 : Shape := ⟨3, ![16384, 16384, 8]⟩
abbrev S_ : Shape := ⟨0, ![]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S16384, .i32⟩
  | .hbm, ⟨6, _⟩ => ⟨S8x16384x16384, .f32⟩
  | .hbm, ⟨7, _⟩ => ⟨S16384x16384x8, .f32⟩
  | .hbm, ⟨8, _⟩ => ⟨S8x16384x16384, .f32⟩
  | .hbm, ⟨9, _⟩ => ⟨S8x16384x16384, .f32⟩
  | .hbm, ⟨10, _⟩ => ⟨S_, .f32⟩
  | .hbm, ⟨11, _⟩ => ⟨S_, .f32⟩
  | .hbm, ⟨12, _⟩ => ⟨S8x16384x16384, .f32⟩
  | .hbm, ⟨13, _⟩ => ⟨S8x16384x16384, .f32⟩
  | .hbm, ⟨14, _⟩ => ⟨S1x1x16384, .i32⟩
  | .hbm, ⟨15, _⟩ => ⟨S1x16384x1, .i32⟩
  | .hbm, ⟨16, _⟩ => ⟨S1x16384x16384, .i32⟩
  | .hbm, ⟨17, _⟩ => ⟨S1x16384x16384, .i32⟩
  | .hbm, ⟨18, _⟩ => ⟨S1x16384x16384, .i1⟩
  | .hbm, ⟨19, _⟩ => ⟨S_, .f32⟩
  | .hbm, ⟨20, _⟩ => ⟨S_, .f32⟩
  | .hbm, ⟨21, _⟩ => ⟨S8x16384x16384, .i1⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S_, .f32⟩
  | .hbm, ⟨27, _⟩ => ⟨S8x16384, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S_, .f32⟩
  | .hbm, ⟨34, _⟩ => ⟨S8x16384, .f32⟩
  | .hbm, ⟨35, _⟩ => ⟨S8x16384x1, .f32⟩
  | .hbm, ⟨36, _⟩ => ⟨S8x16384x16384, .f32⟩
  | .hbm, ⟨37, _⟩ => ⟨S8x16384x16384, .f32⟩
  | .hbm, ⟨38, _⟩ => ⟨S8x128x16384, .f32⟩
  | .hbm, ⟨39, _⟩ => ⟨S16384x8x128, .f32⟩
  | .hbm, ⟨40, _⟩ => ⟨S16384x1024, .f32⟩
  | .hbm, ⟨41, _⟩ => ⟨S16384x1024, .bf16⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S256x512 : Shape := ⟨2, ![256, 512]⟩
abbrev S1536x1024 : Shape := ⟨2, ![1536, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S512x1024 : Shape := ⟨2, ![512, 1024]⟩
abbrev S512x256 : Shape := ⟨2, ![512, 256]⟩
abbrev S1x1024 : Shape := ⟨2, ![1, 1024]⟩
abbrev S512x512 : Shape := ⟨2, ![512, 512]⟩
abbrev S512x128 : Shape := ⟨2, ![512, 128]⟩
abbrev S128x256 : Shape := ⟨2, ![128, 256]⟩
abbrev S512 : Shape := ⟨1, ![512]⟩
abbrev S512x1 : Shape := ⟨2, ![512, 1]⟩
abbrev S256x128 : Shape := ⟨2, ![256, 128]⟩
abbrev S1024x256 : Shape := ⟨2, ![1024, 256]⟩
abbrev S256x1024 : Shape := ⟨2, ![256, 1024]⟩

abbrev nBuf : Space → Nat
  | .hbm => 23
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S256x512, .f32⟩
  | .hbm, ⟨3, _⟩ => ⟨S256x512, .f32⟩
  | .hbm, ⟨4, _⟩ => ⟨S16384x1024, .f32⟩
  | .hbm, ⟨5, _⟩ => ⟨S1536x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1536x1024, .bf16⟩
  | .hbm, ⟨12, _⟩ => ⟨S1024x1024, .bf16⟩
  | .hbm, ⟨13, _⟩ => ⟨S512x1024, .bf16⟩
  | .hbm, ⟨14, _⟩ => ⟨S512x256, .f32⟩
  | .hbm, ⟨15, _⟩ => ⟨S512x256, .bf16⟩
  | .hbm, ⟨16, _⟩ => ⟨S256x512, .bf16⟩
  | .hbm, ⟨17, _⟩ => ⟨S1024x5632, .bf16⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S256x512, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16384x1024 : Shape := ⟨2, ![16384, 1024]⟩
abbrev S16384x512 : Shape := ⟨2, ![16384, 512]⟩
abbrev S256x512 : Shape := ⟨2, ![256, 512]⟩
abbrev S1536x1024 : Shape := ⟨2, ![1536, 1024]⟩
abbrev S1024 : Shape := ⟨1, ![1024]⟩
abbrev S1024x5632 : Shape := ⟨2, ![1024, 5632]⟩
abbrev S2816x1024 : Shape := ⟨2, ![2816, 1024]⟩
abbrev S16384x4x128 : Shape := ⟨3, ![16384, 4, 128]⟩
abbrev S256x4x128 : Shape := ⟨3, ![256, 4, 128]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩
abbrev S16384x1536 : Shape := ⟨2, ![16384, 1536]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 103
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S256x512, .f32⟩
  | .hbm, ⟨3, _⟩ => ⟨S256x512, .f32⟩
  | .hbm, ⟨4, _⟩ => ⟨S16384x1024, .f32⟩
  | .hbm, ⟨5, _⟩ => ⟨S1536x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S16384x512, .f32⟩
  | .hbm, ⟨12, _⟩ => ⟨S16384x4x128, .f32⟩
  | .hbm, ⟨13, _⟩ => ⟨S256x4x128, .f32⟩
  | .hbm, ⟨14, _⟩ => ⟨S256x4x128, .f32⟩
  | .hbm, ⟨15, _⟩ => ⟨S4x16384x256, .f32⟩
  | .hbm, ⟨16, _⟩ => ⟨S_, .f32⟩
  | .hbm, ⟨17, _⟩ => ⟨S4x16384x256, .f32⟩
  | .hbm, ⟨18, _⟩ => ⟨S4x16384x256, .f32⟩
  | .hbm, ⟨19, _⟩ => ⟨S_, .f32⟩
  | .hbm, ⟨20, _⟩ => ⟨S4x16384, .f32⟩
  | .hbm, ⟨21, _⟩ => ⟨S_, .f32⟩
  | .hbm, ⟨22, _⟩ => ⟨S4x16384, .f32⟩
  | .hbm, ⟨23, _⟩ => ⟨S4x16384, .f32⟩
  | .hbm, ⟨24, _⟩ => ⟨S4x16384x1, .f32⟩
  | .hbm, ⟨25, _⟩ => ⟨S4x16384x256, .f32⟩
  | .hbm, ⟨26, _⟩ => ⟨S4x16384x256, .f32⟩
  | .hbm, ⟨27, _⟩ => ⟨S4x16384x256, .f32⟩
  | .hbm, ⟨28, _⟩ => ⟨S_, .f32⟩
  | .hbm, ⟨29, _⟩ => ⟨S4x16384, .f32⟩
  | .hbm, ⟨30, _⟩ => ⟨S4x16384x1, .f32⟩
  | .hbm, ⟨31, _⟩ => ⟨S4x16384x256, .f32⟩
  | .hbm, ⟨32, _⟩ => ⟨S4x16384x256, .f32⟩
  | .hbm, ⟨33, _⟩ => ⟨S4x128x16384, .f32⟩
  | .hbm, ⟨34, _⟩ => ⟨S16384x4x128, .f32⟩
  | .hbm, ⟨35, _⟩ => ⟨S16384x512, .f32⟩
  | .hbm, ⟨36, _⟩ => ⟨S16384x1024, .f32⟩
  | .hbm, ⟨37, _⟩ => ⟨S16384x1536, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x5632, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S_, .f32⟩
  | .hbm, ⟨77, _⟩ => ⟨S16384x2816, .f32⟩
  | .hbm, ⟨78, _⟩ => ⟨S16384x2816, .f32⟩
  | .hbm, ⟨79, _⟩ => ⟨S_, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S16384x2816, .f32⟩
  | .hbm, ⟨84, _⟩ => ⟨S16384x2816, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S16384x1, .f32⟩
  | .hbm, ⟨97, _⟩ => ⟨S16384x1024, .f32⟩
  | .hbm, ⟨98, _⟩ => ⟨S16384x1024, .f32⟩
  | .hbm, ⟨99, _⟩ => ⟨S1x1024, .f32⟩
  | .hbm, ⟨100, _⟩ => ⟨S16384x1024, .f32⟩
  | .hbm, ⟨101, _⟩ => ⟨S16384x1024, .f32⟩
  | .hbm, ⟨102, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel3.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256x512 : Shape := ⟨2, ![256, 512]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S256x512, .f32⟩
  | .hbm, ⟨6, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference3Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x512, .f32⟩
  | .hbm, ⟨21, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelLaunch.lean ====
/- The compiled kernel's launch: every execution of the program ends, with its arguments unchanged and every semaphore at
   zero. What the kernel leaves in its output isn't named here. -/
module

public import proofs.«01_k».proof.Proof.Gen.Kernel.Frame.Runs
public import Idealize.ShloMosaic.Lib.Claim

@[expose] public section

set_option maxRecDepth 16384

noncomputable section

namespace Cert.FlashBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1080000 in
/-- The body's triple: on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x192 .f32) (harg2 : arg2.IsWhole) (arg3 : Memref sig .tc .vmem S1x16384x192 .bf16) (harg3 : arg3.IsWhole) (arg4 : Memref sig .tc .vmem S128x16384 .bf16) (harg4 : arg4.IsWhole) (arg5 : Memref sig .tc .vmem S2048x128 .bf16) (harg5 : arg5.IsWhole) (arg6 : Memref sig .tc .vmem S128x2048 .f32) (harg6 : arg6.IsWhole) (arg7 : Memref sig .tc .vmem S8x1024x256 .f32) (harg7 : arg7.IsWhole) (arg8 : Memref sig .tc .vmem S8x1024x256 .f32) (harg8 : arg8.IsWhole)
    (x0 : Vec F S1x2048x192 .f32) (x1 : Vec F S1x16384x192 .bf16) (x2 : Vec F S128x16384 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mla_flash_prompt i arg2 harg2 arg3 harg3 arg4 harg4 arg5 harg5 arg6 harg6 arg7 harg7 arg8 harg8) K := by
    intro E K
    simp only [cc0_mla_flash_prompt_eq_skeleton]; unfold cc0_mla_flash_prompt_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's arrays at the argument arrays: unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩⟩
  iapply ((kernelRun0_A c (grid0.coords t) _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FlashBits

end
-- ==== Proof.Online.lean ====
/- Softmax over a growing set of keys, on the extended reals: the running maximum, the running sum of weights and the
   running weighted sum, and what a further block of keys does to them. -/
module

public import Idealize.ShloMosaic.PureOps.Ideal.Laws

@[expose] public section

noncomputable section

namespace Cert.Flash

open Idealize.ShloMosaic

/-- A power of two is not negative. -/
theorem exp2_nonneg (x : EReal) : 0 ≤ Ideal.exp2 x := by
  induction x using EReal.rec with
  | bot => simp
  | top => simp
  | coe r => simp only [Ideal.exp2_coe]; exact EReal.coe_nonneg.mpr (Real.rpow_nonneg (by norm_num) r)

/-- The power of two of a difference `a - b` with `a ≤ b` is finite. -/
theorem exp2_sub_ne_top {a b : EReal} (h : a ≤ b) : Ideal.exp2 (a - b) ≠ ⊤ := by
  induction b using EReal.rec with
  | bot =>
    obtain rfl : a = ⊥ := le_bot_iff.mp h
    simp
  | top => simp [sub_eq_add_neg]
  | coe r =>
    induction a using EReal.rec with
    | bot => simp [sub_eq_add_neg]
    | top => exact absurd (top_le_iff.mp h) (EReal.coe_ne_top r)
    | coe q => rw [← EReal.coe_sub, Ideal.exp2_coe]; exact EReal.coe_ne_top _

/-- Moving the point of reference of a weight from `a` up to `b`. -/
theorem exp2_rescale {s a b : EReal} (h1 : s ≤ a) (h2 : a ≤ b) :
    Ideal.exp2 (a - b) * Ideal.exp2 (s - a) = Ideal.exp2 (s - b) := by
  induction b using EReal.rec with
  | bot =>
    obtain rfl : a = ⊥ := le_bot_iff.mp h2
    obtain rfl : s = ⊥ := le_bot_iff.mp h1
    simp
  | top => simp [sub_eq_add_neg]
  | coe r =>
    induction a using EReal.rec with
    | bot =>
      obtain rfl : s = ⊥ := le_bot_iff.mp h1
      simp [sub_eq_add_neg]
    | top => exact absurd (top_le_iff.mp h2) (EReal.coe_ne_top r)
    | coe q =>
      induction s using EReal.rec with
      | bot => simp [sub_eq_add_neg]
      | top => exact absurd (top_le_iff.mp h1) (EReal.coe_ne_top q)
      | coe p =>
        rw [← EReal.coe_sub, ← EReal.coe_sub, ← EReal.coe_sub]
        simp only [Ideal.exp2_coe]
        rw [← EReal.coe_mul]
        congr 1
        show (2 : ℝ) ^ (q - r) * (2 : ℝ) ^ (p - q) = (2 : ℝ) ^ (p - r)
        rw [← Real.rpow_add (by norm_num)]
        congr 1
        ring

/-- A nonnegative finite factor goes into a sum. -/
theorem mul_sum {ι : Type} (c : EReal) (h0 : 0 ≤ c) (ht : c ≠ ⊤) (S : Finset ι) (f : ι → EReal) :
    c * ∑ k ∈ S, f k = ∑ k ∈ S, c * f k := by
  classical
  induction S using Finset.induction_on with
  | empty => simp
  | insert a S ha ih =>
    rw [Finset.sum_insert ha, Finset.sum_insert ha, EReal.left_distrib_of_nonneg_of_ne_top h0 ht, ih]

/-- The largest score of the first `n` keys. -/
def mx (s : ℕ → EReal) (n : ℕ) : EReal := (Finset.range n).sup s

/-- The sum of the first `n` keys' weights, taken relative to their largest score. -/
def ls (s : ℕ → EReal) (n : ℕ) : EReal := ∑ k ∈ Finset.range n, Ideal.exp2 (s k - mx s n)

/-- The first `n` keys' values, weighted likewise. -/
def ac (s w : ℕ → EReal) (n : ℕ) : EReal := ∑ k ∈ Finset.range n, w k * Ideal.exp2 (s k - mx s n)

theorem mx_zero (s : ℕ → EReal) : mx s 0 = ⊥ := rfl
theorem ls_zero (s : ℕ → EReal) : ls s 0 = 0 := rfl
theorem ac_zero (s w : ℕ → EReal) : ac s w 0 = 0 := rfl

theorem le_mx (s : ℕ → EReal) {n k : ℕ} (h : k < n) : s k ≤ mx s n := Finset.le_sup (f := s) (Finset.mem_range.mpr h)

theorem mx_mono (s : ℕ → EReal) (n b : ℕ) : mx s n ≤ mx s (n + b) :=
  Finset.sup_mono (Finset.range_mono (Nat.le_add_right n b))

/-- The largest score after a further block. -/
theorem mx_add (s : ℕ → EReal) (n b : ℕ) (B : EReal) (hB : B = Finset.univ.sup fun j : Fin b => s (n + j.val)) :
    mx s (n + b) = max (mx s n) B := by
  subst hB
  apply le_antisymm
  · refine Finset.sup_le fun k hk => ?_
    rcases lt_or_ge k n with h | h
    · exact le_max_of_le_left (le_mx s h)
    · refine le_max_of_le_right ?_
      have hk' := Finset.mem_range.mp hk
      have := Finset.le_sup (f := fun j : Fin b => s (n + j.val)) (Finset.mem_univ ⟨k - n, by omega⟩)
      simpa [Nat.add_sub_cancel' h] using this
  · refine max_le (mx_mono s n b) (Finset.sup_le fun j _ => le_mx s (by have := j.isLt; omega))

/-- A sum over the first `n + b` keys, cut after the first `n`. -/
theorem sum_cut (f : ℕ → EReal) (n b : ℕ) :
    ∑ k ∈ Finset.range (n + b), f k = ∑ k ∈ Finset.range n, f k + ∑ j : Fin b, f (n + j.val) := by
  rw [Finset.sum_range_add, Finset.sum_range fun j => f (n + j)]

/-- The sum of weights after a further block. -/
theorem ls_add (s : ℕ → EReal) (n b : ℕ) :
    ls s (n + b) = Ideal.exp2 (mx s n - mx s (n + b)) * ls s n
      + ∑ j : Fin b, Ideal.exp2 (s (n + j.val) - mx s (n + b)) := by
  unfold ls
  rw [sum_cut, mul_sum _ (exp2_nonneg _) (exp2_sub_ne_top (mx_mono s n b))]
  congr 1
  exact Finset.sum_congr rfl fun k hk =>
    (exp2_rescale (le_mx s (Finset.mem_range.mp hk)) (mx_mono s n b)).symm

/-- The weighted values after a further block. -/
theorem ac_add (s w : ℕ → EReal) (n b : ℕ) :
    ac s w (n + b) = Ideal.exp2 (mx s n - mx s (n + b)) * ac s w n
      + ∑ j : Fin b, w (n + j.val) * Ideal.exp2 (s (n + j.val) - mx s (n + b)) := by
  unfold ac
  rw [sum_cut, mul_sum _ (exp2_nonneg _) (exp2_sub_ne_top (mx_mono s n b))]
  congr 1
  refine Finset.sum_congr rfl fun k hk => ?_
  rw [mul_left_comm, exp2_rescale (le_mx s (Finset.mem_range.mp hk)) (mx_mono s n b)]

/-- Only the scores of the first `n` keys count. -/
theorem mx_congr {s t : ℕ → EReal} {n : ℕ} (h : ∀ k < n, s k = t k) : mx s n = mx t n :=
  Finset.sup_congr rfl fun k hk => h k (Finset.mem_range.mp hk)

theorem ls_congr {s t : ℕ → EReal} {n : ℕ} (h : ∀ k < n, s k = t k) : ls s n = ls t n := by
  unfold ls
  rw [mx_congr h]
  exact Finset.sum_congr rfl fun k hk => by rw [h k (Finset.mem_range.mp hk)]

theorem ac_congr {s t : ℕ → EReal} (w : ℕ → EReal) {n : ℕ} (h : ∀ k < n, s k = t k) : ac s w n = ac t w n := by
  unfold ac
  rw [mx_congr h]
  exact Finset.sum_congr rfl fun k hk => by rw [h k (Finset.mem_range.mp hk)]

end Cert.Flash

end
-- ==== Proof.Step.lean ====
/- One block of keys entering the running softmax: the kernel's vector operations on a block's scores, and what they
   make of the three running quantities (largest score, sum of weights, weighted values). -/
module

public import proofs.«01_k».proof.Proof.Gen.KernelIdeal.Skeleton
public import proofs.«01_k».proof.Proof.Online
public import Idealize.ShloMosaic.Lib.Pipeline.ValueKit

@[expose] public section

set_option maxRecDepth 16384

noncomputable section

namespace Cert.Flash

open Cert.KernelIdeal Cert.KernelIdeal.Gen
open Idealize.ShloMosaic Idealize.ShloMosaic.TcCoe

/-- The three running quantities of 256 queries starting at `q0` after their first `n` keys: the largest score, the sum
    of weights, and per value component the weighted values. -/
structure St (s w : ℕ → ℕ → EReal) (q0 n : ℕ) (m l : FVec Ideal S1x256 .f32) (a : FVec Ideal S128x256 .f32) : Prop where
  hm : ∀ y : Fin 256, m (ix2 0 y) = mx (s (q0 + y.val)) n
  hl : ∀ y : Fin 256, l (ix2 0 y) = ls (s (q0 + y.val)) n
  ha : ∀ (v : Fin 128) (y : Fin 256), a (ix2 v y) = ac (s (q0 + y.val)) (w v.val) n

/-- The word 0xFF800000 is minus infinity. -/
theorem negInf : Ideal.ofBits FTy.f32 0xFF800000#32 = ⊥ := by simp [Ideal.ofBits, Ideal.ieee]

/-- A finite set's `fold max` from `⊥` is its supremum. -/
theorem fold_max_eq_sup {ι : Type} (f : ι → EReal) (S : Finset ι) : Finset.fold max ⊥ f S = S.sup f := rfl

/-- The largest score with a further block of 256 keys. -/
def nm256 (m : FVec Ideal S1x256 .f32) (s : FVec Ideal S256x256 .f32) : FVec Ideal S1x256 .f32 :=
  maximumf m (shapeCast S1x256 (multiReduction .maximumf [0] S256 s 0xFF800000#32 reduces_S256x256_S256 (.inl rfl) rfl) shapeCasts_S256_S1x256)

/-- The weights of a block of 256 keys. -/
def np256 (s : FVec Ideal S256x256 .f32) (m : FVec Ideal S1x256 .f32) : FVec Ideal S256x256 .f32 :=
  exp2 (subf s (broadcastTo S256x256 m broadcasts_S1x256_S256x256))

/-- The sum of weights with a further block of 256 keys. -/
def nl256 (al l : FVec Ideal S1x256 .f32) (p : FVec Ideal S256x256 .f32) : FVec Ideal S1x256 .f32 :=
  addf (mulf al l) (shapeCast S1x256 (multiReduction .add [0] S256 p 0x00000000#32 reduces_S256x256_S256 (.inl rfl) rfl) shapeCasts_S256_S1x256)

/-- The weighted values with a further block of 256 keys. -/
def na256 (vt : FVec Ideal S128x256 .bf16) (al : FVec Ideal S1x256 .f32) (a : FVec Ideal S128x256 .f32) (p : FVec Ideal S256x256 .f32) : FVec Ideal S128x256 .f32 :=
  shapeCast S128x256 (addf (mulf (broadcastTo S128x256 al broadcasts_S1x256_S128x256) a)
    (matmul dot_S128x256_S256x256_S128x256_1_0_0_1_n_n none vt (truncf .bf16 p bitsLt_bf16_f32) (constant S128x256 .f32 0x00000000#32))) shapeCasts_S128x256_S128x256

theorem nm256_apply (m : FVec Ideal S1x256 .f32) (s : FVec Ideal S256x256 .f32) (y : Fin 256) :
    nm256 m s (ix2 0 y) = max (m (ix2 0 y)) (Finset.univ.sup fun x : Fin 256 => s (ix2 x y)) := by
  pointwise [nm256]
  rw [negInf]
  rfl

theorem np256_apply (s : FVec Ideal S256x256 .f32) (m : FVec Ideal S1x256 .f32) (x : Fin 256) (y : Fin 256) :
    np256 s m (ix2 x y) = Ideal.exp2 (s (ix2 x y) - m (ix2 0 y)) := by
  pointwise [np256]
  rfl

theorem nl256_apply (al l : FVec Ideal S1x256 .f32) (p : FVec Ideal S256x256 .f32) (y : Fin 256) :
    nl256 al l p (ix2 0 y) = al (ix2 0 y) * l (ix2 0 y) + ∑ x : Fin 256, p (ix2 x y) := by
  pointwise [nl256]

theorem na256_apply (vt : FVec Ideal S128x256 .bf16) (al : FVec Ideal S1x256 .f32) (a : FVec Ideal S128x256 .f32) (p : FVec Ideal S256x256 .f32)
    (v : Fin 128) (y : Fin 256) :
    na256 vt al a p (ix2 v y) = al (ix2 0 y) * a (ix2 v y) + ∑ x : Fin 256, vt (ix2 v x) * p (ix2 x y) := by
  pointwise [na256]

/-- A block of 256 keys takes the running quantities after `n` keys to those after `n + 256`. -/
theorem step256 {s w : ℕ → ℕ → EReal} {q0 n : ℕ} {m l : FVec Ideal S1x256 .f32} {a : FVec Ideal S128x256 .f32} (h : St s w q0 n m l a)
    {S : FVec Ideal S256x256 .f32} {vt : FVec Ideal S128x256 .bf16}
    (hs : ∀ (x : Fin 256) (y : Fin 256), S (ix2 x y) = s (q0 + y.val) (n + x.val))
    (hw : ∀ (v : Fin 128) (x : Fin 256), vt (ix2 v x) = w v.val (n + x.val)) :
    St s w q0 (n + 256) (nm256 m S) (nl256 (exp2 (subf m (nm256 m S))) l (np256 S (nm256 m S)))
      (na256 vt (exp2 (subf m (nm256 m S))) a (np256 S (nm256 m S))) := by
  have hm : ∀ y : Fin 256, nm256 m S (ix2 0 y) = mx (s (q0 + y.val)) (n + 256) := fun y => by
    rw [nm256_apply, h.hm, mx_add _ n 256 _ rfl]
    simp only [hs]
  have hal : ∀ y : Fin 256, exp2 (subf m (nm256 m S)) (ix2 0 y) = Ideal.exp2 (mx (s (q0 + y.val)) n - mx (s (q0 + y.val)) (n + 256)) := fun y => by
    rw [← hm, ← h.hm]; rfl
  refine ⟨hm, fun y => ?_, fun v y => ?_⟩
  · rw [nl256_apply, hal, h.hl, ls_add]
    simp only [np256_apply, hm, hs]
  · rw [na256_apply, hal, h.ha, ac_add]
    simp only [np256_apply, hm, hs, hw]

/-- The largest score with a further block of 512 keys. -/
def nm512 (m : FVec Ideal S1x256 .f32) (s : FVec Ideal S512x256 .f32) : FVec Ideal S1x256 .f32 :=
  maximumf m (shapeCast S1x256 (multiReduction .maximumf [0] S256 s 0xFF800000#32 reduces_S512x256_S256 (.inl rfl) rfl) shapeCasts_S256_S1x256)

/-- The weights of a block of 512 keys. -/
def np512 (s : FVec Ideal S512x256 .f32) (m : FVec Ideal S1x256 .f32) : FVec Ideal S512x256 .f32 :=
  exp2 (subf s (broadcastTo S512x256 m broadcasts_S1x256_S512x256))

/-- The sum of weights with a further block of 512 keys. -/
def nl512 (al l : FVec Ideal S1x256 .f32) (p : FVec Ideal S512x256 .f32) : FVec Ideal S1x256 .f32 :=
  addf (mulf al l) (shapeCast S1x256 (multiReduction .add [0] S256 p 0x00000000#32 reduces_S512x256_S256 (.inl rfl) rfl) shapeCasts_S256_S1x256)

/-- The weighted values with a further block of 512 keys. -/
def na512 (vt : FVec Ideal S128x512 .bf16) (al : FVec Ideal S1x256 .f32) (a : FVec Ideal S128x256 .f32) (p : FVec Ideal S512x256 .f32) : FVec Ideal S128x256 .f32 :=
  shapeCast S128x256 (addf (mulf (broadcastTo S128x256 al broadcasts_S1x256_S128x256) a)
    (matmul dot_S128x512_S512x256_S128x256_1_0_0_1_n_n none vt (truncf .bf16 p bitsLt_bf16_f32) (constant S128x256 .f32 0x00000000#32))) shapeCasts_S128x256_S128x256

theorem nm512_apply (m : FVec Ideal S1x256 .f32) (s : FVec Ideal S512x256 .f32) (y : Fin 256) :
    nm512 m s (ix2 0 y) = max (m (ix2 0 y)) (Finset.univ.sup fun x : Fin 512 => s (ix2 x y)) := by
  pointwise [nm512]
  rw [negInf]
  rfl

theorem np512_apply (s : FVec Ideal S512x256 .f32) (m : FVec Ideal S1x256 .f32) (x : Fin 512) (y : Fin 256) :
    np512 s m (ix2 x y) = Ideal.exp2 (s (ix2 x y) - m (ix2 0 y)) := by
  pointwise [np512]
  rfl

theorem nl512_apply (al l : FVec Ideal S1x256 .f32) (p : FVec Ideal S512x256 .f32) (y : Fin 256) :
    nl512 al l p (ix2 0 y) = al (ix2 0 y) * l (ix2 0 y) + ∑ x : Fin 512, p (ix2 x y) := by
  pointwise [nl512]

theorem na512_apply (vt : FVec Ideal S128x512 .bf16) (al : FVec Ideal S1x256 .f32) (a : FVec Ideal S128x256 .f32) (p : FVec Ideal S512x256 .f32)
    (v : Fin 128) (y : Fin 256) :
    na512 vt al a p (ix2 v y) = al (ix2 0 y) * a (ix2 v y) + ∑ x : Fin 512, vt (ix2 v x) * p (ix2 x y) := by
  pointwise [na512]

/-- A block of 512 keys takes the running quantities after `n` keys to those after `n + 512`. -/
theorem step512 {s w : ℕ → ℕ → EReal} {q0 n : ℕ} {m l : FVec Ideal S1x256 .f32} {a : FVec Ideal S128x256 .f32} (h : St s w q0 n m l a)
    {S : FVec Ideal S512x256 .f32} {vt : FVec Ideal S128x512 .bf16}
    (hs : ∀ (x : Fin 512) (y : Fin 256), S (ix2 x y) = s (q0 + y.val) (n + x.val))
    (hw : ∀ (v : Fin 128) (x : Fin 512), vt (ix2 v x) = w v.val (n + x.val)) :
    St s w q0 (n + 512) (nm512 m S) (nl512 (exp2 (subf m (nm512 m S))) l (np512 S (nm512 m S)))
      (na512 vt (exp2 (subf m (nm512 m S))) a (np512 S (nm512 m S))) := by
  have hm : ∀ y : Fin 256, nm512 m S (ix2 0 y) = mx (s (q0 + y.val)) (n + 512) := fun y => by
    rw [nm512_apply, h.hm, mx_add _ n 512 _ rfl]
    simp only [hs]
  have hal : ∀ y : Fin 256, exp2 (subf m (nm512 m S)) (ix2 0 y) = Ideal.exp2 (mx (s (q0 + y.val)) n - mx (s (q0 + y.val)) (n + 512)) := fun y => by
    rw [← hm, ← h.hm]; rfl
  refine ⟨hm, fun y => ?_, fun v y => ?_⟩
  · rw [nl512_apply, hal, h.hl, ls_add]
    simp only [np512_apply, hm, hs]
  · rw [na512_apply, hal, h.ha, ac_add]
    simp only [np512_apply, hm, hs, hw]

/-- The largest score with a further block of 768 keys. -/
def nm768 (m : FVec Ideal S1x256 .f32) (s : FVec Ideal S768x256 .f32) : FVec Ideal S1x256 .f32 :=
  maximumf m (shapeCast S1x256 (multiReduction .maximumf [0] S256 s 0xFF800000#32 reduces_S768x256_S256 (.inl rfl) rfl) shapeCasts_S256_S1x256)

/-- The weights of a block of 768 keys. -/
def np768 (s : FVec Ideal S768x256 .f32) (m : FVec Ideal S1x256 .f32) : FVec Ideal S768x256 .f32 :=
  exp2 (subf s (broadcastTo S768x256 m broadcasts_S1x256_S768x256))

/-- The sum of weights with a further block of 768 keys. -/
def nl768 (al l : FVec Ideal S1x256 .f32) (p : FVec Ideal S768x256 .f32) : FVec Ideal S1x256 .f32 :=
  addf (mulf al l) (shapeCast S1x256 (multiReduction .add [0] S256 p 0x00000000#32 reduces_S768x256_S256 (.inl rfl) rfl) shapeCasts_S256_S1x256)

/-- The weighted values with a further block of 768 keys. -/
def na768 (vt : FVec Ideal S128x768 .bf16) (al : FVec Ideal S1x256 .f32) (a : FVec Ideal S128x256 .f32) (p : FVec Ideal S768x256 .f32) : FVec Ideal S128x256 .f32 :=
  shapeCast S128x256 (addf (mulf (broadcastTo S128x256 al broadcasts_S1x256_S128x256) a)
    (matmul dot_S128x768_S768x256_S128x256_1_0_0_1_n_n none vt (truncf .bf16 p bitsLt_bf16_f32) (constant S128x256 .f32 0x00000000#32))) shapeCasts_S128x256_S128x256

theorem nm768_apply (m : FVec Ideal S1x256 .f32) (s : FVec Ideal S768x256 .f32) (y : Fin 256) :
    nm768 m s (ix2 0 y) = max (m (ix2 0 y)) (Finset.univ.sup fun x : Fin 768 => s (ix2 x y)) := by
  pointwise [nm768]
  rw [negInf]
  rfl

theorem np768_apply (s : FVec Ideal S768x256 .f32) (m : FVec Ideal S1x256 .f32) (x : Fin 768) (y : Fin 256) :
    np768 s m (ix2 x y) = Ideal.exp2 (s (ix2 x y) - m (ix2 0 y)) := by
  pointwise [np768]
  rfl

theorem nl768_apply (al l : FVec Ideal S1x256 .f32) (p : FVec Ideal S768x256 .f32) (y : Fin 256) :
    nl768 al l p (ix2 0 y) = al (ix2 0 y) * l (ix2 0 y) + ∑ x : Fin 768, p (ix2 x y) := by
  pointwise [nl768]

theorem na768_apply (vt : FVec Ideal S128x768 .bf16) (al : FVec Ideal S1x256 .f32) (a : FVec Ideal S128x256 .f32) (p : FVec Ideal S768x256 .f32)
    (v : Fin 128) (y : Fin 256) :
    na768 vt al a p (ix2 v y) = al (ix2 0 y) * a (ix2 v y) + ∑ x : Fin 768, vt (ix2 v x) * p (ix2 x y) := by
  pointwise [na768]

/-- A block of 768 keys takes the running quantities after `n` keys to those after `n + 768`. -/
theorem step768 {s w : ℕ → ℕ → EReal} {q0 n : ℕ} {m l : FVec Ideal S1x256 .f32} {a : FVec Ideal S128x256 .f32} (h : St s w q0 n m l a)
    {S : FVec Ideal S768x256 .f32} {vt : FVec Ideal S128x768 .bf16}
    (hs : ∀ (x : Fin 768) (y : Fin 256), S (ix2 x y) = s (q0 + y.val) (n + x.val))
    (hw : ∀ (v : Fin 128) (x : Fin 768), vt (ix2 v x) = w v.val (n + x.val)) :
    St s w q0 (n + 768) (nm768 m S) (nl768 (exp2 (subf m (nm768 m S))) l (np768 S (nm768 m S)))
      (na768 vt (exp2 (subf m (nm768 m S))) a (np768 S (nm768 m S))) := by
  have hm : ∀ y : Fin 256, nm768 m S (ix2 0 y) = mx (s (q0 + y.val)) (n + 768) := fun y => by
    rw [nm768_apply, h.hm, mx_add _ n 768 _ rfl]
    simp only [hs]
  have hal : ∀ y : Fin 256, exp2 (subf m (nm768 m S)) (ix2 0 y) = Ideal.exp2 (mx (s (q0 + y.val)) n - mx (s (q0 + y.val)) (n + 768)) := fun y => by
    rw [← hm, ← h.hm]; rfl
  refine ⟨hm, fun y => ?_, fun v y => ?_⟩
  · rw [nl768_apply, hal, h.hl, ls_add]
    simp only [np768_apply, hm, hs]
  · rw [na768_apply, hal, h.ha, ac_add]
    simp only [np768_apply, hm, hs, hw]

/-- The largest score with a further block of 1024 keys. -/
def nm1024 (m : FVec Ideal S1x256 .f32) (s : FVec Ideal S1024x256 .f32) : FVec Ideal S1x256 .f32 :=
  maximumf m (shapeCast S1x256 (multiReduction .maximumf [0] S256 s 0xFF800000#32 reduces_S1024x256_S256 (.inl rfl) rfl) shapeCasts_S256_S1x256)

/-- The weights of a block of 1024 keys. -/
def np1024 (s : FVec Ideal S1024x256 .f32) (m : FVec Ideal S1x256 .f32) : FVec Ideal S1024x256 .f32 :=
  exp2 (subf s (broadcastTo S1024x256 m broadcasts_S1x256_S1024x256))

/-- The sum of weights with a further block of 1024 keys. -/
def nl1024 (al l : FVec Ideal S1x256 .f32) (p : FVec Ideal S1024x256 .f32) : FVec Ideal S1x256 .f32 :=
  addf (mulf al l) (shapeCast S1x256 (multiReduction .add [0] S256 p 0x00000000#32 reduces_S1024x256_S256 (.inl rfl) rfl) shapeCasts_S256_S1x256)

/-- The weighted values with a further block of 1024 keys. -/
def na1024 (vt : FVec Ideal S128x1024 .bf16) (al : FVec Ideal S1x256 .f32) (a : FVec Ideal S128x256 .f32) (p : FVec Ideal S1024x256 .f32) : FVec Ideal S128x256 .f32 :=
  shapeCast S128x256 (addf (mulf (broadcastTo S128x256 al broadcasts_S1x256_S128x256) a)
    (matmul dot_S128x1024_S1024x256_S128x256_1_0_0_1_n_n none vt (truncf .bf16 p bitsLt_bf16_f32) (constant S128x256 .f32 0x00000000#32))) shapeCasts_S128x256_S128x256

theorem nm1024_apply (m : FVec Ideal S1x256 .f32) (s : FVec Ideal S1024x256 .f32) (y : Fin 256) :
    nm1024 m s (ix2 0 y) = max (m (ix2 0 y)) (Finset.univ.sup fun x : Fin 1024 => s (ix2 x y)) := by
  pointwise [nm1024]
  rw [negInf]
  rfl

theorem np1024_apply (s : FVec Ideal S1024x256 .f32) (m : FVec Ideal S1x256 .f32) (x : Fin 1024) (y : Fin 256) :
    np1024 s m (ix2 x y) = Ideal.exp2 (s (ix2 x y) - m (ix2 0 y)) := by
  pointwise [np1024]
  rfl

theorem nl1024_apply (al l : FVec Ideal S1x256 .f32) (p : FVec Ideal S1024x256 .f32) (y : Fin 256) :
    nl1024 al l p (ix2 0 y) = al (ix2 0 y) * l (ix2 0 y) + ∑ x : Fin 1024, p (ix2 x y) := by
  pointwise [nl1024]

theorem na1024_apply (vt : FVec Ideal S128x1024 .bf16) (al : FVec Ideal S1x256 .f32) (a : FVec Ideal S128x256 .f32) (p : FVec Ideal S1024x256 .f32)
    (v : Fin 128) (y : Fin 256) :
    na1024 vt al a p (ix2 v y) = al (ix2 0 y) * a (ix2 v y) + ∑ x : Fin 1024, vt (ix2 v x) * p (ix2 x y) := by
  pointwise [na1024]

/-- A block of 1024 keys takes the running quantities after `n` keys to those after `n + 1024`. -/
theorem step1024 {s w : ℕ → ℕ → EReal} {q0 n : ℕ} {m l : FVec Ideal S1x256 .f32} {a : FVec Ideal S128x256 .f32} (h : St s w q0 n m l a)
    {S : FVec Ideal S1024x256 .f32} {vt : FVec Ideal S128x1024 .bf16}
    (hs : ∀ (x : Fin 1024) (y : Fin 256), S (ix2 x y) = s (q0 + y.val) (n + x.val))
    (hw : ∀ (v : Fin 128) (x : Fin 1024), vt (ix2 v x) = w v.val (n + x.val)) :
    St s w q0 (n + 1024) (nm1024 m S) (nl1024 (exp2 (subf m (nm1024 m S))) l (np1024 S (nm1024 m S)))
      (na1024 vt (exp2 (subf m (nm1024 m S))) a (np1024 S (nm1024 m S))) := by
  have hm : ∀ y : Fin 256, nm1024 m S (ix2 0 y) = mx (s (q0 + y.val)) (n + 1024) := fun y => by
    rw [nm1024_apply, h.hm, mx_add _ n 1024 _ rfl]
    simp only [hs]
  have hal : ∀ y : Fin 256, exp2 (subf m (nm1024 m S)) (ix2 0 y) = Ideal.exp2 (mx (s (q0 + y.val)) n - mx (s (q0 + y.val)) (n + 1024)) := fun y => by
    rw [← hm, ← h.hm]; rfl
  refine ⟨hm, fun y => ?_, fun v y => ?_⟩
  · rw [nl1024_apply, hal, h.hl, ls_add]
    simp only [np1024_apply, hm, hs]
  · rw [na1024_apply, hal, h.ha, ac_add]
    simp only [np1024_apply, hm, hs, hw]

end Cert.Flash

end
-- ==== Proof.Mem.lean ====
/- Reading the kernel's buffers: its blocks of keys and values, and the scratch buffers that hold scores (a slab per
   group of 256 queries) and weighted values (a band of 256 columns per group), after the stores made into them. -/
module

public import proofs.«01_k».proof.Proof.Step
public import Idealize.ShloMosaic.Lib.WritesUnit

@[expose] public section

set_option maxRecDepth 16384

noncomputable section

namespace Cert.Flash

open Cert.KernelIdeal Cert.KernelIdeal.Gen
open Idealize.ShloMosaic Idealize.ShloMosaic.TcCoe

/-- Column `y` of group `c`. -/
def colIx (c : Fin 8) (y : Fin 256) : Fin 2048 := ⟨256 * c.val + y.val, by omega⟩

/-- The scores of query `q` against key `k`. -/
def sc (Q : FVec Ideal S2048x192 .bf16) (K : Vec Ideal S1x16384x192 .bf16) (q k : ℕ) : EReal :=
  if h : q < 2048 ∧ k < 16384 then ∑ d : Fin 192, K (ix3 0 ⟨k, h.2⟩ d) * Q (ix2 ⟨q, h.1⟩ d) else ⊥

/-- Component `v` of key `k`'s value. -/
def wv (W : Vec Ideal S128x16384 .bf16) (v k : ℕ) : EReal :=
  if h : v < 128 ∧ k < 16384 then W (ix2 ⟨v, h.1⟩ ⟨k, h.2⟩) else 0

/-- Group `c`'s band of the weighted values. -/
def band (arg6 : Memref sig .tc .vmem S128x2048 .f32) (f : BufTy.Contents (Elt Ideal) arg6.view.ty) (c : Fin 8) : FVec Ideal S128x256 .f32 :=
  fun j => arg6.view.read (Elt Ideal) f (ix2 (j 0) (colIx c (j 1)))

/-- Group `c`'s slab of the scores. -/
def slab (arg7 : Memref sig .tc .vmem S8x1024x256 .f32) (f : BufTy.Contents (Elt Ideal) arg7.view.ty) (c : Fin 8) : FVec Ideal S1024x256 .f32 :=
  fun j => arg7.view.read (Elt Ideal) f (ix3 c (j 0) (j 1))

section
variable (arg6 : Memref sig .tc .vmem S128x2048 .f32) (f : BufTy.Contents (Elt Ideal) arg6.view.ty)

theorem band_load (c : Fin 8) {o : ℕ} (ho : o = 256 * c.val) (inb) :
    View.readAt (Elt Ideal) arg6.view (Rect.unit (s := S128x2048) ![0, o] S128x256.size inb).toLoadRect f = band arg6 f c := by
  subst ho
  funext j
  rw [View.readAt_apply]
  unfold band
  congr 1
  funext a
  apply Fin.ext
  fin_cases a
  · show 0 + 1 * (j 0).val = (j 0).val
    omega
  · show 256 * c.val + 1 * (j 1).val = 256 * c.val + (j 1).val
    omega

theorem band_hit (c : Fin 8) {o : ℕ} (ho : o = 256 * c.val) (inb) (w : FVec Ideal S128x256 .f32) (L : List (View.Piece (Elt Ideal) S128x2048 .f32)) :
    band arg6 (arg6.view.writes (Elt Ideal) f (⟨Rect.unit (s := S128x2048) ![0, o] S128x256.size inb, w⟩ :: L)) c = w := by
  subst ho
  funext j
  exact View.read_writes_cons_unit_of_mem arg6.view f inb w L _ j rfl (by
    intro a
    fin_cases a
    · show (j 0).val = 0 + (j 0).val
      omega
    · rfl)

theorem band_miss (c : Fin 8) {o : ℕ} (ho : o + 256 ≤ 256 * c.val ∨ 256 * c.val + 256 ≤ o) (inb) (w : FVec Ideal S128x256 .f32) (L : List (View.Piece (Elt Ideal) S128x2048 .f32)) :
    band arg6 (arg6.view.writes (Elt Ideal) f (⟨Rect.unit (s := S128x2048) ![0, o] S128x256.size inb, w⟩ :: L)) c = band arg6 (arg6.view.writes (Elt Ideal) f L) c := by
  funext j
  refine View.read_writes_cons_unit_of_not_mem arg6.view f inb w L _ rfl 1 ?_
  have := (j 1).isLt
  show 256 * c.val + (j 1).val < o ∨ o + 256 ≤ 256 * c.val + (j 1).val
  have h256 : (j 1).val < 256 := (j 1).isLt
  omega

end

section
variable (arg7 : Memref sig .tc .vmem S8x1024x256 .f32) (f : BufTy.Contents (Elt Ideal) arg7.view.ty)

theorem slab_hit (c : Fin 8) {o : ℕ} (ho : o = c.val) (inb) (w : FVec Ideal S1x1024x256 .f32) (L : List (View.Piece (Elt Ideal) S8x1024x256 .f32))
    (x : Fin 1024) (y : Fin 256) :
    slab arg7 (arg7.view.writes (Elt Ideal) f (⟨Rect.unit (s := S8x1024x256) ![o, 0, 0] S1x1024x256.size inb, w⟩ :: L)) c (ix2 x y) = w (ix3 0 x y) := by
  subst ho
  exact View.read_writes_cons_unit_of_mem arg7.view f inb w L _ (ix3 0 x y) rfl (by
    intro a
    fin_cases a
    · rfl
    · show x.val = 0 + x.val
      omega
    · show y.val = 0 + y.val
      omega)

theorem slab_miss {n : ℕ} (c : Fin 8) {o : ℕ} (ho : o ≠ c.val) (inb) (w : FVec Ideal ⟨3, ![1, n, 256]⟩ .f32) (L : List (View.Piece (Elt Ideal) S8x1024x256 .f32))
    (x : Fin 1024) (y : Fin 256) :
    slab arg7 (arg7.view.writes (Elt Ideal) f (⟨Rect.unit (s := S8x1024x256) ![o, 0, 0] ![1, n, 256] inb, w⟩ :: L)) c (ix2 x y) = slab arg7 (arg7.view.writes (Elt Ideal) f L) c (ix2 x y) := by
  refine View.read_writes_cons_unit_of_not_mem arg7.view f inb w L _ rfl 0 ?_
  show c.val < o ∨ o + 1 ≤ c.val
  omega

theorem slab_load256 (c : Fin 8) {o : ℕ} (ho : o = c.val) (inb) (h) (x : Fin 256) (y : Fin 256) :
    shapeCast S256x256 (View.readAt (Elt Ideal) arg7.view (Rect.unit (s := S8x1024x256) ![o, 0, 0] S1x256x256.size inb).toLoadRect f) h (ix2 x y)
      = slab arg7 f c (ix2 ⟨x.val, by omega⟩ y) := by
  subst ho
  refine (shapeCast_dropUnit_apply ![256, 256] _ h (ix2 x y)).trans ?_
  rw [View.readAt_apply]
  unfold slab
  congr 1
  funext a
  apply Fin.ext
  fin_cases a
  · show c.val + 1 * 0 = c.val
    omega
  · show 0 + 1 * x.val = x.val
    omega
  · show 0 + 1 * y.val = y.val
    omega

theorem slab_load512 (c : Fin 8) {o : ℕ} (ho : o = c.val) (inb) (h) (x : Fin 512) (y : Fin 256) :
    shapeCast S512x256 (View.readAt (Elt Ideal) arg7.view (Rect.unit (s := S8x1024x256) ![o, 0, 0] S1x512x256.size inb).toLoadRect f) h (ix2 x y)
      = slab arg7 f c (ix2 ⟨x.val, by omega⟩ y) := by
  subst ho
  refine (shapeCast_dropUnit_apply ![512, 256] _ h (ix2 x y)).trans ?_
  rw [View.readAt_apply]
  unfold slab
  congr 1
  funext a
  apply Fin.ext
  fin_cases a
  · show c.val + 1 * 0 = c.val
    omega
  · show 0 + 1 * x.val = x.val
    omega
  · show 0 + 1 * y.val = y.val
    omega

theorem slab_load768 (c : Fin 8) {o : ℕ} (ho : o = c.val) (inb) (h) (x : Fin 768) (y : Fin 256) :
    shapeCast S768x256 (View.readAt (Elt Ideal) arg7.view (Rect.unit (s := S8x1024x256) ![o, 0, 0] S1x768x256.size inb).toLoadRect f) h (ix2 x y)
      = slab arg7 f c (ix2 ⟨x.val, by omega⟩ y) := by
  subst ho
  refine (shapeCast_dropUnit_apply ![768, 256] _ h (ix2 x y)).trans ?_
  rw [View.readAt_apply]
  unfold slab
  congr 1
  funext a
  apply Fin.ext
  fin_cases a
  · show c.val + 1 * 0 = c.val
    omega
  · show 0 + 1 * x.val = x.val
    omega
  · show 0 + 1 * y.val = y.val
    omega

theorem slab_load1024 (c : Fin 8) {o : ℕ} (ho : o = c.val) (inb) (h) (x : Fin 1024) (y : Fin 256) :
    shapeCast S1024x256 (View.readAt (Elt Ideal) arg7.view (Rect.unit (s := S8x1024x256) ![o, 0, 0] S1x1024x256.size inb).toLoadRect f) h (ix2 x y)
      = slab arg7 f c (ix2 ⟨x.val, by omega⟩ y) := by
  subst ho
  refine (shapeCast_dropUnit_apply ![1024, 256] _ h (ix2 x y)).trans ?_
  rw [View.readAt_apply]
  unfold slab
  congr 1
  funext a
  apply Fin.ext
  fin_cases a
  · show c.val + 1 * 0 = c.val
    omega
  · show 0 + 1 * x.val = x.val
    omega
  · show 0 + 1 * y.val = y.val
    omega

theorem slab_hit256 (c : Fin 8) {o : ℕ} (ho : o = c.val) (inb) (w : FVec Ideal S1x256x256 .f32) (L : List (View.Piece (Elt Ideal) S8x1024x256 .f32))
    (x : Fin 256) (y : Fin 256) :
    slab arg7 (arg7.view.writes (Elt Ideal) f (⟨Rect.unit (s := S8x1024x256) ![o, 0, 0] S1x256x256.size inb, w⟩ :: L)) c (ix2 ⟨x.val, by omega⟩ y) = w (ix3 0 x y) := by
  subst ho
  exact View.read_writes_cons_unit_of_mem arg7.view f inb w L _ (ix3 0 x y) rfl (by
    intro a
    fin_cases a
    · rfl
    · show x.val = 0 + x.val
      omega
    · show y.val = 0 + y.val
      omega)

theorem slab_hit512 (c : Fin 8) {o : ℕ} (ho : o = c.val) (inb) (w : FVec Ideal S1x512x256 .f32) (L : List (View.Piece (Elt Ideal) S8x1024x256 .f32))
    (x : Fin 512) (y : Fin 256) :
    slab arg7 (arg7.view.writes (Elt Ideal) f (⟨Rect.unit (s := S8x1024x256) ![o, 0, 0] S1x512x256.size inb, w⟩ :: L)) c (ix2 ⟨x.val, by omega⟩ y) = w (ix3 0 x y) := by
  subst ho
  exact View.read_writes_cons_unit_of_mem arg7.view f inb w L _ (ix3 0 x y) rfl (by
    intro a
    fin_cases a
    · rfl
    · show x.val = 0 + x.val
      omega
    · show y.val = 0 + y.val
      omega)

theorem slab_hit768 (c : Fin 8) {o : ℕ} (ho : o = c.val) (inb) (w : FVec Ideal S1x768x256 .f32) (L : List (View.Piece (Elt Ideal) S8x1024x256 .f32))
    (x : Fin 768) (y : Fin 256) :
    slab arg7 (arg7.view.writes (Elt Ideal) f (⟨Rect.unit (s := S8x1024x256) ![o, 0, 0] S1x768x256.size inb, w⟩ :: L)) c (ix2 ⟨x.val, by omega⟩ y) = w (ix3 0 x y) := by
  subst ho
  exact View.read_writes_cons_unit_of_mem arg7.view f inb w L _ (ix3 0 x y) rfl (by
    intro a
    fin_cases a
    · rfl
    · show x.val = 0 + x.val
      omega
    · show y.val = 0 + y.val
      omega)

end

end Cert.Flash

end
-- ==== Proof.Fill.lean ====
/- Blocks of scores, keys and values read at an index, and the offsets of those blocks as numbers. -/
module

public import proofs.«01_k».proof.Proof.Mem

@[expose] public section

set_option maxRecDepth 16384

noncomputable section

namespace Cert.Flash

open Cert.KernelIdeal Cert.KernelIdeal.Gen
open Idealize.ShloMosaic Idealize.ShloMosaic.TcCoe

/-- The loop over pairs of key blocks makes as many trips as there are query blocks before this one. -/
theorem trips1 : ∀ i : grid0.Coords, (k0_t1_loop i).trips = (i 1).val := by decide +kernel
/-- The second half of that loop, for an odd remainder, makes none. -/
theorem trips2 : ∀ i : grid0.Coords, (k0_t2_loop i).trips = 0 := by decide +kernel
theorem off1a : ∀ (i : grid0.Coords) (k : Fin (k0_t1_loop i).trips), k0_off1 i k 1#32 = ![0, 2048 * k.val + 1024, 0] := by decide +kernel
theorem off1b : ∀ (i : grid0.Coords) (k : Fin (k0_t1_loop i).trips), k0_off1 i k 2#32 = ![0, 2048 * k.val + 2048, 0] := by decide +kernel
theorem off2 : ∀ (i : grid0.Coords) (k : Fin (k0_t1_loop i).trips), k0_off2 i k = ![0, 2048 * k.val] := by decide +kernel
theorem off3 : ∀ (i : grid0.Coords) (k : Fin (k0_t1_loop i).trips), k0_off3 i k = ![0, 2048 * k.val + 1024] := by decide +kernel
theorem off7 : ∀ i : grid0.Coords, k0_off7 i = ![0, 2048 * (i 1).val + 1024, 0] := by decide +kernel
theorem off8a : ∀ i : grid0.Coords, k0_off8 i 0#32 = ![0, 2048 * (i 1).val] := by decide +kernel
theorem off8b : ∀ i : grid0.Coords, k0_off8 i 1#32 = ![0, 2048 * (i 1).val + 1024] := by decide +kernel

/-- A block of keys, read at an index. -/
theorem kblock (arg3 : Memref sig .tc .vmem S1x16384x192 .bf16) (harg3 : arg3.IsWhole) (x1 : Vec Ideal S1x16384x192 .bf16)
    {off : Fin 3 → ℕ} {n : ℕ} (ho : off = ![0, n, 0]) (hn : n + 1024 ≤ 16384) (inb) (h) (x : Fin 1024) (d : Fin 192) :
    shapeCast S1024x192 (View.readAt (Elt Ideal) arg3.view (Rect.unit (s := S1x16384x192) off S1x1024x192.size inb).toLoadRect (harg3.unread x1)) h (ix2 x d)
      = x1 (ix3 0 ⟨n + x.val, by omega⟩ d) := by
  subst ho
  refine (shapeCast_dropUnit_apply ![1024, 192] _ h (ix2 x d)).trans ?_
  rw [View.readAt_apply, harg3.read_unread]
  congr 1
  funext a
  apply Fin.ext
  fin_cases a
  · show 0 + 1 * 0 = 0
    omega
  · show n + 1 * x.val = n + x.val
    omega
  · show 0 + 1 * d.val = d.val
    omega

/-- A block of values, read at an index. -/
theorem vblock (arg4 : Memref sig .tc .vmem S128x16384 .bf16) (harg4 : arg4.IsWhole) (x2 : Vec Ideal S128x16384 .bf16)
    {off : Fin 2 → ℕ} {n : ℕ} (ho : off = ![0, n]) (hn : n + 1024 ≤ 16384) (inb) (h) (v : Fin 128) (x : Fin 1024) :
    shapeCast S128x1024 (View.readAt (Elt Ideal) arg4.view (Rect.unit (s := S128x16384) off S128x1024.size inb).toLoadRect (harg4.unread x2)) h (ix2 v x)
      = wv x2 v.val (n + x.val) := by
  subst ho
  refine (congrFun (shapeCast_self (s := S128x1024) _ h) (ix2 v x)).trans ?_
  rw [View.readAt_apply, harg4.read_unread, wv, dif_pos ⟨v.isLt, by omega⟩]
  congr 1
  funext a
  apply Fin.ext
  fin_cases a
  · show 0 + 1 * v.val = v.val
    omega
  · show n + 1 * x.val = n + x.val
    omega

/-- The scores of 1024 keys against one group of queries, as a slab. -/
theorem fill1024 (kb : FVec Ideal S1024x192 .bf16) (Q : FVec Ideal S2048x192 .bf16) {o c : ℕ} (ho : o = 256 * c) (hc : c < 8) (h) (h') (x1 : Vec Ideal S1x16384x192 .bf16) (N : ℕ) (hN : N + 1024 ≤ 16384)
    (hk : ∀ (x : Fin 1024) (d : Fin 192), kb (ix2 x d) = x1 (ix3 0 ⟨N + x.val, by omega⟩ d)) (x : Fin 1024) (y : Fin 256) :
    shapeCast S1x1024x256 (matmul dot_S1024x192_S256x192_S1024x256_1_1_0_0_n_n none kb (extractStridedSlice S256x192 ![o, 0] Q h) (constant S1024x256 .f32 0x00000000#32)) h' (ix3 0 x y)
      = sc Q x1 (256 * c + y.val) (N + x.val) := by
  subst ho
  refine (shapeCast_addUnit_apply ![1024, 256] _ h' (ix3 0 x y)).trans ?_
  have e : (fun a : Fin 2 => (ix3 (0 : Fin 1) x y : S1x1024x256.Idx) a.succ) = (ix2 x y : S1024x256.Idx) := by
    funext a
    fin_cases a <;> rfl
  refine (congrArg _ e).trans ?_
  rw [sc, dif_pos ⟨by omega, by omega⟩]
  refine Eq.trans (b := ∑ d : Fin 192, kb (ix2 x d) * Q (ix2 ⟨256 * c + y.val, by omega⟩ d)) (by pointwise) ?_
  exact Finset.sum_congr rfl fun d _ => by rw [hk x d]

/-- The scores of 768 keys against one group of queries, as a slab. -/
theorem fill768 (kb : FVec Ideal S768x192 .bf16) (Q : FVec Ideal S2048x192 .bf16) {o c : ℕ} (ho : o = 256 * c) (hc : c < 8) (h) (h') (x1 : Vec Ideal S1x16384x192 .bf16) (N : ℕ) (hN : N + 768 ≤ 16384)
    (hk : ∀ (x : Fin 768) (d : Fin 192), kb (ix2 x d) = x1 (ix3 0 ⟨N + x.val, by omega⟩ d)) (x : Fin 768) (y : Fin 256) :
    shapeCast S1x768x256 (matmul dot_S768x192_S256x192_S768x256_1_1_0_0_n_n none kb (extractStridedSlice S256x192 ![o, 0] Q h) (constant S768x256 .f32 0x00000000#32)) h' (ix3 0 x y)
      = sc Q x1 (256 * c + y.val) (N + x.val) := by
  subst ho
  refine (shapeCast_addUnit_apply ![768, 256] _ h' (ix3 0 x y)).trans ?_
  have e : (fun a : Fin 2 => (ix3 (0 : Fin 1) x y : S1x768x256.Idx) a.succ) = (ix2 x y : S768x256.Idx) := by
    funext a
    fin_cases a <;> rfl
  refine (congrArg _ e).trans ?_
  rw [sc, dif_pos ⟨by omega, by omega⟩]
  refine Eq.trans (b := ∑ d : Fin 192, kb (ix2 x d) * Q (ix2 ⟨256 * c + y.val, by omega⟩ d)) (by pointwise) ?_
  exact Finset.sum_congr rfl fun d _ => by rw [hk x d]

/-- The scores of 512 keys against one group of queries, as a slab. -/
theorem fill512 (kb : FVec Ideal S512x192 .bf16) (Q : FVec Ideal S2048x192 .bf16) {o c : ℕ} (ho : o = 256 * c) (hc : c < 8) (h) (h') (x1 : Vec Ideal S1x16384x192 .bf16) (N : ℕ) (hN : N + 512 ≤ 16384)
    (hk : ∀ (x : Fin 512) (d : Fin 192), kb (ix2 x d) = x1 (ix3 0 ⟨N + x.val, by omega⟩ d)) (x : Fin 512) (y : Fin 256) :
    shapeCast S1x512x256 (matmul dot_S512x192_S256x192_S512x256_1_1_0_0_n_n none kb (extractStridedSlice S256x192 ![o, 0] Q h) (constant S512x256 .f32 0x00000000#32)) h' (ix3 0 x y)
      = sc Q x1 (256 * c + y.val) (N + x.val) := by
  subst ho
  refine (shapeCast_addUnit_apply ![512, 256] _ h' (ix3 0 x y)).trans ?_
  have e : (fun a : Fin 2 => (ix3 (0 : Fin 1) x y : S1x512x256.Idx) a.succ) = (ix2 x y : S512x256.Idx) := by
    funext a
    fin_cases a <;> rfl
  refine (congrArg _ e).trans ?_
  rw [sc, dif_pos ⟨by omega, by omega⟩]
  refine Eq.trans (b := ∑ d : Fin 192, kb (ix2 x d) * Q (ix2 ⟨256 * c + y.val, by omega⟩ d)) (by pointwise) ?_
  exact Finset.sum_congr rfl fun d _ => by rw [hk x d]

/-- The scores of 256 keys against one group of queries, as a slab. -/
theorem fill256 (kb : FVec Ideal S256x192 .bf16) (Q : FVec Ideal S2048x192 .bf16) {o c : ℕ} (ho : o = 256 * c) (hc : c < 8) (h) (h') (x1 : Vec Ideal S1x16384x192 .bf16) (N : ℕ) (hN : N + 256 ≤ 16384)
    (hk : ∀ (x : Fin 256) (d : Fin 192), kb (ix2 x d) = x1 (ix3 0 ⟨N + x.val, by omega⟩ d)) (x : Fin 256) (y : Fin 256) :
    shapeCast S1x256x256 (matmul dot_S256x192_S256x192_S256x256_1_1_0_0_n_n none kb (extractStridedSlice S256x192 ![o, 0] Q h) (constant S256x256 .f32 0x00000000#32)) h' (ix3 0 x y)
      = sc Q x1 (256 * c + y.val) (N + x.val) := by
  subst ho
  refine (shapeCast_addUnit_apply ![256, 256] _ h' (ix3 0 x y)).trans ?_
  have e : (fun a : Fin 2 => (ix3 (0 : Fin 1) x y : S1x256x256.Idx) a.succ) = (ix2 x y : S256x256.Idx) := by
    funext a
    fin_cases a <;> rfl
  refine (congrArg _ e).trans ?_
  rw [sc, dif_pos ⟨by omega, by omega⟩]
  refine Eq.trans (b := ∑ d : Fin 192, kb (ix2 x d) * Q (ix2 ⟨256 * c + y.val, by omega⟩ d)) (by pointwise) ?_
  exact Finset.sum_congr rfl fun d _ => by rw [hk x d]

end Cert.Flash

end
-- ==== Proof.Loop.lean ====
/- The loop over pairs of blocks of 1024 keys: each trip takes each group's running maximum, sum and weighted values from
   the first `2048 k` keys to the first `2048 (k + 1)`, and leaves the next block's scores in the scratch slabs. -/
module

public import proofs.«01_k».proof.Proof.Fill
public import proofs.«01_k».proof.Proof.Gen.KernelIdeal.Loops

@[expose] public section

set_option maxRecDepth 16384

noncomputable section

namespace Cert.Flash

open Cert.KernelIdeal Cert.KernelIdeal.Gen
open Idealize.ShloMosaic Idealize.ShloMosaic.TcCoe

/-- What the loop carries: each group's running maximum and sum. -/
abbrev Carry : Type := FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32

/-- What holds between trips, with the keys before `N` taken: `A` the bands of weighted values, `T` the slabs of scores. -/
structure Ok (s w : ℕ → ℕ → EReal) (N : ℕ) (acc : Carry) (A : Fin 8 → FVec Ideal S128x256 .f32) (T : Fin 8 → FVec Ideal S1024x256 .f32) : Prop where
  h0 : St s w (256 * 0) N acc.1 acc.2.1 (A 0)
  h1 : St s w (256 * 1) N acc.2.2.1 acc.2.2.2.1 (A 1)
  h2 : St s w (256 * 2) N acc.2.2.2.2.1 acc.2.2.2.2.2.1 (A 2)
  h3 : St s w (256 * 3) N acc.2.2.2.2.2.2.1 acc.2.2.2.2.2.2.2.1 (A 3)
  h4 : St s w (256 * 4) N acc.2.2.2.2.2.2.2.2.1 acc.2.2.2.2.2.2.2.2.2.1 (A 4)
  h5 : St s w (256 * 5) N acc.2.2.2.2.2.2.2.2.2.2.1 acc.2.2.2.2.2.2.2.2.2.2.2.1 (A 5)
  h6 : St s w (256 * 6) N acc.2.2.2.2.2.2.2.2.2.2.2.2.1 acc.2.2.2.2.2.2.2.2.2.2.2.2.2.1 (A 6)
  h7 : St s w (256 * 7) N acc.2.2.2.2.2.2.2.2.2.2.2.2.2.2.1 acc.2.2.2.2.2.2.2.2.2.2.2.2.2.2.2 (A 7)
  hT : ∀ (c : Fin 8) (x : Fin 1024) (y : Fin 256), T c (ix2 x y) = s (256 * c.val + y.val) (N + x.val)

theorem St.load {s w : ℕ → ℕ → EReal} {q0 n : ℕ} {m l : FVec Ideal S1x256 .f32} {arg6 : Memref sig .tc .vmem S128x2048 .f32} {f : BufTy.Contents (Elt Ideal) arg6.view.ty}
    (c : Fin 8) (h : St s w q0 n m l (band arg6 f c)) {o : ℕ} (ho : o = 256 * c.val) (inb) :
    St s w q0 n m l (View.readAt (Elt Ideal) arg6.view (Rect.unit (s := S128x2048) ![0, o] S128x256.size inb).toLoadRect f) := by
  rw [band_load arg6 f c ho inb]
  exact h

section
variable (i : grid0.Coords) (arg3 : Memref sig .tc .vmem S1x16384x192 .bf16) (harg3 : arg3.IsWhole) (arg4 : Memref sig .tc .vmem S128x16384 .bf16) (harg4 : arg4.IsWhole)
  (arg6 : Memref sig .tc .vmem S128x2048 .f32) (arg7 arg8 : Memref sig .tc .vmem S8x1024x256 .f32)
  (Q : FVec Ideal S2048x192 .bf16) (x1 : Vec Ideal S1x16384x192 .bf16) (x2 : Vec Ideal S128x16384 .bf16)
  (k : Fin (k0_t1_loop i).trips) (acc : Carry) (f6 : BufTy.Contents (Elt Ideal) arg6.view.ty) (f7 : BufTy.Contents (Elt Ideal) arg7.view.ty)

include i harg3 harg4 arg6 arg7 arg8 Q x1 x2 k acc f6 f7

/-- Group 0 takes the block of keys whose scores are in the slabs. -/
theorem first0 (h : Ok (sc Q x1) (wv x2) (2048 * k.val) acc (band arg6 f6) (slab arg7 f7)) :
    St (sc Q x1) (wv x2) (256 * 0) (2048 * k.val + 1024) (trip_k0_t1.sl.v594 (F := Ideal) arg7 acc f7) (trip_k0_t1.sl.v603 (F := Ideal) arg7 acc f7) (trip_k0_t1.sl.v612 (F := Ideal) i arg4 arg6 arg7 (harg4.unread x2) k acc f6 f7) := by
  have hk : k.val < 7 := lt_of_lt_of_le k.isLt (k0_t1_abs i).2.1
  exact step1024 (S := (trip_k0_t1.sl.v591 (F := Ideal) arg7 f7)) (vt := (trip_k0_t1.sl.v589 (F := Ideal) i arg4 (harg4.unread x2) k)) (St.load 0 h.h0 rfl inb_S128x2048_S128x256_0_0)
    (fun x y => (slab_load1024 arg7 f7 0 rfl _ _ x y).trans (h.hT 0 x y))
    (fun v x => vblock arg4 harg4 x2 (off2 i k) (by omega) _ _ v x)

/-- Group 1 takes the block of keys whose scores are in the slabs. -/
theorem first1 (h : Ok (sc Q x1) (wv x2) (2048 * k.val) acc (band arg6 f6) (slab arg7 f7)) :
    St (sc Q x1) (wv x2) (256 * 1) (2048 * k.val + 1024) (trip_k0_t1.sl.v617 (F := Ideal) arg7 acc f7) (trip_k0_t1.sl.v626 (F := Ideal) arg7 acc f7) (trip_k0_t1.sl.v635 (F := Ideal) i arg4 arg6 arg7 (harg4.unread x2) k acc f6 f7) := by
  have hk : k.val < 7 := lt_of_lt_of_le k.isLt (k0_t1_abs i).2.1
  exact step1024 (S := (trip_k0_t1.sl.v614 (F := Ideal) arg7 f7)) (vt := (trip_k0_t1.sl.v589 (F := Ideal) i arg4 (harg4.unread x2) k)) (St.load 1 h.h1 rfl inb_S128x2048_S128x256_0_256)
    (fun x y => (slab_load1024 arg7 f7 1 rfl _ _ x y).trans (h.hT 1 x y))
    (fun v x => vblock arg4 harg4 x2 (off2 i k) (by omega) _ _ v x)

/-- Group 2 takes the block of keys whose scores are in the slabs. -/
theorem first2 (h : Ok (sc Q x1) (wv x2) (2048 * k.val) acc (band arg6 f6) (slab arg7 f7)) :
    St (sc Q x1) (wv x2) (256 * 2) (2048 * k.val + 1024) (trip_k0_t1.sl.v640 (F := Ideal) arg7 acc f7) (trip_k0_t1.sl.v649 (F := Ideal) arg7 acc f7) (trip_k0_t1.sl.v658 (F := Ideal) i arg4 arg6 arg7 (harg4.unread x2) k acc f6 f7) := by
  have hk : k.val < 7 := lt_of_lt_of_le k.isLt (k0_t1_abs i).2.1
  exact step1024 (S := (trip_k0_t1.sl.v637 (F := Ideal) arg7 f7)) (vt := (trip_k0_t1.sl.v589 (F := Ideal) i arg4 (harg4.unread x2) k)) (St.load 2 h.h2 rfl inb_S128x2048_S128x256_0_512)
    (fun x y => (slab_load1024 arg7 f7 2 rfl _ _ x y).trans (h.hT 2 x y))
    (fun v x => vblock arg4 harg4 x2 (off2 i k) (by omega) _ _ v x)

/-- Group 3 takes the block of keys whose scores are in the slabs. -/
theorem first3 (h : Ok (sc Q x1) (wv x2) (2048 * k.val) acc (band arg6 f6) (slab arg7 f7)) :
    St (sc Q x1) (wv x2) (256 * 3) (2048 * k.val + 1024) (trip_k0_t1.sl.v663 (F := Ideal) arg7 acc f7) (trip_k0_t1.sl.v672 (F := Ideal) arg7 acc f7) (trip_k0_t1.sl.v681 (F := Ideal) i arg4 arg6 arg7 (harg4.unread x2) k acc f6 f7) := by
  have hk : k.val < 7 := lt_of_lt_of_le k.isLt (k0_t1_abs i).2.1
  exact step1024 (S := (trip_k0_t1.sl.v660 (F := Ideal) arg7 f7)) (vt := (trip_k0_t1.sl.v589 (F := Ideal) i arg4 (harg4.unread x2) k)) (St.load 3 h.h3 rfl inb_S128x2048_S128x256_0_768)
    (fun x y => (slab_load1024 arg7 f7 3 rfl _ _ x y).trans (h.hT 3 x y))
    (fun v x => vblock arg4 harg4 x2 (off2 i k) (by omega) _ _ v x)

/-- Group 4 takes the block of keys whose scores are in the slabs. -/
theorem first4 (h : Ok (sc Q x1) (wv x2) (2048 * k.val) acc (band arg6 f6) (slab arg7 f7)) :
    St (sc Q x1) (wv x2) (256 * 4) (2048 * k.val + 1024) (trip_k0_t1.sl.v686 (F := Ideal) arg7 acc f7) (trip_k0_t1.sl.v695 (F := Ideal) arg7 acc f7) (trip_k0_t1.sl.v704 (F := Ideal) i arg4 arg6 arg7 (harg4.unread x2) k acc f6 f7) := by
  have hk : k.val < 7 := lt_of_lt_of_le k.isLt (k0_t1_abs i).2.1
  exact step1024 (S := (trip_k0_t1.sl.v683 (F := Ideal) arg7 f7)) (vt := (trip_k0_t1.sl.v589 (F := Ideal) i arg4 (harg4.unread x2) k)) (St.load 4 h.h4 rfl inb_S128x2048_S128x256_0_1024)
    (fun x y => (slab_load1024 arg7 f7 4 rfl _ _ x y).trans (h.hT 4 x y))
    (fun v x => vblock arg4 harg4 x2 (off2 i k) (by omega) _ _ v x)

/-- Group 5 takes the block of keys whose scores are in the slabs. -/
theorem first5 (h : Ok (sc Q x1) (wv x2) (2048 * k.val) acc (band arg6 f6) (slab arg7 f7)) :
    St (sc Q x1) (wv x2) (256 * 5) (2048 * k.val + 1024) (trip_k0_t1.sl.v709 (F := Ideal) arg7 acc f7) (trip_k0_t1.sl.v718 (F := Ideal) arg7 acc f7) (trip_k0_t1.sl.v727 (F := Ideal) i arg4 arg6 arg7 (harg4.unread x2) k acc f6 f7) := by
  have hk : k.val < 7 := lt_of_lt_of_le k.isLt (k0_t1_abs i).2.1
  exact step1024 (S := (trip_k0_t1.sl.v706 (F := Ideal) arg7 f7)) (vt := (trip_k0_t1.sl.v589 (F := Ideal) i arg4 (harg4.unread x2) k)) (St.load 5 h.h5 rfl inb_S128x2048_S128x256_0_1280)
    (fun x y => (slab_load1024 arg7 f7 5 rfl _ _ x y).trans (h.hT 5 x y))
    (fun v x => vblock arg4 harg4 x2 (off2 i k) (by omega) _ _ v x)

/-- Group 6 takes the block of keys whose scores are in the slabs. -/
theorem first6 (h : Ok (sc Q x1) (wv x2) (2048 * k.val) acc (band arg6 f6) (slab arg7 f7)) :
    St (sc Q x1) (wv x2) (256 * 6) (2048 * k.val + 1024) (trip_k0_t1.sl.v732 (F := Ideal) arg7 acc f7) (trip_k0_t1.sl.v741 (F := Ideal) arg7 acc f7) (trip_k0_t1.sl.v750 (F := Ideal) i arg4 arg6 arg7 (harg4.unread x2) k acc f6 f7) := by
  have hk : k.val < 7 := lt_of_lt_of_le k.isLt (k0_t1_abs i).2.1
  exact step1024 (S := (trip_k0_t1.sl.v729 (F := Ideal) arg7 f7)) (vt := (trip_k0_t1.sl.v589 (F := Ideal) i arg4 (harg4.unread x2) k)) (St.load 6 h.h6 rfl inb_S128x2048_S128x256_0_1536)
    (fun x y => (slab_load1024 arg7 f7 6 rfl _ _ x y).trans (h.hT 6 x y))
    (fun v x => vblock arg4 harg4 x2 (off2 i k) (by omega) _ _ v x)

/-- Group 7 takes the block of keys whose scores are in the slabs. -/
theorem first7 (h : Ok (sc Q x1) (wv x2) (2048 * k.val) acc (band arg6 f6) (slab arg7 f7)) :
    St (sc Q x1) (wv x2) (256 * 7) (2048 * k.val + 1024) (trip_k0_t1.sl.v755 (F := Ideal) arg7 acc f7) (trip_k0_t1.sl.v764 (F := Ideal) arg7 acc f7) (trip_k0_t1.sl.v773 (F := Ideal) i arg4 arg6 arg7 (harg4.unread x2) k acc f6 f7) := by
  have hk : k.val < 7 := lt_of_lt_of_le k.isLt (k0_t1_abs i).2.1
  exact step1024 (S := (trip_k0_t1.sl.v752 (F := Ideal) arg7 f7)) (vt := (trip_k0_t1.sl.v589 (F := Ideal) i arg4 (harg4.unread x2) k)) (St.load 7 h.h7 rfl inb_S128x2048_S128x256_0_1792)
    (fun x y => (slab_load1024 arg7 f7 7 rfl _ _ x y).trans (h.hT 7 x y))
    (fun v x => vblock arg4 harg4 x2 (off2 i k) (by omega) _ _ v x)

/-- The slabs filled with the next block's scores. -/
theorem fillA (hk : k.val < 7) (g : BufTy.Contents (Elt Ideal) arg8.view.ty) (c : Fin 8) (x : Fin 1024) (y : Fin 256) :
    slab arg8 (arg8.view.writes (Elt Ideal) g (trip_k0_t1.sl.HW_arg8_8 (F := Ideal) i arg3 Q (harg3.unread x1) k)) c (ix2 x y) = sc Q x1 (256 * c.val + y.val) (2048 * k.val + 1024 + x.val) := by
  unfold trip_k0_t1.sl.HW_arg8_8
  fin_cases c
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v544 (F := Ideal) i arg3 (harg3.unread x1) k) Q rfl (by decide : 0 < 8) _ _ x1 (2048 * k.val + 1024) (by omega) (fun x d => kblock arg3 harg3 x1 (off1a i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v544 (F := Ideal) i arg3 (harg3.unread x1) k) Q rfl (by decide : 1 < 8) _ _ x1 (2048 * k.val + 1024) (by omega) (fun x d => kblock arg3 harg3 x1 (off1a i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v544 (F := Ideal) i arg3 (harg3.unread x1) k) Q rfl (by decide : 2 < 8) _ _ x1 (2048 * k.val + 1024) (by omega) (fun x d => kblock arg3 harg3 x1 (off1a i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v544 (F := Ideal) i arg3 (harg3.unread x1) k) Q rfl (by decide : 3 < 8) _ _ x1 (2048 * k.val + 1024) (by omega) (fun x d => kblock arg3 harg3 x1 (off1a i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v544 (F := Ideal) i arg3 (harg3.unread x1) k) Q rfl (by decide : 4 < 8) _ _ x1 (2048 * k.val + 1024) (by omega) (fun x d => kblock arg3 harg3 x1 (off1a i k) (by omega) _ _ x d) x y
  · refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v544 (F := Ideal) i arg3 (harg3.unread x1) k) Q rfl (by decide : 5 < 8) _ _ x1 (2048 * k.val + 1024) (by omega) (fun x d => kblock arg3 harg3 x1 (off1a i k) (by omega) _ _ x d) x y
  · refine (slab_miss _ _ _ (by decide) _ _ _ _ _).trans ?_
    refine (slab_hit _ _ _ (by decide) _ _ _ _ _).trans ?_
    exact fill1024 (trip_k0_t1.sl.v544 (F := Ideal) i arg3 (harg3.unread x1) k) Q rfl (by decide : 6 < 8) _ _ x1 (2048 * k.val + 1024) (by omega) (fun x d => kblock arg3 harg3 x1 (off1a i k) (by omega) _ _ x d) x y
  · refine (slab_hit _ _ _ (by decide) _ _ _ _ _).trans ?_
    exact fill1024 (trip_k0_t1.sl.v544 (F := Ideal) i arg3 (harg3.unread x1) k) Q rfl (by decide : 7 < 8) _ _ x1 (2048 * k.val + 1024) (by omega) (fun x d => kblock arg3 harg3 x1 (off1a i k) (by omega) _ _ x d) x y

/-- The slabs filled with the scores of the block after. -/
theorem fillB (hk : k.val < 7) (g : BufTy.Contents (Elt Ideal) arg7.view.ty) (c : Fin 8) (x : Fin 1024) (y : Fin 256) :
    slab arg7 (arg7.view.writes (Elt Ideal) g [⟨Rect.unit (s := S8x1024x256) ![7, 0, 0] S1x1024x256.size inb_S8x1024x256_S1x1024x256_7_0_0, (trip_k0_t1.sl.v819 (F := Ideal) i arg3 Q (harg3.unread x1) k)⟩, ⟨Rect.unit (s := S8x1024x256) ![6, 0, 0] S1x1024x256.size inb_S8x1024x256_S1x1024x256_6_0_0, (trip_k0_t1.sl.v814 (F := Ideal) i arg3 Q (harg3.unread x1) k)⟩, ⟨Rect.unit (s := S8x1024x256) ![5, 0, 0] S1x1024x256.size inb_S8x1024x256_S1x1024x256_5_0_0, (trip_k0_t1.sl.v809 (F := Ideal) i arg3 Q (harg3.unread x1) k)⟩, ⟨Rect.unit (s := S8x1024x256) ![4, 0, 0] S1x1024x256.size inb_S8x1024x256_S1x1024x256_4_0_0, (trip_k0_t1.sl.v804 (F := Ideal) i arg3 Q (harg3.unread x1) k)⟩, ⟨Rect.unit (s := S8x1024x256) ![3, 0, 0] S1x1024x256.size inb_S8x1024x256_S1x1024x256_3_0_0, (trip_k0_t1.sl.v799 (F := Ideal) i arg3 Q (harg3.unread x1) k)⟩, ⟨Rect.unit (s := S8x1024x256) ![2, 0, 0] S1x1024x256.size inb_S8x1024x256_S1x1024x256_2_0_0, (trip_k0_t1.sl.v794 (F := Ideal) i arg3 Q (harg3.unread x1) k)⟩, ⟨Rect.unit (s := S8x1024x256) ![1, 0, 0] S1x1024x256.size inb_S8x1024x256_S1x1024x256_1_0_0, (trip_k0_t1.sl.v789 (F := Ideal) i arg3 Q (harg3.unread x1) k)⟩, ⟨Rect.unit (s := S8x1024x256) ![0, 0, 0] S1x1024x256.size inb_S8x1024x256_S1x1024x256_0_0_0, (trip_k0_t1.sl.v784 (F := Ideal) i arg3 Q (harg3.unread x1) k)⟩]) c (ix2 x y) = sc Q x1 (256 * c.val + y.val) (2048 * k.val + 2048 + x.val) := by
  fin_cases c
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v779 (F := Ideal) i arg3 (harg3.unread x1) k) Q rfl (by decide : 0 < 8) _ _ x1 (2048 * k.val + 2048) (by omega) (fun x d => kblock arg3 harg3 x1 (off1b i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v779 (F := Ideal) i arg3 (harg3.unread x1) k) Q rfl (by decide : 1 < 8) _ _ x1 (2048 * k.val + 2048) (by omega) (fun x d => kblock arg3 harg3 x1 (off1b i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v779 (F := Ideal) i arg3 (harg3.unread x1) k) Q rfl (by decide : 2 < 8) _ _ x1 (2048 * k.val + 2048) (by omega) (fun x d => kblock arg3 harg3 x1 (off1b i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v779 (F := Ideal) i arg3 (harg3.unread x1) k) Q rfl (by decide : 3 < 8) _ _ x1 (2048 * k.val + 2048) (by omega) (fun x d => kblock arg3 harg3 x1 (off1b i k) (by omega) _ _ x d) x y
  · refine (slab_miss _ _ _ (by decide) _ _ _ _ _).trans ?_
    refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v779 (F := Ideal) i arg3 (harg3.unread x1) k) Q rfl (by decide : 4 < 8) _ _ x1 (2048 * k.val + 2048) (by omega) (fun x d => kblock arg3 harg3 x1 (off1b i k) (by omega) _ _ x d) x y
  · refine (slab_miss _ _ _ (by decide) _ _ _ _ _).trans ?_
    refine (slab_miss _ _ _ (by decide) _ _ _ _ _).trans ?_
    refine (slab_hit _ _ _ (by decide) _ _ _ _ _).trans ?_
    exact fill1024 (trip_k0_t1.sl.v779 (F := Ideal) i arg3 (harg3.unread x1) k) Q rfl (by decide : 5 < 8) _ _ x1 (2048 * k.val + 2048) (by omega) (fun x d => kblock arg3 harg3 x1 (off1b i k) (by omega) _ _ x d) x y
  · refine (slab_miss _ _ _ (by decide) _ _ _ _ _).trans ?_
    refine (slab_hit _ _ _ (by decide) _ _ _ _ _).trans ?_
    exact fill1024 (trip_k0_t1.sl.v779 (F := Ideal) i arg3 (harg3.unread x1) k) Q rfl (by decide : 6 < 8) _ _ x1 (2048 * k.val + 2048) (by omega) (fun x d => kblock arg3 harg3 x1 (off1b i k) (by omega) _ _ x d) x y
  · refine (slab_hit _ _ _ (by decide) _ _ _ _ _).trans ?_
    exact fill1024 (trip_k0_t1.sl.v779 (F := Ideal) i arg3 (harg3.unread x1) k) Q rfl (by decide : 7 < 8) _ _ x1 (2048 * k.val + 2048) (by omega) (fun x d => kblock arg3 harg3 x1 (off1b i k) (by omega) _ _ x d) x y

/-- Group 0's band after the first block. -/
theorem mid0 (g : BufTy.Contents (Elt Ideal) arg6.view.ty) : band arg6 (arg6.view.writes (Elt Ideal) g (trip_k0_t1.sl.HW_arg6_8 (F := Ideal) i arg4 arg6 arg7 (harg4.unread x2) k acc f6 f7)) 0 = (trip_k0_t1.sl.v612 (F := Ideal) i arg4 arg6 arg7 (harg4.unread x2) k acc f6 f7) := by
  unfold trip_k0_t1.sl.HW_arg6_8
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  exact band_hit _ _ _ (by decide) _ _ _

/-- Group 0 takes the second block of keys. -/
theorem second0 (h : Ok (sc Q x1) (wv x2) (2048 * k.val) acc (band arg6 f6) (slab arg7 f7)) :
    St (sc Q x1) (wv x2) (256 * 0) (2048 * k.val + 2048) (trip_k0_t1.sl.v830 (F := Ideal) i arg3 arg7 arg8 Q (harg3.unread x1) k acc f7) (trip_k0_t1.sl.v839 (F := Ideal) i arg3 arg7 arg8 Q (harg3.unread x1) k acc f7) (trip_k0_t1.sl.v848 (F := Ideal) i arg3 arg4 arg6 arg7 arg8 Q (harg3.unread x1) (harg4.unread x2) k acc f6 f7) := by
  have hk : k.val < 7 := lt_of_lt_of_le k.isLt (k0_t1_abs i).2.1
  have h1 := first0 i arg3 harg3 arg4 harg4 arg6 arg7 arg8 Q x1 x2 k acc f6 f7 h
  rw [← mid0 i arg3 harg3 arg4 harg4 arg6 arg7 arg8 Q x1 x2 k acc f6 f7 arg6.view.junk] at h1
  exact step1024 (S := (trip_k0_t1.sl.v827 (F := Ideal) i arg3 arg8 Q (harg3.unread x1) k)) (vt := (trip_k0_t1.sl.v825 (F := Ideal) i arg4 (harg4.unread x2) k)) (St.load 0 h1 rfl inb_S128x2048_S128x256_0_0)
    (fun x y => (slab_load1024 arg8 _ 0 rfl _ _ x y).trans (fillA i arg3 harg3 arg4 harg4 arg6 arg7 arg8 Q x1 x2 k acc f6 f7 hk _ 0 x y))
    (fun v x => vblock arg4 harg4 x2 (off3 i k) (by omega) _ _ v x)

/-- Group 1's band after the first block. -/
theorem mid1 (g : BufTy.Contents (Elt Ideal) arg6.view.ty) : band arg6 (arg6.view.writes (Elt Ideal) g (trip_k0_t1.sl.HW_arg6_9 (F := Ideal) i arg3 arg4 arg6 arg7 arg8 Q (harg3.unread x1) (harg4.unread x2) k acc f6 f7)) 1 = (trip_k0_t1.sl.v635 (F := Ideal) i arg4 arg6 arg7 (harg4.unread x2) k acc f6 f7) := by
  unfold trip_k0_t1.sl.HW_arg6_9
  refine (band_miss _ _ _ (by decide) _ _ _).trans ?_
  unfold trip_k0_t1.sl.HW_arg6_8
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  exact band_hit _ _ _ (by decide) _ _ _

/-- Group 1 takes the second block of keys. -/
theorem second1 (h : Ok (sc Q x1) (wv x2) (2048 * k.val) acc (band arg6 f6) (slab arg7 f7)) :
    St (sc Q x1) (wv x2) (256 * 1) (2048 * k.val + 2048) (trip_k0_t1.sl.v853 (F := Ideal) i arg3 arg7 arg8 Q (harg3.unread x1) k acc f7) (trip_k0_t1.sl.v862 (F := Ideal) i arg3 arg7 arg8 Q (harg3.unread x1) k acc f7) (trip_k0_t1.sl.v871 (F := Ideal) i arg3 arg4 arg6 arg7 arg8 Q (harg3.unread x1) (harg4.unread x2) k acc f6 f7) := by
  have hk : k.val < 7 := lt_of_lt_of_le k.isLt (k0_t1_abs i).2.1
  have h1 := first1 i arg3 harg3 arg4 harg4 arg6 arg7 arg8 Q x1 x2 k acc f6 f7 h
  rw [← mid1 i arg3 harg3 arg4 harg4 arg6 arg7 arg8 Q x1 x2 k acc f6 f7 arg6.view.junk] at h1
  exact step1024 (S := (trip_k0_t1.sl.v850 (F := Ideal) i arg3 arg8 Q (harg3.unread x1) k)) (vt := (trip_k0_t1.sl.v825 (F := Ideal) i arg4 (harg4.unread x2) k)) (St.load 1 h1 rfl inb_S128x2048_S128x256_0_256)
    (fun x y => (slab_load1024 arg8 _ 1 rfl _ _ x y).trans (fillA i arg3 harg3 arg4 harg4 arg6 arg7 arg8 Q x1 x2 k acc f6 f7 hk _ 1 x y))
    (fun v x => vblock arg4 harg4 x2 (off3 i k) (by omega) _ _ v x)

/-- Group 2's band after the first block. -/
theorem mid2 (g : BufTy.Contents (Elt Ideal) arg6.view.ty) : band arg6 (arg6.view.writes (Elt Ideal) g (trip_k0_t1.sl.HW_arg6_10 (F := Ideal) i arg3 arg4 arg6 arg7 arg8 Q (harg3.unread x1) (harg4.unread x2) k acc f6 f7)) 2 = (trip_k0_t1.sl.v658 (F := Ideal) i arg4 arg6 arg7 (harg4.unread x2) k acc f6 f7) := by
  unfold trip_k0_t1.sl.HW_arg6_10
  refine (band_miss _ _ _ (by decide) _ _ _).trans ?_
  unfold trip_k0_t1.sl.HW_arg6_9
  refine (band_miss _ _ _ (by decide) _ _ _).trans ?_
  unfold trip_k0_t1.sl.HW_arg6_8
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  exact band_hit _ _ _ (by decide) _ _ _

/-- Group 2 takes the second block of keys. -/
theorem second2 (h : Ok (sc Q x1) (wv x2) (2048 * k.val) acc (band arg6 f6) (slab arg7 f7)) :
    St (sc Q x1) (wv x2) (256 * 2) (2048 * k.val + 2048) (trip_k0_t1.sl.v876 (F := Ideal) i arg3 arg7 arg8 Q (harg3.unread x1) k acc f7) (trip_k0_t1.sl.v885 (F := Ideal) i arg3 arg7 arg8 Q (harg3.unread x1) k acc f7) (trip_k0_t1.sl.v894 (F := Ideal) i arg3 arg4 arg6 arg7 arg8 Q (harg3.unread x1) (harg4.unread x2) k acc f6 f7) := by
  have hk : k.val < 7 := lt_of_lt_of_le k.isLt (k0_t1_abs i).2.1
  have h1 := first2 i arg3 harg3 arg4 harg4 arg6 arg7 arg8 Q x1 x2 k acc f6 f7 h
  rw [← mid2 i arg3 harg3 arg4 harg4 arg6 arg7 arg8 Q x1 x2 k acc f6 f7 arg6.view.junk] at h1
  exact step1024 (S := (trip_k0_t1.sl.v873 (F := Ideal) i arg3 arg8 Q (harg3.unread x1) k)) (vt := (trip_k0_t1.sl.v825 (F := Ideal) i arg4 (harg4.unread x2) k)) (St.load 2 h1 rfl inb_S128x2048_S128x256_0_512)
    (fun x y => (slab_load1024 arg8 _ 2 rfl _ _ x y).trans (fillA i arg3 harg3 arg4 harg4 arg6 arg7 arg8 Q x1 x2 k acc f6 f7 hk _ 2 x y))
    (fun v x => vblock arg4 harg4 x2 (off3 i k) (by omega) _ _ v x)

/-- Group 3's band after the first block. -/
theorem mid3 (g : BufTy.Contents (Elt Ideal) arg6.view.ty) : band arg6 (arg6.view.writes (Elt Ideal) g (trip_k0_t1.sl.HW_arg6_11 (F := Ideal) i arg3 arg4 arg6 arg7 arg8 Q (harg3.unread x1) (harg4.unread x2) k acc f6 f7)) 3 = (trip_k0_t1.sl.v681 (F := Ideal) i arg4 arg6 arg7 (harg4.unread x2) k acc f6 f7) := by
  unfold trip_k0_t1.sl.HW_arg6_11
  refine (band_miss _ _ _ (by decide) _ _ _).trans ?_
  unfold trip_k0_t1.sl.HW_arg6_10
  refine (band_miss _ _ _ (by decide) _ _ _).trans ?_
  unfold trip_k0_t1.sl.HW_arg6_9
  refine (band_miss _ _ _ (by decide) _ _ _).trans ?_
  unfold trip_k0_t1.sl.HW_arg6_8
  refine (band_miss _ _ _ (by decide) _ _ _).trans ?_
  refine (band_miss _ _ _ (by decide) _ _ _).trans ?_
  refine (band_miss _ _ _ (by decide) _ _ _).trans ?_
  refine (band_miss _ _ _ (by decide) _ _ _).trans ?_
  exact band_hit _ _ _ (by decide) _ _ _

/-- Group 3 takes the second block of keys. -/
theorem second3 (h : Ok (sc Q x1) (wv x2) (2048 * k.val) acc (band arg6 f6) (slab arg7 f7)) :
    St (sc Q x1) (wv x2) (256 * 3) (2048 * k.val + 2048) (trip_k0_t1.sl.v899 (F := Ideal) i arg3 arg7 arg8 Q (harg3.unread x1) k acc f7) (trip_k0_t1.sl.v908 (F := Ideal) i arg3 arg7 arg8 Q (harg3.unread x1) k acc f7) (trip_k0_t1.sl.v917 (F := Ideal) i arg3 arg4 arg6 arg7 arg8 Q (harg3.unread x1) (harg4.unread x2) k acc f6 f7) := by
  have hk : k.val < 7 := lt_of_lt_of_le k.isLt (k0_t1_abs i).2.1
  have h1 := first3 i arg3 harg3 arg4 harg4 arg6 arg7 arg8 Q x1 x2 k acc f6 f7 h
  rw [← mid3 i arg3 harg3 arg4 harg4 arg6 arg7 arg8 Q x1 x2 k acc f6 f7 arg6.view.junk] at h1
  exact step1024 (S := (trip_k0_t1.sl.v896 (F := Ideal) i arg3 arg8 Q (harg3.unread x1) k)) (vt := (trip_k0_t1.sl.v825 (F := Ideal) i arg4 (harg4.unread x2) k)) (St.load 3 h1 rfl inb_S128x2048_S128x256_0_768)
    (fun x y => (slab_load1024 arg8 _ 3 rfl _ _ x y).trans (fillA i arg3 harg3 arg4 harg4 arg6 arg7 arg8 Q x1 x2 k acc f6 f7 hk _ 3 x y))
    (fun v x => vblock arg4 harg4 x2 (off3 i k) (by omega) _ _ v x)

/-- Group 4's band after the first block. -/
theorem mid4 (g : BufTy.Contents (Elt Ideal) arg6.view.ty) : band arg6 (arg6.view.writes (Elt Ideal) g (trip_k0_t1.sl.HW_arg6_12 (F := Ideal) i arg3 arg4 arg6 arg7 arg8 Q (harg3.unread x1) (harg4.unread x2) k acc f6 f7)) 4 = (trip_k0_t1.sl.v704 (F := Ideal) i arg4 arg6 arg7 (harg4.unread x2) k acc f6 f7) := by
  unfold trip_k0_t1.sl.HW_arg6_12
  refine (band_miss _ _ _ (by decide) _ _ _).trans ?_
  unfold trip_k0_t1.sl.HW_arg6_11
  refine (band_miss _ _ _ (by decide) _ _ _).trans ?_
  unfold trip_k0_t1.sl.HW_arg6_10
  refine (band_miss _ _ _ (by decide) _ _ _).trans ?_
  unfold trip_k0_t1.sl.HW_arg6_9
  refine (band_miss _ _ _ (by decide) _ _ _).trans ?_
  unfold trip_k0_t1.sl.HW_arg6_8
  refine (band_miss _ _ _ (by decide) _ _ _).trans ?_
  refine (band_miss _ _ _ (by decide) _ _ _).trans ?_
  refine (band_miss _ _ _ (by decide) _ _ _).trans ?_
  exact band_hit _ _ _ (by decide) _ _ _

/-- Group 4 takes the second block of keys. -/
theorem second4 (h : Ok (sc Q x1) (wv x2) (2048 * k.val) acc (band arg6 f6) (slab arg7 f7)) :
    St (sc Q x1) (wv x2) (256 * 4) (2048 * k.val + 2048) (trip_k0_t1.sl.v922 (F := Ideal) i arg3 arg7 arg8 Q (harg3.unread x1) k acc f7) (trip_k0_t1.sl.v931 (F := Ideal) i arg3 arg7 arg8 Q (harg3.unread x1) k acc f7) (trip_k0_t1.sl.v940 (F := Ideal) i arg3 arg4 arg6 arg7 arg8 Q (harg3.unread x1) (harg4.unread x2) k acc f6 f7) := by
  have hk : k.val < 7 := lt_of_lt_of_le k.isLt (k0_t1_abs i).2.1
  have h1 := first4 i arg3 harg3 arg4 harg4 arg6 arg7 arg8 Q x1 x2 k acc f6 f7 h
  rw [← mid4 i arg3 harg3 arg4 harg4 arg6 arg7 arg8 Q x1 x2 k acc f6 f7 arg6.view.junk] at h1
  exact step1024 (S := (trip_k0_t1.sl.v919 (F := Ideal) i arg3 arg8 Q (harg3.unread x1) k)) (vt := (trip_k0_t1.sl.v825 (F := Ideal) i arg4 (harg4.unread x2) k)) (St.load 4 h1 rfl inb_S128x2048_S128x256_0_1024)
    (fun x y => (slab_load1024 arg8 _ 4 rfl _ _ x y).trans (fillA i arg3 harg3 arg4 harg4 arg6 arg7 arg8 Q x1 x2 k acc f6 f7 hk _ 4 x y))
    (fun v x => vblock arg4 harg4 x2 (off3 i k) (by omega) _ _ v x)

/-- Group 5's band after the first block. -/
theorem mid5 (g : BufTy.Contents (Elt Ideal) arg6.view.ty) : band arg6 (arg6.view.writes (Elt Ideal) g (trip_k0_t1.sl.HW_arg6_13 (F := Ideal) i arg3 arg4 arg6 arg7 arg8 Q (harg3.unread x1) (harg4.unread x2) k acc f6 f7)) 5 = (trip_k0_t1.sl.v727 (F := Ideal) i arg4 arg6 arg7 (harg4.unread x2) k acc f6 f7) := by
  unfold trip_k0_t1.sl.HW_arg6_13
  refine (band_miss _ _ _ (by decide) _ _ _).trans ?_
  unfold trip_k0_t1.sl.HW_arg6_12
  refine (band_miss _ _ _ (by decide) _ _ _).trans ?_
  unfold trip_k0_t1.sl.HW_arg6_11
  refine (band_miss _ _ _ (by decide) _ _ _).trans ?_
  unfold trip_k0_t1.sl.HW_arg6_10
  refine (band_miss _ _ _ (by decide) _ _ _).trans ?_
  unfold trip_k0_t1.sl.HW_arg6_9
  refine (band_miss _ _ _ (by decide) _ _ _).trans ?_
  unfold trip_k0_t1.sl.HW_arg6_8
  refine (band_miss _ _ _ (by decide) _ _ _).trans ?_
  refine (band_miss _ _ _ (by decide) _ _ _).trans ?_
  exact band_hit _ _ _ (by decide) _ _ _

/-- Group 5 takes the second block of keys. -/
theorem second5 (h : Ok (sc Q x1) (wv x2) (2048 * k.val) acc (band arg6 f6) (slab arg7 f7)) :
    St (sc Q x1) (wv x2) (256 * 5) (2048 * k.val + 2048) (trip_k0_t1.sl.v945 (F := Ideal) i arg3 arg7 arg8 Q (harg3.unread x1) k acc f7) (trip_k0_t1.sl.v954 (F := Ideal) i arg3 arg7 arg8 Q (harg3.unread x1) k acc f7) (trip_k0_t1.sl.v963 (F := Ideal) i arg3 arg4 arg6 arg7 arg8 Q (harg3.unread x1) (harg4.unread x2) k acc f6 f7) := by
  have hk : k.val < 7 := lt_of_lt_of_le k.isLt (k0_t1_abs i).2.1
  have h1 := first5 i arg3 harg3 arg4 harg4 arg6 arg7 arg8 Q x1 x2 k acc f6 f7 h
  rw [← mid5 i arg3 harg3 arg4 harg4 arg6 arg7 arg8 Q x1 x2 k acc f6 f7 arg6.view.junk] at h1
  exact step1024 (S := (trip_k0_t1.sl.v942 (F := Ideal) i arg3 arg8 Q (harg3.unread x1) k)) (vt := (trip_k0_t1.sl.v825 (F := Ideal) i arg4 (harg4.unread x2) k)) (St.load 5 h1 rfl inb_S128x2048_S128x256_0_1280)
    (fun x y => (slab_load1024 arg8 _ 5 rfl _ _ x y).trans (fillA i arg3 harg3 arg4 harg4 arg6 arg7 arg8 Q x1 x2 k acc f6 f7 hk _ 5 x y))
    (fun v x => vblock arg4 harg4 x2 (off3 i k) (by omega) _ _ v x)

/-- Group 6's band after the first block. -/
theorem mid6 (g : BufTy.Contents (Elt Ideal) arg6.view.ty) : band arg6 (arg6.view.writes (Elt Ideal) g (trip_k0_t1.sl.HW_arg6_14 (F := Ideal) i arg3 arg4 arg6 arg7 arg8 Q (harg3.unread x1) (harg4.unread x2) k acc f6 f7)) 6 = (trip_k0_t1.sl.v750 (F := Ideal) i arg4 arg6 arg7 (harg4.unread x2) k acc f6 f7) := by
  unfold trip_k0_t1.sl.HW_arg6_14
  refine (band_miss _ _ _ (by decide) _ _ _).trans ?_
  unfold trip_k0_t1.sl.HW_arg6_13
  refine (band_miss _ _ _ (by decide) _ _ _).trans ?_
  unfold trip_k0_t1.sl.HW_arg6_12
  refine (band_miss _ _ _ (by decide) _ _ _).trans ?_
  unfold trip_k0_t1.sl.HW_arg6_11
  refine (band_miss _ _ _ (by decide) _ _ _).trans ?_
  unfold trip_k0_t1.sl.HW_arg6_10
  refine (band_miss _ _ _ (by decide) _ _ _).trans ?_
  unfold trip_k0_t1.sl.HW_arg6_9
  refine (band_miss _ _ _ (by decide) _ _ _).trans ?_
  unfold trip_k0_t1.sl.HW_arg6_8
  refine (band_miss _ _ _ (by decide) _ _ _).trans ?_
  exact band_hit _ _ _ (by decide) _ _ _

/-- Group 6 takes the second block of keys. -/
theorem second6 (h : Ok (sc Q x1) (wv x2) (2048 * k.val) acc (band arg6 f6) (slab arg7 f7)) :
    St (sc Q x1) (wv x2) (256 * 6) (2048 * k.val + 2048) (trip_k0_t1.sl.v968 (F := Ideal) i arg3 arg7 arg8 Q (harg3.unread x1) k acc f7) (trip_k0_t1.sl.v977 (F := Ideal) i arg3 arg7 arg8 Q (harg3.unread x1) k acc f7) (trip_k0_t1.sl.v986 (F := Ideal) i arg3 arg4 arg6 arg7 arg8 Q (harg3.unread x1) (harg4.unread x2) k acc f6 f7) := by
  have hk : k.val < 7 := lt_of_lt_of_le k.isLt (k0_t1_abs i).2.1
  have h1 := first6 i arg3 harg3 arg4 harg4 arg6 arg7 arg8 Q x1 x2 k acc f6 f7 h
  rw [← mid6 i arg3 harg3 arg4 harg4 arg6 arg7 arg8 Q x1 x2 k acc f6 f7 arg6.view.junk] at h1
  exact step1024 (S := (trip_k0_t1.sl.v965 (F := Ideal) i arg3 arg8 Q (harg3.unread x1) k)) (vt := (trip_k0_t1.sl.v825 (F := Ideal) i arg4 (harg4.unread x2) k)) (St.load 6 h1 rfl inb_S128x2048_S128x256_0_1536)
    (fun x y => (slab_load1024 arg8 _ 6 rfl _ _ x y).trans (fillA i arg3 harg3 arg4 harg4 arg6 arg7 arg8 Q x1 x2 k acc f6 f7 hk _ 6 x y))
    (fun v x => vblock arg4 harg4 x2 (off3 i k) (by omega) _ _ v x)

/-- Group 7's band after the first block. -/
theorem mid7 (g : BufTy.Contents (Elt Ideal) arg6.view.ty) : band arg6 (arg6.view.writes (Elt Ideal) g (trip_k0_t1.sl.HW_arg6_15 (F := Ideal) i arg3 arg4 arg6 arg7 arg8 Q (harg3.unread x1) (harg4.unread x2) k acc f6 f7)) 7 = (trip_k0_t1.sl.v773 (F := Ideal) i arg4 arg6 arg7 (harg4.unread x2) k acc f6 f7) := by
  unfold trip_k0_t1.sl.HW_arg6_15
  refine (band_miss _ _ _ (by decide) _ _ _).trans ?_
  unfold trip_k0_t1.sl.HW_arg6_14
  refine (band_miss _ _ _ (by decide) _ _ _).trans ?_
  unfold trip_k0_t1.sl.HW_arg6_13
  refine (band_miss _ _ _ (by decide) _ _ _).trans ?_
  unfold trip_k0_t1.sl.HW_arg6_12
  refine (band_miss _ _ _ (by decide) _ _ _).trans ?_
  unfold trip_k0_t1.sl.HW_arg6_11
  refine (band_miss _ _ _ (by decide) _ _ _).trans ?_
  unfold trip_k0_t1.sl.HW_arg6_10
  refine (band_miss _ _ _ (by decide) _ _ _).trans ?_
  unfold trip_k0_t1.sl.HW_arg6_9
  refine (band_miss _ _ _ (by decide) _ _ _).trans ?_
  unfold trip_k0_t1.sl.HW_arg6_8
  exact band_hit _ _ _ (by decide) _ _ _

/-- Group 7 takes the second block of keys. -/
theorem second7 (h : Ok (sc Q x1) (wv x2) (2048 * k.val) acc (band arg6 f6) (slab arg7 f7)) :
    St (sc Q x1) (wv x2) (256 * 7) (2048 * k.val + 2048) (trip_k0_t1.sl.v991 (F := Ideal) i arg3 arg7 arg8 Q (harg3.unread x1) k acc f7) (k0_pay268 (trip_k0_t1.sl.v764 (F := Ideal) arg7 acc f7) (trip_k0_t1.sl.v988 (F := Ideal) i arg3 arg8 Q (harg3.unread x1) k) (trip_k0_t1.sl.v991 (F := Ideal) i arg3 arg7 arg8 Q (harg3.unread x1) k acc f7) (trip_k0_t1.sl.v993 (F := Ideal) i arg3 arg7 arg8 Q (harg3.unread x1) k acc f7)) (k0_pay269 (trip_k0_t1.sl.v825 (F := Ideal) i arg4 (harg4.unread x2) k) (trip_k0_t1.sl.v988 (F := Ideal) i arg3 arg8 Q (harg3.unread x1) k) (trip_k0_t1.sl.v991 (F := Ideal) i arg3 arg7 arg8 Q (harg3.unread x1) k acc f7) (trip_k0_t1.sl.v993 (F := Ideal) i arg3 arg7 arg8 Q (harg3.unread x1) k acc f7) (trip_k0_t1.sl.v1001 (F := Ideal) i arg3 arg4 arg6 arg7 arg8 Q (harg3.unread x1) (harg4.unread x2) k acc f6 f7)) := by
  have hk : k.val < 7 := lt_of_lt_of_le k.isLt (k0_t1_abs i).2.1
  have h1 := first7 i arg3 harg3 arg4 harg4 arg6 arg7 arg8 Q x1 x2 k acc f6 f7 h
  rw [← mid7 i arg3 harg3 arg4 harg4 arg6 arg7 arg8 Q x1 x2 k acc f6 f7 arg6.view.junk] at h1
  exact step1024 (S := (trip_k0_t1.sl.v988 (F := Ideal) i arg3 arg8 Q (harg3.unread x1) k)) (vt := (trip_k0_t1.sl.v825 (F := Ideal) i arg4 (harg4.unread x2) k)) (St.load 7 h1 rfl inb_S128x2048_S128x256_0_1792)
    (fun x y => (slab_load1024 arg8 _ 7 rfl _ _ x y).trans (fillA i arg3 harg3 arg4 harg4 arg6 arg7 arg8 Q x1 x2 k acc f6 f7 hk _ 7 x y))
    (fun v x => vblock arg4 harg4 x2 (off3 i k) (by omega) _ _ v x)

end

end Cert.Flash

end
-- ==== Proof.Trips.lean ====
/- The invariant of the loop over pairs of key blocks, carried from its entry to its exit. -/
module

public import proofs.«01_k».proof.Proof.Loop

@[expose] public section

set_option maxRecDepth 16384

noncomputable section

namespace Cert.Flash

open Cert.KernelIdeal Cert.KernelIdeal.Gen
open Idealize.ShloMosaic Idealize.ShloMosaic.TcCoe

section
variable (𝒱 : Variants) (c : Dev nD) (bd : Option 𝒱.V) (i : grid0.Coords) (arg2 : Memref sig .tc .vmem S1x2048x192 .f32) (harg2 : arg2.IsWhole) (arg3 : Memref sig .tc .vmem S1x16384x192 .bf16) (harg3 : arg3.IsWhole) (arg4 : Memref sig .tc .vmem S128x16384 .bf16) (harg4 : arg4.IsWhole) (arg5 : Memref sig .tc .vmem S2048x128 .bf16) (harg5 : arg5.IsWhole) (arg6 : Memref sig .tc .vmem S128x2048 .f32) (harg6 : arg6.IsWhole) (arg7 : Memref sig .tc .vmem S8x1024x256 .f32) (harg7 : arg7.IsWhole) (arg8 : Memref sig .tc .vmem S8x1024x256 .f32) (harg8 : arg8.IsWhole)
  (Q : FVec Ideal S2048x192 .bf16) (v9 v10 v11 v12 v13 v14 v15 v16 v17 v18 v19 v20 v21 v22 v23 v24 : FVec Ideal S1x256 .f32) (v25 : BitVec 32) (v29 : FVec Ideal S1024x192 .bf16)
  (x1 : Vec Ideal S1x16384x192 .bf16) (x2 : Vec Ideal S128x16384 .bf16)

/-- One trip keeps the invariant. -/
theorem trip_ok (k : Fin (k0_t1_loop i).trips) (acc : Carry) (f6 : BufTy.Contents (Elt Ideal) arg6.view.ty) (f7 : BufTy.Contents (Elt Ideal) arg7.view.ty) (f8 : BufTy.Contents (Elt Ideal) arg8.view.ty)
    (h : Ok (sc Q x1) (wv x2) (2048 * k.val) acc (band arg6 f6) (slab arg7 f7)) :
    Ok (sc Q x1) (wv x2) (2048 * k.val + 2048)
      (tripR_k0_t1 (F := Ideal) 𝒱 c bd i arg2 harg2 arg3 harg3 arg4 harg4 arg5 harg5 arg6 harg6 arg7 harg7 arg8 harg8 Q v9 v10 v11 v12 v13 v14 v15 v16 v17 v18 v19 v20 v21 v22 v23 v24 v25 v29 (harg3.unread x1) (harg4.unread x2) k acc f6 f7 f8)
      (band arg6 (arg6.view.writes (Elt Ideal) f6 (tripL_k0_t1 (F := Ideal) 𝒱 c bd i arg2 harg2 arg3 harg3 arg4 harg4 arg5 harg5 arg6 harg6 arg7 harg7 arg8 harg8 Q v9 v10 v11 v12 v13 v14 v15 v16 v17 v18 v19 v20 v21 v22 v23 v24 v25 v29 (harg3.unread x1) (harg4.unread x2) k acc f6 f7 f8).1))
      (slab arg7 (arg7.view.writes (Elt Ideal) f7 (tripL_k0_t1 (F := Ideal) 𝒱 c bd i arg2 harg2 arg3 harg3 arg4 harg4 arg5 harg5 arg6 harg6 arg7 harg7 arg8 harg8 Q v9 v10 v11 v12 v13 v14 v15 v16 v17 v18 v19 v20 v21 v22 v23 v24 v25 v29 (harg3.unread x1) (harg4.unread x2) k acc f6 f7 f8).2.1)) := by
  have hk : k.val < 7 := lt_of_lt_of_le k.isLt (k0_t1_abs i).2.1
  have s0 := second0 i arg3 harg3 arg4 harg4 arg6 arg7 arg8 Q x1 x2 k acc f6 f7 h
  have s1 := second1 i arg3 harg3 arg4 harg4 arg6 arg7 arg8 Q x1 x2 k acc f6 f7 h
  have s2 := second2 i arg3 harg3 arg4 harg4 arg6 arg7 arg8 Q x1 x2 k acc f6 f7 h
  have s3 := second3 i arg3 harg3 arg4 harg4 arg6 arg7 arg8 Q x1 x2 k acc f6 f7 h
  have s4 := second4 i arg3 harg3 arg4 harg4 arg6 arg7 arg8 Q x1 x2 k acc f6 f7 h
  have s5 := second5 i arg3 harg3 arg4 harg4 arg6 arg7 arg8 Q x1 x2 k acc f6 f7 h
  have s6 := second6 i arg3 harg3 arg4 harg4 arg6 arg7 arg8 Q x1 x2 k acc f6 f7 h
  have s7 := second7 i arg3 harg3 arg4 harg4 arg6 arg7 arg8 Q x1 x2 k acc f6 f7 h
  unfold tripR_k0_t1 tripL_k0_t1 trip_k0_t1
  dsimp only
  constructor
  · refine (congrArg (St _ _ _ _ _ _) ?_).mpr s0
    refine (band_miss _ _ _ (by decide) _ _ _).trans ?_
    unfold trip_k0_t1.sl.HW_arg6_15
    refine (band_miss _ _ _ (by decide) _ _ _).trans ?_
    unfold trip_k0_t1.sl.HW_arg6_14
    refine (band_miss _ _ _ (by decide) _ _ _).trans ?_
    unfold trip_k0_t1.sl.HW_arg6_13
    refine (band_miss _ _ _ (by decide) _ _ _).trans ?_
    unfold trip_k0_t1.sl.HW_arg6_12
    refine (band_miss _ _ _ (by decide) _ _ _).trans ?_
    unfold trip_k0_t1.sl.HW_arg6_11
    refine (band_miss _ _ _ (by decide) _ _ _).trans ?_
    unfold trip_k0_t1.sl.HW_arg6_10
    refine (band_miss _ _ _ (by decide) _ _ _).trans ?_
    unfold trip_k0_t1.sl.HW_arg6_9
    exact band_hit _ _ _ (by decide) _ _ _
  · refine (congrArg (St _ _ _ _ _ _) ?_).mpr s1
    refine (band_miss _ _ _ (by decide) _ _ _).trans ?_
    unfold trip_k0_t1.sl.HW_arg6_15
    refine (band_miss _ _ _ (by decide) _ _ _).trans ?_
    unfold trip_k0_t1.sl.HW_arg6_14
    refine (band_miss _ _ _ (by decide) _ _ _).trans ?_
    unfold trip_k0_t1.sl.HW_arg6_13
    refine (band_miss _ _ _ (by decide) _ _ _).trans ?_
    unfold trip_k0_t1.sl.HW_arg6_12
    refine (band_miss _ _ _ (by decide) _ _ _).trans ?_
    unfold trip_k0_t1.sl.HW_arg6_11
    refine (band_miss _ _ _ (by decide) _ _ _).trans ?_
    unfold trip_k0_t1.sl.HW_arg6_10
    exact band_hit _ _ _ (by decide) _ _ _
  · refine (congrArg (St _ _ _ _ _ _) ?_).mpr s2
    refine (band_miss _ _ _ (by decide) _ _ _).trans ?_
    unfold trip_k0_t1.sl.HW_arg6_15
    refine (band_miss _ _ _ (by decide) _ _ _).trans ?_
    unfold trip_k0_t1.sl.HW_arg6_14
    refine (band_miss _ _ _ (by decide) _ _ _).trans ?_
    unfold trip_k0_t1.sl.HW_arg6_13
    refine (band_miss _ _ _ (by decide) _ _ _).trans ?_
    unfold trip_k0_t1.sl.HW_arg6_12
    refine (band_miss _ _ _ (by decide) _ _ _).trans ?_
    unfold trip_k0_t1.sl.HW_arg6_11
    exact band_hit _ _ _ (by decide) _ _ _
  · refine (congrArg (St _ _ _ _ _ _) ?_).mpr s3
    refine (band_miss _ _ _ (by decide) _ _ _).trans ?_
    unfold trip_k0_t1.sl.HW_arg6_15
    refine (band_miss _ _ _ (by decide) _ _ _).trans ?_
    unfold trip_k0_t1.sl.HW_arg6_14
    refine (band_miss _ _ _ (by decide) _ _ _).trans ?_
    unfold trip_k0_t1.sl.HW_arg6_13
    refine (band_miss _ _ _ (by decide) _ _ _).trans ?_
    unfold trip_k0_t1.sl.HW_arg6_12
    exact band_hit _ _ _ (by decide) _ _ _
  · refine (congrArg (St _ _ _ _ _ _) ?_).mpr s4
    refine (band_miss _ _ _ (by decide) _ _ _).trans ?_
    unfold trip_k0_t1.sl.HW_arg6_15
    refine (band_miss _ _ _ (by decide) _ _ _).trans ?_
    unfold trip_k0_t1.sl.HW_arg6_14
    refine (band_miss _ _ _ (by decide) _ _ _).trans ?_
    unfold trip_k0_t1.sl.HW_arg6_13
    exact band_hit _ _ _ (by decide) _ _ _
  · refine (congrArg (St _ _ _ _ _ _) ?_).mpr s5
    refine (band_miss _ _ _ (by decide) _ _ _).trans ?_
    unfold trip_k0_t1.sl.HW_arg6_15
    refine (band_miss _ _ _ (by decide) _ _ _).trans ?_
    unfold trip_k0_t1.sl.HW_arg6_14
    exact band_hit _ _ _ (by decide) _ _ _
  · refine (congrArg (St _ _ _ _ _ _) ?_).mpr s6
    refine (band_miss _ _ _ (by decide) _ _ _).trans ?_
    unfold trip_k0_t1.sl.HW_arg6_15
    exact band_hit _ _ _ (by decide) _ _ _
  · refine (congrArg (St _ _ _ _ _ _) ?_).mpr s7
    exact band_hit _ _ _ (by decide) _ _ _
  · exact fun a x y => fillB i arg3 harg3 arg4 harg4 arg6 arg7 arg8 Q x1 x2 k acc f6 f7 hk f7 a x y

/-- The invariant after `n` trips. -/
theorem loop_ok (G6 : BufTy.Contents (Elt Ideal) arg6.view.ty) (G7 : BufTy.Contents (Elt Ideal) arg7.view.ty) (G8 : BufTy.Contents (Elt Ideal) arg8.view.ty) (init : Carry)
    (h0 : Ok (sc Q x1) (wv x2) 0 init (band arg6 G6) (slab arg7 G7)) (n : ℕ) (hn : n ≤ (k0_t1_loop i).trips) :
    Ok (sc Q x1) (wv x2) (2048 * n)
      (st_k0_t1 (F := Ideal) 𝒱 c bd i arg2 harg2 arg3 harg3 arg4 harg4 arg5 harg5 arg6 harg6 arg7 harg7 arg8 harg8 Q v9 v10 v11 v12 v13 v14 v15 v16 v17 v18 v19 v20 v21 v22 v23 v24 v25 v29 (harg3.unread x1) (harg4.unread x2) G6 G7 G8 init n).1
      (band arg6 (arg6.view.writes (Elt Ideal) G6 (st_k0_t1 (F := Ideal) 𝒱 c bd i arg2 harg2 arg3 harg3 arg4 harg4 arg5 harg5 arg6 harg6 arg7 harg7 arg8 harg8 Q v9 v10 v11 v12 v13 v14 v15 v16 v17 v18 v19 v20 v21 v22 v23 v24 v25 v29 (harg3.unread x1) (harg4.unread x2) G6 G7 G8 init n).2.1))
      (slab arg7 (arg7.view.writes (Elt Ideal) G7 (st_k0_t1 (F := Ideal) 𝒱 c bd i arg2 harg2 arg3 harg3 arg4 harg4 arg5 harg5 arg6 harg6 arg7 harg7 arg8 harg8 Q v9 v10 v11 v12 v13 v14 v15 v16 v17 v18 v19 v20 v21 v22 v23 v24 v25 v29 (harg3.unread x1) (harg4.unread x2) G6 G7 G8 init n).2.2.1)) := by
  induction n with
  | zero => exact h0
  | succ n ih =>
    have h := trip_ok 𝒱 c bd i arg2 harg2 arg3 harg3 arg4 harg4 arg5 harg5 arg6 harg6 arg7 harg7 arg8 harg8 Q v9 v10 v11 v12 v13 v14 v15 v16 v17 v18 v19 v20 v21 v22 v23 v24 v25 v29 x1 x2 ⟨n, hn⟩ _ _ _ (arg8.view.writes (Elt Ideal) G8 (st_k0_t1 (F := Ideal) 𝒱 c bd i arg2 harg2 arg3 harg3 arg4 harg4 arg5 harg5 arg6 harg6 arg7 harg7 arg8 harg8 Q v9 v10 v11 v12 v13 v14 v15 v16 v17 v18 v19 v20 v21 v22 v23 v24 v25 v29 (harg3.unread x1) (harg4.unread x2) G6 G7 G8 init n).2.2.2) (ih (by omega))
    rw [show n + 1 = (⟨n, hn⟩ : Fin (k0_t1_loop i).trips).val + 1 from rfl, st_k0_t1_succ]
    dsimp only
    rw [View.writes_append, View.writes_append]
    exact h

end

end Cert.Flash

end
-- ==== Proof.BodyRun.lean ====
/- The flash attention kernel's body run once on whole staging memrefs: it terminates, its input blocks come back as they
   were, and its output block is the list of pieces that the run stored, as a function of what the three scratch buffers
   held before. -/
module

public import proofs.«01_k».proof.Proof.Gen.KernelIdeal.Frame.Runs
public import proofs.«01_k».proof.Proof.Gen.KernelIdeal.Loops

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body's run: from the input blocks `x0`, `x1`, `x2`, an output buffer at `f3` and the scratch buffers at `f6`,
    `f7`, `f8`, the body ends with the inputs as they were and the output buffer overwritten by the pieces found. -/
def bodyRun (c : Dev nD) (i : grid0.Coords) (arg2 : Memref sig .tc .vmem S1x2048x192 .f32) (harg2 : arg2.IsWhole) (arg3 : Memref sig .tc .vmem S1x16384x192 .bf16) (harg3 : arg3.IsWhole) (arg4 : Memref sig .tc .vmem S128x16384 .bf16) (harg4 : arg4.IsWhole) (arg5 : Memref sig .tc .vmem S2048x128 .bf16) (harg5 : arg5.IsWhole) (arg6 : Memref sig .tc .vmem S128x2048 .f32) (harg6 : arg6.IsWhole) (arg7 : Memref sig .tc .vmem S8x1024x256 .f32) (harg7 : arg7.IsWhole) (arg8 : Memref sig .tc .vmem S8x1024x256 .f32) (harg8 : arg8.IsWhole)
    (x0 : Vec F S1x2048x192 .f32) (x1 : Vec F S1x16384x192 .bf16) (x2 : Vec F S128x16384 .bf16) :
    { L : BufTy.Contents (Elt F) arg6.view.ty → BufTy.Contents (Elt F) arg7.view.ty → BufTy.Contents (Elt F) arg8.view.ty → List (View.Piece (Elt F) S2048x128 .bf16) //
      ∀ (E : Set ℕ) (K : PUnit → sProp 𝕄) (f3 : BufTy.Contents (Elt F) arg5.view.ty) (f6 : BufTy.Contents (Elt F) arg6.view.ty) (f7 : BufTy.Contents (Elt F) arg7.view.ty) (f8 : BufTy.Contents (Elt F) arg8.view.ty),
        iprop(owns (c : Thread nD τ) arg2 fullShare x0 ∗ owns (c : Thread nD τ) arg3 fullShare x1 ∗ owns (c : Thread nD τ) arg4 fullShare x2
            ∗ (arg5.view.loc (c : Thread nD τ) ↦[arg5.view.set]{fullShare} f3)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) f3 (L f6 f7 f8))
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mla_flash_prompt i arg2 harg2 arg3 harg3 arg4 harg4 arg5 harg5 arg6 harg6 arg7 harg7 arg8 harg8) K } := by
  refine ⟨?_, fun E K f3 f6 f7 f8 => ?run⟩
  case run =>
    simp only [cc0_mla_flash_prompt_eq_skeleton]; unfold cc0_mla_flash_prompt_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, H3, HS0, HS1, HS2, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Flash

end
-- ==== Proof.End.lean ====
/- What the body's run holds when its loops are done: the invariant with every key block before the diagonal taken. -/
module

public import proofs.«01_k».proof.Proof.Trips
public import proofs.«01_k».proof.Proof.BodyRun

@[expose] public section

set_option maxRecDepth 16384

noncomputable section

namespace Cert.Flash

open Cert.KernelIdeal Cert.KernelIdeal.Gen
open Idealize.ShloMosaic Idealize.ShloMosaic.TcCoe

/-- The scaled queries of the block. -/
abbrev qs (c : Dev nD) (arg2 : Memref sig .tc .vmem S1x2048x192 .f32) (harg2 : arg2.IsWhole) (x0 : Vec Ideal S1x2048x192 .f32) : FVec Ideal S2048x192 .bf16 :=
  bodyRun.sl.r (F := Ideal) c arg2 harg2 x0

section
variable (c : Dev nD) (i : grid0.Coords) (arg2 : Memref sig .tc .vmem S1x2048x192 .f32) (harg2 : arg2.IsWhole) (arg3 : Memref sig .tc .vmem S1x16384x192 .bf16) (harg3 : arg3.IsWhole) (arg4 : Memref sig .tc .vmem S128x16384 .bf16) (harg4 : arg4.IsWhole) (arg5 : Memref sig .tc .vmem S2048x128 .bf16) (harg5 : arg5.IsWhole) (arg6 : Memref sig .tc .vmem S128x2048 .f32) (harg6 : arg6.IsWhole) (arg7 : Memref sig .tc .vmem S8x1024x256 .f32) (harg7 : arg7.IsWhole) (arg8 : Memref sig .tc .vmem S8x1024x256 .f32) (harg8 : arg8.IsWhole)
    (x0 : Vec Ideal S1x2048x192 .f32) (x1 : Vec Ideal S1x16384x192 .bf16) (x2 : Vec Ideal S128x16384 .bf16) (f8 : BufTy.Contents (Elt Ideal) arg8.view.ty)
include c i arg2 harg2 arg3 harg3 arg4 harg4 arg5 harg5 arg6 harg6 arg7 harg7 arg8 harg8 x0 x1 x2 f8

/-- The first loop's end state. -/
def S1 : Carry × List (View.Piece (Elt Ideal) S128x2048 .f32) × List (View.Piece (Elt Ideal) S8x1024x256 .f32) × List (View.Piece (Elt Ideal) S8x1024x256 .f32) :=
  (st_k0_t1 (F := Ideal) Variants.none c none i arg2 harg2 arg3 harg3 arg4 harg4 arg5 harg5 arg6 harg6 arg7 harg7 arg8 harg8 (bodyRun.sl.r (F := Ideal) c arg2 harg2 x0) k0_pay242 k0_pay243 k0_pay244 k0_pay245 k0_pay246 k0_pay247 k0_pay248 k0_pay249 k0_pay250 k0_pay251 k0_pay252 k0_pay253 k0_pay254 k0_pay255 k0_pay256 k0_pay257 (bodyRun.sl.v25 i) (bodyRun.sl.r_1 (F := Ideal) c arg3 harg3 x1) (harg3.unread x1) (harg4.unread x2) (arg6.view.writes (Elt Ideal) arg6.view.junk (bodyRun.sl.HS0_1 (F := Ideal))) (arg7.view.writes (Elt Ideal) arg7.view.junk (bodyRun.sl.HS1_8 (F := Ideal) c arg2 harg2 arg3 harg3 x0 x1)) f8 (k0_pay242, k0_pay243, k0_pay244, k0_pay245, k0_pay246, k0_pay247, k0_pay248, k0_pay249, k0_pay250, k0_pay251, k0_pay252, k0_pay253, k0_pay254, k0_pay255, k0_pay256, k0_pay257) (Scf.trips (k0_t1_loop i).lb (k0_t1_loop i).ub (k0_t1_loop i).st))

/-- The second loop's end state. -/
def S2 : Carry × List (View.Piece (Elt Ideal) S128x2048 .f32) × List (View.Piece (Elt Ideal) S8x1024x256 .f32) × List (View.Piece (Elt Ideal) S8x1024x256 .f32) :=
  (st_k0_t2 (F := Ideal) Variants.none c none i arg2 harg2 arg3 harg3 arg4 harg4 arg5 harg5 arg6 harg6 arg7 harg7 arg8 harg8 (bodyRun.sl.r (F := Ideal) c arg2 harg2 x0) k0_pay242 k0_pay243 k0_pay244 k0_pay245 k0_pay246 k0_pay247 k0_pay248 k0_pay249 k0_pay250 k0_pay251 k0_pay252 k0_pay253 k0_pay254 k0_pay255 k0_pay256 k0_pay257 (bodyRun.sl.v25 i) (bodyRun.sl.r_1 (F := Ideal) c arg3 harg3 x1) (bodyRun.sl.v91 i) (harg3.unread x1) (harg4.unread x2) (arg6.view.writes (Elt Ideal) arg6.view.junk ((S1 c i arg2 harg2 arg3 harg3 arg4 harg4 arg5 harg5 arg6 harg6 arg7 harg7 arg8 harg8 x0 x1 x2 f8).2.1 ++ (bodyRun.sl.HS0_1 (F := Ideal)))) (arg7.view.writes (Elt Ideal) arg7.view.junk ((S1 c i arg2 harg2 arg3 harg3 arg4 harg4 arg5 harg5 arg6 harg6 arg7 harg7 arg8 harg8 x0 x1 x2 f8).2.2.1 ++ bodyRun.sl.HS1_8 (F := Ideal) c arg2 harg2 arg3 harg3 x0 x1)) (arg8.view.writes (Elt Ideal) f8 (S1 c i arg2 harg2 arg3 harg3 arg4 harg4 arg5 harg5 arg6 harg6 arg7 harg7 arg8 harg8 x0 x1 x2 f8).2.2.2) ((S1 c i arg2 harg2 arg3 harg3 arg4 harg4 arg5 harg5 arg6 harg6 arg7 harg7 arg8 harg8 x0 x1 x2 f8).1.1, (S1 c i arg2 harg2 arg3 harg3 arg4 harg4 arg5 harg5 arg6 harg6 arg7 harg7 arg8 harg8 x0 x1 x2 f8).1.2.1, (S1 c i arg2 harg2 arg3 harg3 arg4 harg4 arg5 harg5 arg6 harg6 arg7 harg7 arg8 harg8 x0 x1 x2 f8).1.2.2.1, (S1 c i arg2 harg2 arg3 harg3 arg4 harg4 arg5 harg5 arg6 harg6 arg7 harg7 arg8 harg8 x0 x1 x2 f8).1.2.2.2.1, (S1 c i arg2 harg2 arg3 harg3 arg4 harg4 arg5 harg5 arg6 harg6 arg7 harg7 arg8 harg8 x0 x1 x2 f8).1.2.2.2.2.1, (S1 c i arg2 harg2 arg3 harg3 arg4 harg4 arg5 harg5 arg6 harg6 arg7 harg7 arg8 harg8 x0 x1 x2 f8).1.2.2.2.2.2.1, (S1 c i arg2 harg2 arg3 harg3 arg4 harg4 arg5 harg5 arg6 harg6 arg7 harg7 arg8 harg8 x0 x1 x2 f8).1.2.2.2.2.2.2.1, (S1 c i arg2 harg2 arg3 harg3 arg4 harg4 arg5 harg5 arg6 harg6 arg7 harg7 arg8 harg8 x0 x1 x2 f8).1.2.2.2.2.2.2.2.1, (S1 c i arg2 harg2 arg3 harg3 arg4 harg4 arg5 harg5 arg6 harg6 arg7 harg7 arg8 harg8 x0 x1 x2 f8).1.2.2.2.2.2.2.2.2.1, (S1 c i arg2 harg2 arg3 harg3 arg4 harg4 arg5 harg5 arg6 harg6 arg7 harg7 arg8 harg8 x0 x1 x2 f8).1.2.2.2.2.2.2.2.2.2.1, (S1 c i arg2 harg2 arg3 harg3 arg4 harg4 arg5 harg5 arg6 harg6 arg7 harg7 arg8 harg8 x0 x1 x2 f8).1.2.2.2.2.2.2.2.2.2.2.1, (S1 c i arg2 harg2 arg3 harg3 arg4 harg4 arg5 harg5 arg6 harg6 arg7 harg7 arg8 harg8 x0 x1 x2 f8).1.2.2.2.2.2.2.2.2.2.2.2.1, (S1 c i arg2 harg2 arg3 harg3 arg4 harg4 arg5 harg5 arg6 harg6 arg7 harg7 arg8 harg8 x0 x1 x2 f8).1.2.2.2.2.2.2.2.2.2.2.2.2.1, (S1 c i arg2 harg2 arg3 harg3 arg4 harg4 arg5 harg5 arg6 harg6 arg7 harg7 arg8 harg8 x0 x1 x2 f8).1.2.2.2.2.2.2.2.2.2.2.2.2.2.1, (S1 c i arg2 harg2 arg3 harg3 arg4 harg4 arg5 harg5 arg6 harg6 arg7 harg7 arg8 harg8 x0 x1 x2 f8).1.2.2.2.2.2.2.2.2.2.2.2.2.2.2.1, (S1 c i arg2 harg2 arg3 harg3 arg4 harg4 arg5 harg5 arg6 harg6 arg7 harg7 arg8 harg8 x0 x1 x2 f8).1.2.2.2.2.2.2.2.2.2.2.2.2.2.2.2) (Scf.trips (k0_t2_loop i).lb (k0_t2_loop i).ub (k0_t2_loop i).st))

theorem S2_eq : S2 c i arg2 harg2 arg3 harg3 arg4 harg4 arg5 harg5 arg6 harg6 arg7 harg7 arg8 harg8 x0 x1 x2 f8 = ((S1 c i arg2 harg2 arg3 harg3 arg4 harg4 arg5 harg5 arg6 harg6 arg7 harg7 arg8 harg8 x0 x1 x2 f8).1, [], [], []) := by
  have e : Scf.trips (k0_t2_loop i).lb (k0_t2_loop i).ub (k0_t2_loop i).st = 0 := trips2 i
  unfold S2
  rw [e, st_k0_t2.eq_1]

attribute [local irreducible] st_k0_t1 st_k0_t2 in
theorem r2_eq : bodyRun.sl.r_2 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.1 := by
  delta bodyRun.sl.r_2 S2 S1
  rfl

attribute [local irreducible] st_k0_t1 st_k0_t2 in
theorem r3_eq : bodyRun.sl.r_3 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.1 := by
  delta bodyRun.sl.r_3 S2 S1
  rfl

attribute [local irreducible] st_k0_t1 st_k0_t2 in
theorem r4_eq : bodyRun.sl.r_4 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.1 := by
  delta bodyRun.sl.r_4 S2 S1
  rfl

attribute [local irreducible] st_k0_t1 st_k0_t2 in
theorem r5_eq : bodyRun.sl.r_5 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.1 := by
  delta bodyRun.sl.r_5 S2 S1
  rfl

attribute [local irreducible] st_k0_t1 st_k0_t2 in
theorem r6_eq : bodyRun.sl.r_6 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.1 := by
  delta bodyRun.sl.r_6 S2 S1
  rfl

attribute [local irreducible] st_k0_t1 st_k0_t2 in
theorem r7_eq : bodyRun.sl.r_7 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.1 := by
  delta bodyRun.sl.r_7 S2 S1
  rfl

attribute [local irreducible] st_k0_t1 st_k0_t2 in
theorem r8_eq : bodyRun.sl.r_8 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.1 := by
  delta bodyRun.sl.r_8 S2 S1
  rfl

attribute [local irreducible] st_k0_t1 st_k0_t2 in
theorem r9_eq : bodyRun.sl.r_9 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.1 := by
  delta bodyRun.sl.r_9 S2 S1
  rfl

attribute [local irreducible] st_k0_t1 st_k0_t2 in
theorem r10_eq : bodyRun.sl.r_10 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.1 := by
  delta bodyRun.sl.r_10 S2 S1
  rfl

attribute [local irreducible] st_k0_t1 st_k0_t2 in
theorem r11_eq : bodyRun.sl.r_11 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.2.1 := by
  delta bodyRun.sl.r_11 S2 S1
  rfl

attribute [local irreducible] st_k0_t1 st_k0_t2 in
theorem r12_eq : bodyRun.sl.r_12 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.2.2.1 := by
  delta bodyRun.sl.r_12 S2 S1
  rfl

attribute [local irreducible] st_k0_t1 st_k0_t2 in
theorem r13_eq : bodyRun.sl.r_13 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.2.2.2.1 := by
  delta bodyRun.sl.r_13 S2 S1
  rfl

attribute [local irreducible] st_k0_t1 st_k0_t2 in
theorem r14_eq : bodyRun.sl.r_14 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.2.2.2.2.1 := by
  delta bodyRun.sl.r_14 S2 S1
  rfl

attribute [local irreducible] st_k0_t1 st_k0_t2 in
theorem r15_eq : bodyRun.sl.r_15 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.2.2.2.2.2.1 := by
  delta bodyRun.sl.r_15 S2 S1
  rfl

attribute [local irreducible] st_k0_t1 st_k0_t2 in
theorem r16_eq : bodyRun.sl.r_16 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.2.2.2.2.2.2.1 := by
  delta bodyRun.sl.r_16 S2 S1
  rfl

attribute [local irreducible] st_k0_t1 st_k0_t2 in
theorem r17_eq : bodyRun.sl.r_17 (F := Ideal) c i arg2 harg2 arg3 harg3 arg4 harg4 arg5 harg5 arg6 harg6 arg7 harg7 arg8 harg8 x0 x1 x2 f8 = (S2 c i arg2 harg2 arg3 harg3 arg4 harg4 arg5 harg5 arg6 harg6 arg7 harg7 arg8 harg8 x0 x1 x2 f8).1.2.2.2.2.2.2.2.2.2.2.2.2.2.2.2 := by
  delta bodyRun.sl.r_17 S2 S1
  rfl

/-- The bands' pieces and the slabs' pieces when the loops are done. -/
def L6 : List (View.Piece (Elt Ideal) S128x2048 .f32) := (S2 c i arg2 harg2 arg3 harg3 arg4 harg4 arg5 harg5 arg6 harg6 arg7 harg7 arg8 harg8 x0 x1 x2 f8).2.1 ++ ((S1 c i arg2 harg2 arg3 harg3 arg4 harg4 arg5 harg5 arg6 harg6 arg7 harg7 arg8 harg8 x0 x1 x2 f8).2.1 ++ bodyRun.sl.HS0_1 (F := Ideal))
def L7 : List (View.Piece (Elt Ideal) S8x1024x256 .f32) := (S2 c i arg2 harg2 arg3 harg3 arg4 harg4 arg5 harg5 arg6 harg6 arg7 harg7 arg8 harg8 x0 x1 x2 f8).2.2.1 ++ ((S1 c i arg2 harg2 arg3 harg3 arg4 harg4 arg5 harg5 arg6 harg6 arg7 harg7 arg8 harg8 x0 x1 x2 f8).2.2.1 ++ bodyRun.sl.HS1_8 (F := Ideal) c arg2 harg2 arg3 harg3 x0 x1)

/-- The state at the first loop's entry. -/
theorem start_ok (g6 : BufTy.Contents (Elt Ideal) arg6.view.ty) (g7 : BufTy.Contents (Elt Ideal) arg7.view.ty) :
    Ok (sc (qs c arg2 harg2 x0) x1) (wv x2) 0 (k0_pay242 (F := Ideal), k0_pay243 (F := Ideal), k0_pay244 (F := Ideal), k0_pay245 (F := Ideal), k0_pay246 (F := Ideal), k0_pay247 (F := Ideal), k0_pay248 (F := Ideal), k0_pay249 (F := Ideal), k0_pay250 (F := Ideal), k0_pay251 (F := Ideal), k0_pay252 (F := Ideal), k0_pay253 (F := Ideal), k0_pay254 (F := Ideal), k0_pay255 (F := Ideal), k0_pay256 (F := Ideal), k0_pay257 (F := Ideal))
      (band arg6 (arg6.view.writes (Elt Ideal) g6 (bodyRun.sl.HS0_1 (F := Ideal))))
      (slab arg7 (arg7.view.writes (Elt Ideal) g7 (bodyRun.sl.HS1_8 (F := Ideal) c arg2 harg2 arg3 harg3 x0 x1))) := by
  have hb : ∀ (g : Fin 8) (v : Fin 128) (y : Fin 256), band arg6 (arg6.view.writes (Elt Ideal) g6 (bodyRun.sl.HS0_1 (F := Ideal))) g (ix2 v y) = 0 := by
    intro g v y
    unfold bodyRun.sl.HS0_1
    refine (View.read_writes_cons_unit_of_mem arg6.view g6 _ _ [] _ (ix2 v (colIx g y)) rfl ?_).trans ?_
    · intro a
      fin_cases a
      · show v.val = 0 + v.val
        omega
      · show (colIx g y).val = 0 + (colIx g y).val
        omega
    · pointwise [k0_pay241]
  constructor
  · refine ⟨fun y => ?_, fun y => ?_, fun v y => ?_⟩
    · refine Eq.trans (b := Ideal.ofBits FTy.f32 0xFF800000#32) rfl negInf
    · show k0_pay243 (F := Ideal) (ix2 0 y) = 0
      pointwise [k0_pay243]
    · exact hb 0 v y
  · refine ⟨fun y => ?_, fun y => ?_, fun v y => ?_⟩
    · refine Eq.trans (b := Ideal.ofBits FTy.f32 0xFF800000#32) rfl negInf
    · show k0_pay245 (F := Ideal) (ix2 0 y) = 0
      pointwise [k0_pay245]
    · exact hb 1 v y
  · refine ⟨fun y => ?_, fun y => ?_, fun v y => ?_⟩
    · refine Eq.trans (b := Ideal.ofBits FTy.f32 0xFF800000#32) rfl negInf
    · show k0_pay247 (F := Ideal) (ix2 0 y) = 0
      pointwise [k0_pay247]
    · exact hb 2 v y
  · refine ⟨fun y => ?_, fun y => ?_, fun v y => ?_⟩
    · refine Eq.trans (b := Ideal.ofBits FTy.f32 0xFF800000#32) rfl negInf
    · show k0_pay249 (F := Ideal) (ix2 0 y) = 0
      pointwise [k0_pay249]
    · exact hb 3 v y
  · refine ⟨fun y => ?_, fun y => ?_, fun v y => ?_⟩
    · refine Eq.trans (b := Ideal.ofBits FTy.f32 0xFF800000#32) rfl negInf
    · show k0_pay251 (F := Ideal) (ix2 0 y) = 0
      pointwise [k0_pay251]
    · exact hb 4 v y
  · refine ⟨fun y => ?_, fun y => ?_, fun v y => ?_⟩
    · refine Eq.trans (b := Ideal.ofBits FTy.f32 0xFF800000#32) rfl negInf
    · show k0_pay253 (F := Ideal) (ix2 0 y) = 0
      pointwise [k0_pay253]
    · exact hb 5 v y
  · refine ⟨fun y => ?_, fun y => ?_, fun v y => ?_⟩
    · refine Eq.trans (b := Ideal.ofBits FTy.f32 0xFF800000#32) rfl negInf
    · show k0_pay255 (F := Ideal) (ix2 0 y) = 0
      pointwise [k0_pay255]
    · exact hb 6 v y
  · refine ⟨fun y => ?_, fun y => ?_, fun v y => ?_⟩
    · refine Eq.trans (b := Ideal.ofBits FTy.f32 0xFF800000#32) rfl negInf
    · show k0_pay257 (F := Ideal) (ix2 0 y) = 0
      pointwise [k0_pay257]
    · exact hb 7 v y
  · intro g x y
    unfold bodyRun.sl.HS1_8
    fin_cases g
    · refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_hit _ _ _ (by decide) _ _ _ _ _).trans ?_
      exact fill1024 (bodyRun.sl.r_1 (F := Ideal) c arg3 harg3 x1) (qs c arg2 harg2 x0) rfl (by decide : 0 < 8) _ _ x1 0 (by omega) (fun x d => kblock arg3 harg3 x1 rfl (by omega) _ _ x d) x y
    · refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_hit _ _ _ (by decide) _ _ _ _ _).trans ?_
      exact fill1024 (bodyRun.sl.r_1 (F := Ideal) c arg3 harg3 x1) (qs c arg2 harg2 x0) rfl (by decide : 1 < 8) _ _ x1 0 (by omega) (fun x d => kblock arg3 harg3 x1 rfl (by omega) _ _ x d) x y
    · refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_hit _ _ _ (by decide) _ _ _ _ _).trans ?_
      exact fill1024 (bodyRun.sl.r_1 (F := Ideal) c arg3 harg3 x1) (qs c arg2 harg2 x0) rfl (by decide : 2 < 8) _ _ x1 0 (by omega) (fun x d => kblock arg3 harg3 x1 rfl (by omega) _ _ x d) x y
    · refine (slab_miss _ _ _ (by decide) _ _ _ _ _).trans ?_
      refine (slab_miss _ _ _ (by decide) _ _ _ _ _).trans ?_
      refine (slab_miss _ _ _ (by decide) _ _ _ _ _).trans ?_
      refine (slab_miss _ _ _ (by decide) _ _ _ _ _).trans ?_
      refine (slab_hit _ _ _ (by decide) _ _ _ _ _).trans ?_
      exact fill1024 (bodyRun.sl.r_1 (F := Ideal) c arg3 harg3 x1) (qs c arg2 harg2 x0) rfl (by decide : 3 < 8) _ _ x1 0 (by omega) (fun x d => kblock arg3 harg3 x1 rfl (by omega) _ _ x d) x y
    · refine (slab_miss _ _ _ (by decide) _ _ _ _ _).trans ?_
      refine (slab_miss _ _ _ (by decide) _ _ _ _ _).trans ?_
      refine (slab_miss _ _ _ (by decide) _ _ _ _ _).trans ?_
      refine (slab_hit _ _ _ (by decide) _ _ _ _ _).trans ?_
      exact fill1024 (bodyRun.sl.r_1 (F := Ideal) c arg3 harg3 x1) (qs c arg2 harg2 x0) rfl (by decide : 4 < 8) _ _ x1 0 (by omega) (fun x d => kblock arg3 harg3 x1 rfl (by omega) _ _ x d) x y
    · refine (slab_miss _ _ _ (by decide) _ _ _ _ _).trans ?_
      refine (slab_miss _ _ _ (by decide) _ _ _ _ _).trans ?_
      refine (slab_hit _ _ _ (by decide) _ _ _ _ _).trans ?_
      exact fill1024 (bodyRun.sl.r_1 (F := Ideal) c arg3 harg3 x1) (qs c arg2 harg2 x0) rfl (by decide : 5 < 8) _ _ x1 0 (by omega) (fun x d => kblock arg3 harg3 x1 rfl (by omega) _ _ x d) x y
    · refine (slab_miss _ _ _ (by decide) _ _ _ _ _).trans ?_
      refine (slab_hit _ _ _ (by decide) _ _ _ _ _).trans ?_
      exact fill1024 (bodyRun.sl.r_1 (F := Ideal) c arg3 harg3 x1) (qs c arg2 harg2 x0) rfl (by decide : 6 < 8) _ _ x1 0 (by omega) (fun x d => kblock arg3 harg3 x1 rfl (by omega) _ _ x d) x y
    · refine (slab_hit _ _ _ (by decide) _ _ _ _ _).trans ?_
      exact fill1024 (bodyRun.sl.r_1 (F := Ideal) c arg3 harg3 x1) (qs c arg2 harg2 x0) rfl (by decide : 7 < 8) _ _ x1 0 (by omega) (fun x d => kblock arg3 harg3 x1 rfl (by omega) _ _ x d) x y

attribute [local irreducible] st_k0_t1 st_k0_t2 in
/-- The state when the loops are done. -/
theorem end_ok : Ok (sc (qs c arg2 harg2 x0) x1) (wv x2) (2048 * (i 1).val) (bodyRun.sl.r_2 (F := Ideal) c i arg2 harg2 arg3 harg3 arg4 harg4 arg5 harg5 arg6 harg6 arg7 harg7 arg8 harg8 x0 x1 x2 f8, bodyRun.sl.r_3 (F := Ideal) c i arg2 harg2 arg3 harg3 arg4 harg4 arg5 harg5 arg6 harg6 arg7 harg7 arg8 harg8 x0 x1 x2 f8, bodyRun.sl.r_4 (F := Ideal) c i arg2 harg2 arg3 harg3 arg4 harg4 arg5 harg5 arg6 harg6 arg7 harg7 arg8 harg8 x0 x1 x2 f8, bodyRun.sl.r_5 (F := Ideal) c i arg2 harg2 arg3 harg3 arg4 harg4 arg5 harg5 arg6 harg6 arg7 harg7 arg8 harg8 x0 x1 x2 f8, bodyRun.sl.r_6 (F := Ideal) c i arg2 harg2 arg3 harg3 arg4 harg4 arg5 harg5 arg6 harg6 arg7 harg7 arg8 harg8 x0 x1 x2 f8, bodyRun.sl.r_7 (F := Ideal) c i arg2 harg2 arg3 harg3 arg4 harg4 arg5 harg5 arg6 harg6 arg7 harg7 arg8 harg8 x0 x1 x2 f8, bodyRun.sl.r_8 (F := Ideal) c i arg2 harg2 arg3 harg3 arg4 harg4 arg5 harg5 arg6 harg6 arg7 harg7 arg8 harg8 x0 x1 x2 f8, bodyRun.sl.r_9 (F := Ideal) c i arg2 harg2 arg3 harg3 arg4 harg4 arg5 harg5 arg6 harg6 arg7 harg7 arg8 harg8 x0 x1 x2 f8, bodyRun.sl.r_10 (F := Ideal) c i arg2 harg2 arg3 harg3 arg4 harg4 arg5 harg5 arg6 harg6 arg7 harg7 arg8 harg8 x0 x1 x2 f8, bodyRun.sl.r_11 (F := Ideal) c i arg2 harg2 arg3 harg3 arg4 harg4 arg5 harg5 arg6 harg6 arg7 harg7 arg8 harg8 x0 x1 x2 f8, bodyRun.sl.r_12 (F := Ideal) c i arg2 harg2 arg3 harg3 arg4 harg4 arg5 harg5 arg6 harg6 arg7 harg7 arg8 harg8 x0 x1 x2 f8, bodyRun.sl.r_13 (F := Ideal) c i arg2 harg2 arg3 harg3 arg4 harg4 arg5 harg5 arg6 harg6 arg7 harg7 arg8 harg8 x0 x1 x2 f8, bodyRun.sl.r_14 (F := Ideal) c i arg2 harg2 arg3 harg3 arg4 harg4 arg5 harg5 arg6 harg6 arg7 harg7 arg8 harg8 x0 x1 x2 f8, bodyRun.sl.r_15 (F := Ideal) c i arg2 harg2 arg3 harg3 arg4 harg4 arg5 harg5 arg6 harg6 arg7 harg7 arg8 harg8 x0 x1 x2 f8, bodyRun.sl.r_16 (F := Ideal) c i arg2 harg2 arg3 harg3 arg4 harg4 arg5 harg5 arg6 harg6 arg7 harg7 arg8 harg8 x0 x1 x2 f8, bodyRun.sl.r_17 (F := Ideal) c i arg2 harg2 arg3 harg3 arg4 harg4 arg5 harg5 arg6 harg6 arg7 harg7 arg8 harg8 x0 x1 x2 f8)
      (band arg6 (arg6.view.writes (Elt Ideal) arg6.view.junk (L6 c i arg2 harg2 arg3 harg3 arg4 harg4 arg5 harg5 arg6 harg6 arg7 harg7 arg8 harg8 x0 x1 x2 f8)))
      (slab arg7 (arg7.view.writes (Elt Ideal) arg7.view.junk (L7 c i arg2 harg2 arg3 harg3 arg4 harg4 arg5 harg5 arg6 harg6 arg7 harg7 arg8 harg8 x0 x1 x2 f8))) := by
  have e : Scf.trips (k0_t1_loop i).lb (k0_t1_loop i).ub (k0_t1_loop i).st = (i 1).val := trips1 i
  have h := loop_ok Variants.none c none i arg2 harg2 arg3 harg3 arg4 harg4 arg5 harg5 arg6 harg6 arg7 harg7 arg8 harg8 (qs c arg2 harg2 x0) k0_pay242 k0_pay243 k0_pay244 k0_pay245 k0_pay246 k0_pay247 k0_pay248 k0_pay249 k0_pay250 k0_pay251 k0_pay252 k0_pay253 k0_pay254 k0_pay255 k0_pay256 k0_pay257 (bodyRun.sl.v25 i) (bodyRun.sl.r_1 (F := Ideal) c arg3 harg3 x1) x1 x2
    (arg6.view.writes (Elt Ideal) arg6.view.junk (bodyRun.sl.HS0_1 (F := Ideal))) (arg7.view.writes (Elt Ideal) arg7.view.junk (bodyRun.sl.HS1_8 (F := Ideal) c arg2 harg2 arg3 harg3 x0 x1)) f8
    (k0_pay242, k0_pay243, k0_pay244, k0_pay245, k0_pay246, k0_pay247, k0_pay248, k0_pay249, k0_pay250, k0_pay251, k0_pay252, k0_pay253, k0_pay254, k0_pay255, k0_pay256, k0_pay257) (start_ok c i arg2 harg2 arg3 harg3 arg4 harg4 arg5 harg5 arg6 harg6 arg7 harg7 arg8 harg8 x0 x1 x2 f8 _ _) (Scf.trips (k0_t1_loop i).lb (k0_t1_loop i).ub (k0_t1_loop i).st) le_rfl
  rw [show 2048 * Scf.trips (k0_t1_loop i).lb (k0_t1_loop i).ub (k0_t1_loop i).st = 2048 * (i 1).val by rw [e]] at h
  rw [r2_eq, r3_eq, r4_eq, r5_eq, r6_eq, r7_eq, r8_eq, r9_eq, r10_eq, r11_eq, r12_eq, r13_eq, r14_eq, r15_eq, r16_eq, r17_eq]
  unfold L6 L7
  rw [S2_eq]
  dsimp only
  rw [List.nil_append, List.nil_append, View.writes_append, View.writes_append]
  exact h

end

end Cert.Flash

end
-- ==== Proof.Diag.lean ====
/- The diagonal: each group of queries takes the keys of its own 2048-key stretch, those above the diagonal masked, and the
   block written back is each query's weighted values over its sum of weights. -/
module

public import proofs.«01_k».proof.Proof.End

@[expose] public section

set_option maxRecDepth 16384

noncomputable section

namespace Cert.Flash

open Cert.KernelIdeal Cert.KernelIdeal.Gen
open Idealize.ShloMosaic Idealize.ShloMosaic.TcCoe

/-- The scores of the block starting at query `b`, with the keys after each query masked. -/
def sM (b : ℕ) (s : ℕ → ℕ → EReal) (q k : ℕ) : EReal := if k ≤ b + q then s q k else ⊥

/-- The kernel's mask: row `x` from `a` on is kept at column `y` from `b` on when it isn't past it. -/
theorem mask_select {α : Type} (a b x y : ℕ) (ha : a < 2048) (hb : b < 2048) (hx : x < 1024) (hy : y < 256) (s t : α) :
    Scalar.select (IntOp.cmpi CmpIPredicate.sle (IntOp.addi (BitVec.ofNat 32 a) (BitVec.ofNat 32 x)) (IntOp.addi (BitVec.ofNat 32 b) (BitVec.ofNat 32 y))) s t
      = if a + x ≤ b + y then s else t := by
  have e1 : IntOp.addi (BitVec.ofNat 32 a) (BitVec.ofNat 32 x) = BitVec.ofNat 32 (a + x) := (BitVec.ofNat_add ..).symm
  have e2 : IntOp.addi (BitVec.ofNat 32 b) (BitVec.ofNat 32 y) = BitVec.ofNat 32 (b + y) := (BitVec.ofNat_add ..).symm
  have t1 : (BitVec.ofNat 32 (a + x)).toInt = (a + x : ℕ) := by
    rw [BitVec.toInt_eq_toNat_of_lt] <;> simp only [BitVec.toNat_ofNat] <;> omega
  have t2 : (BitVec.ofNat 32 (b + y)).toInt = (b + y : ℕ) := by
    rw [BitVec.toInt_eq_toNat_of_lt] <;> simp only [BitVec.toNat_ofNat] <;> omega
  rw [e1, e2]
  simp only [Scalar.select, IntOp.cmpi, BitVec.sle, t1, t2, Nat.cast_le]
  by_cases h : a + x ≤ b + y <;> simp [h]

theorem mx_tail (s : ℕ → EReal) {n N : ℕ} (h : n ≤ N) (hs : ∀ k, n ≤ k → k < N → s k = ⊥) : mx s N = mx s n := by
  refine le_antisymm (Finset.sup_le fun k hk => ?_) (Finset.sup_mono (Finset.range_mono h))
  by_cases hkn : k < n
  · exact le_mx s hkn
  · rw [hs k (by omega) (Finset.mem_range.mp hk)]
    exact bot_le

theorem ls_tail (s : ℕ → EReal) {n N : ℕ} (h : n ≤ N) (hs : ∀ k, n ≤ k → k < N → s k = ⊥) : ls s N = ls s n := by
  unfold ls
  rw [mx_tail s h hs]
  refine (Finset.sum_subset (Finset.range_mono h) fun k hk hk' => ?_).symm
  rw [Finset.mem_range] at hk hk'
  rw [hs k (by omega) hk, EReal.bot_sub, Ideal.exp2_bot]

theorem ac_tail (s w : ℕ → EReal) {n N : ℕ} (h : n ≤ N) (hs : ∀ k, n ≤ k → k < N → s k = ⊥) : ac s w N = ac s w n := by
  unfold ac
  rw [mx_tail s h hs]
  refine (Finset.sum_subset (Finset.range_mono h) fun k hk hk' => ?_).symm
  rw [Finset.mem_range] at hk hk'
  rw [hs k (by omega) hk, EReal.bot_sub, Ideal.exp2_bot, mul_zero]

/-- The running quantities see only the scores of the keys taken. -/
theorem St.congr {s s' w : ℕ → ℕ → EReal} {q0 n : ℕ} {m l : FVec Ideal S1x256 .f32} {a : FVec Ideal S128x256 .f32} (h : St s w q0 n m l a)
    (hs : ∀ y < 256, ∀ k < n, s (q0 + y) k = s' (q0 + y) k) : St s' w q0 n m l a :=
  ⟨fun y => (h.hm y).trans (mx_congr fun k hk => hs y.val y.isLt k hk), fun y => (h.hl y).trans (ls_congr fun k hk => hs y.val y.isLt k hk),
    fun v y => (h.ha v y).trans (ac_congr _ fun k hk => hs y.val y.isLt k hk)⟩

/-- A block of 256 keys' scores under the mask. -/
def msk256 (a b : BitVec 32) (T : FVec Ideal S256x256 .f32) : FVec Ideal S256x256 .f32 :=
  select (cmpi .sle (addi (broadcast S256x256 a) (iota .tc S256x256 32 [0] iota_S256x256_d0_w32))
    (addi (broadcast S256x256 b) (iota .tc S256x256 32 [1] iota_S256x256_d1_w32))) T (broadcast S256x256 (Scalar.ofBits .f32 0xFF800000#32))

theorem msk256_apply (a b : ℕ) (ha : a < 2048) (hb : b < 2048) (T : FVec Ideal S256x256 .f32) (x : Fin 256) (y : Fin 256) :
    msk256 (BitVec.ofNat 32 a) (BitVec.ofNat 32 b) T (ix2 x y) = if a + x.val ≤ b + y.val then T (ix2 x y) else ⊥ := by
  pointwise [msk256]
  refine (mask_select a b x.val y.val ha hb (by omega) y.isLt _ _).trans ?_
  rw [show Ideal.ofBits FTy.f32 4286578688#32 = ⊥ from negInf]

theorem vslice256 (V : FVec Ideal S128x1024 .bf16) (h) (v : Fin 128) (x : Fin 256) : extractStridedSlice S128x256 ![0, 0] V h (ix2 v x) = V (ix2 v ⟨x.val, by omega⟩) := by
  pointwise

theorem kslice256 (V : FVec Ideal S1024x192 .bf16) (h) (x : Fin 256) (e : Fin 192) : extractStridedSlice S256x192 ![0, 0] V h (ix2 x e) = V (ix2 ⟨x.val, by omega⟩ e) := by
  pointwise

/-- A block of 512 keys' scores under the mask. -/
def msk512 (a b : BitVec 32) (T : FVec Ideal S512x256 .f32) : FVec Ideal S512x256 .f32 :=
  select (cmpi .sle (addi (broadcast S512x256 a) (iota .tc S512x256 32 [0] iota_S512x256_d0_w32))
    (addi (broadcast S512x256 b) (iota .tc S512x256 32 [1] iota_S512x256_d1_w32))) T (broadcast S512x256 (Scalar.ofBits .f32 0xFF800000#32))

theorem msk512_apply (a b : ℕ) (ha : a < 2048) (hb : b < 2048) (T : FVec Ideal S512x256 .f32) (x : Fin 512) (y : Fin 256) :
    msk512 (BitVec.ofNat 32 a) (BitVec.ofNat 32 b) T (ix2 x y) = if a + x.val ≤ b + y.val then T (ix2 x y) else ⊥ := by
  pointwise [msk512]
  refine (mask_select a b x.val y.val ha hb (by omega) y.isLt _ _).trans ?_
  rw [show Ideal.ofBits FTy.f32 4286578688#32 = ⊥ from negInf]

theorem vslice512 (V : FVec Ideal S128x1024 .bf16) (h) (v : Fin 128) (x : Fin 512) : extractStridedSlice S128x512 ![0, 0] V h (ix2 v x) = V (ix2 v ⟨x.val, by omega⟩) := by
  pointwise

theorem kslice512 (V : FVec Ideal S1024x192 .bf16) (h) (x : Fin 512) (e : Fin 192) : extractStridedSlice S512x192 ![0, 0] V h (ix2 x e) = V (ix2 ⟨x.val, by omega⟩ e) := by
  pointwise

/-- A block of 768 keys' scores under the mask. -/
def msk768 (a b : BitVec 32) (T : FVec Ideal S768x256 .f32) : FVec Ideal S768x256 .f32 :=
  select (cmpi .sle (addi (broadcast S768x256 a) (iota .tc S768x256 32 [0] iota_S768x256_d0_w32))
    (addi (broadcast S768x256 b) (iota .tc S768x256 32 [1] iota_S768x256_d1_w32))) T (broadcast S768x256 (Scalar.ofBits .f32 0xFF800000#32))

theorem msk768_apply (a b : ℕ) (ha : a < 2048) (hb : b < 2048) (T : FVec Ideal S768x256 .f32) (x : Fin 768) (y : Fin 256) :
    msk768 (BitVec.ofNat 32 a) (BitVec.ofNat 32 b) T (ix2 x y) = if a + x.val ≤ b + y.val then T (ix2 x y) else ⊥ := by
  pointwise [msk768]
  refine (mask_select a b x.val y.val ha hb (by omega) y.isLt _ _).trans ?_
  rw [show Ideal.ofBits FTy.f32 4286578688#32 = ⊥ from negInf]

theorem vslice768 (V : FVec Ideal S128x1024 .bf16) (h) (v : Fin 128) (x : Fin 768) : extractStridedSlice S128x768 ![0, 0] V h (ix2 v x) = V (ix2 v ⟨x.val, by omega⟩) := by
  pointwise

theorem kslice768 (V : FVec Ideal S1024x192 .bf16) (h) (x : Fin 768) (e : Fin 192) : extractStridedSlice S768x192 ![0, 0] V h (ix2 x e) = V (ix2 ⟨x.val, by omega⟩ e) := by
  pointwise

/-- A block of 1024 keys' scores under the mask. -/
def msk1024 (a b : BitVec 32) (T : FVec Ideal S1024x256 .f32) : FVec Ideal S1024x256 .f32 :=
  select (cmpi .sle (addi (broadcast S1024x256 a) (iota .tc S1024x256 32 [0] iota_S1024x256_d0_w32))
    (addi (broadcast S1024x256 b) (iota .tc S1024x256 32 [1] iota_S1024x256_d1_w32))) T (broadcast S1024x256 (Scalar.ofBits .f32 0xFF800000#32))

theorem msk1024_apply (a b : ℕ) (ha : a < 2048) (hb : b < 2048) (T : FVec Ideal S1024x256 .f32) (x : Fin 1024) (y : Fin 256) :
    msk1024 (BitVec.ofNat 32 a) (BitVec.ofNat 32 b) T (ix2 x y) = if a + x.val ≤ b + y.val then T (ix2 x y) else ⊥ := by
  pointwise [msk1024]
  refine (mask_select a b x.val y.val ha hb (by omega) y.isLt _ _).trans ?_
  rw [show Ideal.ofBits FTy.f32 4286578688#32 = ⊥ from negInf]

attribute [local irreducible] st_k0_t1 st_k0_t2

section
variable (c : Dev nD) (i : grid0.Coords) (arg2 : Memref sig .tc .vmem S1x2048x192 .f32) (harg2 : arg2.IsWhole) (arg3 : Memref sig .tc .vmem S1x16384x192 .bf16) (harg3 : arg3.IsWhole) (arg4 : Memref sig .tc .vmem S128x16384 .bf16) (harg4 : arg4.IsWhole) (arg5 : Memref sig .tc .vmem S2048x128 .bf16) (harg5 : arg5.IsWhole) (arg6 : Memref sig .tc .vmem S128x2048 .f32) (harg6 : arg6.IsWhole) (arg7 : Memref sig .tc .vmem S8x1024x256 .f32) (harg7 : arg7.IsWhole) (arg8 : Memref sig .tc .vmem S8x1024x256 .f32) (harg8 : arg8.IsWhole)
    (x0 : Vec Ideal S1x2048x192 .f32) (x1 : Vec Ideal S1x16384x192 .bf16) (x2 : Vec Ideal S128x16384 .bf16) (f8 : BufTy.Contents (Elt Ideal) arg8.view.ty)
include c i arg2 harg2 arg3 harg3 arg4 harg4 arg5 harg5 arg6 harg6 arg7 harg7 arg8 harg8 x0 x1 x2 f8

/-- The diagonal stretch's second half of scores, in the slabs of the last four groups. -/
theorem late4 (g : BufTy.Contents (Elt Ideal) arg8.view.ty) (hi : (i 1).val < 8) (x : Fin 256) (y : Fin 256) :
    slab arg8 (arg8.view.writes (Elt Ideal) g (bodyRun.sl.HS2_4 (F := Ideal) c i arg2 harg2 arg3 harg3 arg4 harg4 arg5 harg5 arg6 harg6 arg7 harg7 arg8 harg8 x0 x1 x2 f8)) 4 (ix2 ⟨x.val, by omega⟩ y)
      = sc (qs c arg2 harg2 x0) x1 (256 * 4 + y.val) (2048 * (i 1).val + 1024 + x.val) := by
  unfold bodyRun.sl.HS2_4
  refine (slab_miss (n := 1024) _ _ _ (by decide) _ _ _ _ _).trans ?_
  refine (slab_miss (n := 768) _ _ _ (by decide) _ _ _ _ _).trans ?_
  refine (slab_miss (n := 512) _ _ _ (by decide) _ _ _ _ _).trans ?_
  refine (slab_hit256 _ _ _ (by decide) _ _ _ _ _).trans ?_
  refine fill256 _ (qs c arg2 harg2 x0) rfl (by decide : 4 < 8) _ _ x1 (2048 * (i 1).val + 1024) (by omega) (fun x e => ?_) x y
  exact (kslice256 _ _ x e).trans (kblock arg3 harg3 x1 (off7 i) (by omega) _ _ _ e)

theorem late5 (g : BufTy.Contents (Elt Ideal) arg8.view.ty) (hi : (i 1).val < 8) (x : Fin 512) (y : Fin 256) :
    slab arg8 (arg8.view.writes (Elt Ideal) g (bodyRun.sl.HS2_4 (F := Ideal) c i arg2 harg2 arg3 harg3 arg4 harg4 arg5 harg5 arg6 harg6 arg7 harg7 arg8 harg8 x0 x1 x2 f8)) 5 (ix2 ⟨x.val, by omega⟩ y)
      = sc (qs c arg2 harg2 x0) x1 (256 * 5 + y.val) (2048 * (i 1).val + 1024 + x.val) := by
  unfold bodyRun.sl.HS2_4
  refine (slab_miss (n := 1024) _ _ _ (by decide) _ _ _ _ _).trans ?_
  refine (slab_miss (n := 768) _ _ _ (by decide) _ _ _ _ _).trans ?_
  refine (slab_hit512 _ _ _ (by decide) _ _ _ _ _).trans ?_
  refine fill512 _ (qs c arg2 harg2 x0) rfl (by decide : 5 < 8) _ _ x1 (2048 * (i 1).val + 1024) (by omega) (fun x e => ?_) x y
  exact (kslice512 _ _ x e).trans (kblock arg3 harg3 x1 (off7 i) (by omega) _ _ _ e)

theorem late6 (g : BufTy.Contents (Elt Ideal) arg8.view.ty) (hi : (i 1).val < 8) (x : Fin 768) (y : Fin 256) :
    slab arg8 (arg8.view.writes (Elt Ideal) g (bodyRun.sl.HS2_4 (F := Ideal) c i arg2 harg2 arg3 harg3 arg4 harg4 arg5 harg5 arg6 harg6 arg7 harg7 arg8 harg8 x0 x1 x2 f8)) 6 (ix2 ⟨x.val, by omega⟩ y)
      = sc (qs c arg2 harg2 x0) x1 (256 * 6 + y.val) (2048 * (i 1).val + 1024 + x.val) := by
  unfold bodyRun.sl.HS2_4
  refine (slab_miss (n := 1024) _ _ _ (by decide) _ _ _ _ _).trans ?_
  refine (slab_hit768 _ _ _ (by decide) _ _ _ _ _).trans ?_
  refine fill768 _ (qs c arg2 harg2 x0) rfl (by decide : 6 < 8) _ _ x1 (2048 * (i 1).val + 1024) (by omega) (fun x e => ?_) x y
  exact (kslice768 _ _ x e).trans (kblock arg3 harg3 x1 (off7 i) (by omega) _ _ _ e)

theorem late7 (g : BufTy.Contents (Elt Ideal) arg8.view.ty) (hi : (i 1).val < 8) (x : Fin 1024) (y : Fin 256) :
    slab arg8 (arg8.view.writes (Elt Ideal) g (bodyRun.sl.HS2_4 (F := Ideal) c i arg2 harg2 arg3 harg3 arg4 harg4 arg5 harg5 arg6 harg6 arg7 harg7 arg8 harg8 x0 x1 x2 f8)) 7 (ix2 ⟨x.val, by omega⟩ y)
      = sc (qs c arg2 harg2 x0) x1 (256 * 7 + y.val) (2048 * (i 1).val + 1024 + x.val) := by
  unfold bodyRun.sl.HS2_4
  refine (slab_hit _ _ _ (by decide) _ _ _ _ _).trans ?_
  refine fill1024 _ (qs c arg2 harg2 x0) rfl (by decide : 7 < 8) _ _ x1 (2048 * (i 1).val + 1024) (by omega) (fun x e => ?_) x y
  exact kblock arg3 harg3 x1 (off7 i) (by omega) _ _ _ e

/-- Before the diagonal no key is masked. -/
theorem base_St {q0 : ℕ} {m l : FVec Ideal S1x256 .f32} {a : FVec Ideal S128x256 .f32} (h : St (sc (qs c arg2 harg2 x0) x1) (wv x2) q0 (2048 * (i 1).val) m l a) :
    St (sM (2048 * (i 1).val) (sc (qs c arg2 harg2 x0) x1)) (wv x2) q0 (2048 * (i 1).val) m l a :=
  h.congr fun y _ k hk => (if_pos (by omega)).symm

/-- Group 0's band as the loops left it. -/
theorem bandA0 : band arg6 (arg6.view.writes (Elt Ideal) arg6.view.junk (L6 c i arg2 harg2 arg3 harg3 arg4 harg4 arg5 harg5 arg6 harg6 arg7 harg7 arg8 harg8 x0 x1 x2 f8)) 0 = band arg6 (arg6.view.writes (Elt Ideal) arg6.view.junk (L6 c i arg2 harg2 arg3 harg3 arg4 harg4 arg5 harg5 arg6 harg6 arg7 harg7 arg8 harg8 x0 x1 x2 f8)) 0 := by
  rfl

/-- Group 0 takes the first keys of the diagonal stretch. -/
theorem diag0 (hi : (i 1).val < 8) : St (sM (2048 * (i 1).val) (sc (qs c arg2 harg2 x0) x1)) (wv x2) (256 * 0) (2048 * (i 1).val + 256) (nm256 (bodyRun.sl.r_2 (F := Ideal) c i arg2 harg2 arg3 harg3 arg4 harg4 arg5 harg5 arg6 harg6 arg7 harg7 arg8 harg8 x0 x1 x2 f8) (msk256 0#32 0#32 (shapeCast S256x256 (bodyRun.sl.v130 (F := Ideal) c i arg2 harg2 arg3 harg3 arg4 harg4 arg5 harg5 arg6 harg6 arg7 harg7 arg8 harg8 x0 x1 x2 f8) shapeCasts_S1x256x256_S256x256))) (bodyRun.sl.r_19 (F := Ideal) c i arg2 harg2 arg3 harg3 arg4 harg4 arg5 harg5 arg6 harg6 arg7 harg7 arg8 harg8 x0 x1 x2 f8) (k0_pay284 (bodyRun.sl.r_2 (F := Ideal) c i arg2 harg2 arg3 harg3 arg4 harg4 arg5 harg5 arg6 harg6 arg7 harg7 arg8 harg8 x0 x1 x2 f8) (bodyRun.sl.r_18 (F := Ideal) i arg4 harg4 x2) (bodyRun.sl.v130 (F := Ideal) c i arg2 harg2 arg3 harg3 arg4 harg4 arg5 harg5 arg6 harg6 arg7 harg7 arg8 harg8 x0 x1 x2 f8) (bodyRun.sl.v153 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h0
  rw [← bandA0 c i arg2 harg2 arg3 harg3 arg4 harg4 arg5 harg5 arg6 harg6 arg7 harg7 arg8 harg8 x0 x1 x2 f8] at h
  have h2 := St.load 0 h rfl inb_S128x2048_S128x256_0_0
  suffices H : _ ∧ _ by
    have h3 := step256 (S := (msk256 0#32 0#32 (shapeCast S256x256 (bodyRun.sl.v130 (F := Ideal) c i arg2 harg2 arg3 harg3 arg4 harg4 arg5 harg5 arg6 harg6 arg7 harg7 arg8 harg8 x0 x1 x2 f8) shapeCasts_S1x256x256_S256x256))) (vt := (extractStridedSlice S128x256 ![0, 0] (bodyRun.sl.r_18 (F := Ideal) i arg4 harg4 x2) slices_S128x1024_o0_0_S128x256)) h2 H.1 H.2
    refine ⟨h3.hm, ?_, ?_⟩
    · have t := h3.hl
      exact t
    · have t := h3.ha
      exact t
  refine ⟨fun x y => ?_, fun v x => ?_⟩
  · refine (msk256_apply 0 0 (by omega) (by omega) _ x y).trans ?_
    rw [show (shapeCast S256x256 (bodyRun.sl.v130 (F := Ideal) c i arg2 harg2 arg3 harg3 arg4 harg4 arg5 harg5 arg6 harg6 arg7 harg7 arg8 harg8 x0 x1 x2 f8) shapeCasts_S1x256x256_S256x256) (ix2 x y) = _ from (slab_load256 arg7 _ 0 rfl _ _ x y).trans ((end_ok c i arg2 harg2 arg3 harg3 arg4 harg4 arg5 harg5 arg6 harg6 arg7 harg7 arg8 harg8 x0 x1 x2 f8).hT 0 _ y)]
    exact if_congr (by constructor <;> intro _ <;> omega) rfl rfl
  · exact (vslice256 _ _ v x).trans (vblock arg4 harg4 x2 (off8a i) (by omega) _ _ v _)

/-- Group 1's band as the loops left it. -/
theorem bandA1 : band arg6 (arg6.view.writes (Elt Ideal) arg6.view.junk (bodyRun.sl.HS0_1_1 (F := Ideal) c i arg2 harg2 arg3 harg3 arg4 harg4 arg5 harg5 arg6 harg6 arg7 harg7 arg8 harg8 x0 x1 x2 f8)) 1 = band arg6 (arg6.view.writes (Elt Ideal) arg6.view.junk (L6 c i arg2 harg2 arg3 harg3 arg4 harg4 arg5 harg5 arg6 harg6 arg7 harg7 arg8 harg8 x0 x1 x2 f8)) 1 := by
  unfold bodyRun.sl.HS0_1_1
  refine (band_miss _ _ _ (by decide) _ _ _).trans ?_
  rfl

/-- Group 1 takes the first keys of the diagonal stretch. -/
theorem diag1 (hi : (i 1).val < 8) : St (sM (2048 * (i 1).val) (sc (qs c arg2 harg2 x0) x1)) (wv x2) (256 * 1) (2048 * (i 1).val + 512) (nm512 (bodyRun.sl.r_4 (F := Ideal) c i arg2 harg2 arg3 harg3 arg4 harg4 arg5 harg5 arg6 harg6 arg7 harg7 arg8 harg8 x0 x1 x2 f8) (msk512 0#32 256#32 (shapeCast S512x256 (bodyRun.sl.v163 (F := Ideal) c i arg2 harg2 arg3 harg3 arg4 harg4 arg5 harg5 arg6 harg6 arg7 harg7 arg8 harg8 x0 x1 x2 f8) shapeCasts_S1x512x256_S512x256))) (bodyRun.sl.r_21 (F := Ideal) c i arg2 harg2 arg3 harg3 arg4 harg4 arg5 harg5 arg6 harg6 arg7 harg7 arg8 harg8 x0 x1 x2 f8) (k0_pay292 (bodyRun.sl.r_4 (F := Ideal) c i arg2 harg2 arg3 harg3 arg4 harg4 arg5 harg5 arg6 harg6 arg7 harg7 arg8 harg8 x0 x1 x2 f8) (bodyRun.sl.r_18 (F := Ideal) i arg4 harg4 x2) (bodyRun.sl.r_20 (F := Ideal) c i arg2 harg2 arg3 harg3 arg4 harg4 arg5 harg5 arg6 harg6 arg7 harg7 arg8 harg8 x0 x1 x2 f8) k0_pay286 (bodyRun.sl.v186 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h1
  rw [← bandA1 c i arg2 harg2 arg3 harg3 arg4 harg4 arg5 harg5 arg6 harg6 arg7 harg7 arg8 harg8 x0 x1 x2 f8] at h
  have h2 := St.load 1 h rfl inb_S128x2048_S128x256_0_256
  suffices H : _ ∧ _ by
    have h3 := step512 (S := (msk512 0#32 256#32 (shapeCast S512x256 (bodyRun.sl.v163 (F := Ideal) c i arg2 harg2 arg3 harg3 arg4 harg4 arg5 harg5 arg6 harg6 arg7 harg7 arg8 harg8 x0 x1 x2 f8) shapeCasts_S1x512x256_S512x256))) (vt := (extractStridedSlice S128x512 ![0, 0] (bodyRun.sl.r_18 (F := Ideal) i arg4 harg4 x2) slices_S128x1024_o0_0_S128x512)) h2 H.1 H.2
    refine ⟨h3.hm, ?_, ?_⟩
    · have t := h3.hl
      exact t
    · have t := h3.ha
      exact t
  refine ⟨fun x y => ?_, fun v x => ?_⟩
  · refine (msk512_apply 0 256 (by omega) (by omega) _ x y).trans ?_
    rw [show (shapeCast S512x256 (bodyRun.sl.v163 (F := Ideal) c i arg2 harg2 arg3 harg3 arg4 harg4 arg5 harg5 arg6 harg6 arg7 harg7 arg8 harg8 x0 x1 x2 f8) shapeCasts_S1x512x256_S512x256) (ix2 x y) = _ from (slab_load512 arg7 _ 1 rfl _ _ x y).trans ((end_ok c i arg2 harg2 arg3 harg3 arg4 harg4 arg5 harg5 arg6 harg6 arg7 harg7 arg8 harg8 x0 x1 x2 f8).hT 1 _ y)]
    exact if_congr (by constructor <;> intro _ <;> omega) rfl rfl
  · exact (vslice512 _ _ v x).trans (vblock arg4 harg4 x2 (off8a i) (by omega) _ _ v _)

/-- Group 2's band as the loops left it. -/
theorem bandA2 : band arg6 (arg6.view.writes (Elt Ideal) arg6.view.junk (bodyRun.sl.HS0_2 (F := Ideal) c i arg2 harg2 arg3 harg3 arg4 harg4 arg5 harg5 arg6 harg6 arg7 harg7 arg8 harg8 x0 x1 x2 f8)) 2 = band arg6 (arg6.view.writes (Elt Ideal) arg6.view.junk (L6 c i arg2 harg2 arg3 harg3 arg4 harg4 arg5 harg5 arg6 harg6 arg7 harg7 arg8 harg8 x0 x1 x2 f8)) 2 := by
  unfold bodyRun.sl.HS0_2
  refine (band_miss _ _ _ (by decide) _ _ _).trans ?_
  unfold bodyRun.sl.HS0_1_1
  refine (band_miss _ _ _ (by decide) _ _ _).trans ?_
  rfl

/-- Group 2 takes the first keys of the diagonal stretch. -/
theorem diag2 (hi : (i 1).val < 8) : St (sM (2048 * (i 1).val) (sc (qs c arg2 harg2 x0) x1)) (wv x2) (256 * 2) (2048 * (i 1).val + 768) (nm768 (bodyRun.sl.r_6 (F := Ideal) c i arg2 harg2 arg3 harg3 arg4 harg4 arg5 harg5 arg6 harg6 arg7 harg7 arg8 harg8 x0 x1 x2 f8) (msk768 0#32 512#32 (shapeCast S768x256 (bodyRun.sl.v196 (F := Ideal) c i arg2 harg2 arg3 harg3 arg4 harg4 arg5 harg5 arg6 harg6 arg7 harg7 arg8 harg8 x0 x1 x2 f8) shapeCasts_S1x768x256_S768x256))) (bodyRun.sl.r_25 (F := Ideal) c i arg2 harg2 arg3 harg3 arg4 harg4 arg5 harg5 arg6 harg6 arg7 harg7 arg8 harg8 x0 x1 x2 f8) (k0_pay299 (bodyRun.sl.r_18 (F := Ideal) i arg4 harg4 x2) (bodyRun.sl.r_22 (F := Ideal) c i arg2 harg2 arg3 harg3 arg4 harg4 arg5 harg5 arg6 harg6 arg7 harg7 arg8 harg8 x0 x1 x2 f8) (bodyRun.sl.r_23 (F := Ideal) c i arg2 harg2 arg3 harg3 arg4 harg4 arg5 harg5 arg6 harg6 arg7 harg7 arg8 harg8 x0 x1 x2 f8) (bodyRun.sl.v219 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h2
  rw [← bandA2 c i arg2 harg2 arg3 harg3 arg4 harg4 arg5 harg5 arg6 harg6 arg7 harg7 arg8 harg8 x0 x1 x2 f8] at h
  have h2 := St.load 2 h rfl inb_S128x2048_S128x256_0_512
  suffices H : _ ∧ _ by
    have h3 := step768 (S := (msk768 0#32 512#32 (shapeCast S768x256 (bodyRun.sl.v196 (F := Ideal) c i arg2 harg2 arg3 harg3 arg4 harg4 arg5 harg5 arg6 harg6 arg7 harg7 arg8 harg8 x0 x1 x2 f8) shapeCasts_S1x768x256_S768x256))) (vt := (extractStridedSlice S128x768 ![0, 0] (bodyRun.sl.r_18 (F := Ideal) i arg4 harg4 x2) slices_S128x1024_o0_0_S128x768)) h2 H.1 H.2
    refine ⟨h3.hm, ?_, ?_⟩
    · have t := h3.hl
      exact t
    · have t := h3.ha
      exact t
  refine ⟨fun x y => ?_, fun v x => ?_⟩
  · refine (msk768_apply 0 512 (by omega) (by omega) _ x y).trans ?_
    rw [show (shapeCast S768x256 (bodyRun.sl.v196 (F := Ideal) c i arg2 harg2 arg3 harg3 arg4 harg4 arg5 harg5 arg6 harg6 arg7 harg7 arg8 harg8 x0 x1 x2 f8) shapeCasts_S1x768x256_S768x256) (ix2 x y) = _ from (slab_load768 arg7 _ 2 rfl _ _ x y).trans ((end_ok c i arg2 harg2 arg3 harg3 arg4 harg4 arg5 harg5 arg6 harg6 arg7 harg7 arg8 harg8 x0 x1 x2 f8).hT 2 _ y)]
    exact if_congr (by constructor <;> intro _ <;> omega) rfl rfl
  · exact (vslice768 _ _ v x).trans (vblock arg4 harg4 x2 (off8a i) (by omega) _ _ v _)

/-- Group 3's band as the loops left it. -/
theorem bandA3 : band arg6 (arg6.view.writes (Elt Ideal) arg6.view.junk (bodyRun.sl.HS0_3 (F := Ideal) c i arg2 harg2 arg3 harg3 arg4 harg4 arg5 harg5 arg6 harg6 arg7 harg7 arg8 harg8 x0 x1 x2 f8)) 3 = band arg6 (arg6.view.writes (Elt Ideal) arg6.view.junk (L6 c i arg2 harg2 arg3 harg3 arg4 harg4 arg5 harg5 arg6 harg6 arg7 harg7 arg8 harg8 x0 x1 x2 f8)) 3 := by
  unfold bodyRun.sl.HS0_3
  refine (band_miss _ _ _ (by decide) _ _ _).trans ?_
  unfold bodyRun.sl.HS0_2
  refine (band_miss _ _ _ (by decide) _ _ _).trans ?_
  unfold bodyRun.sl.HS0_1_1
  refine (band_miss _ _ _ (by decide) _ _ _).trans ?_
  rfl

/-- Group 3 takes the first keys of the diagonal stretch. -/
theorem diag3 (hi : (i 1).val < 8) : St (sM (2048 * (i 1).val) (sc (qs c arg2 harg2 x0) x1)) (wv x2) (256 * 3) (2048 * (i 1).val + 1024) (nm1024 (bodyRun.sl.r_8 (F := Ideal) c i arg2 harg2 arg3 harg3 arg4 harg4 arg5 harg5 arg6 harg6 arg7 harg7 arg8 harg8 x0 x1 x2 f8) (msk1024 0#32 768#32 (shapeCast S1024x256 (bodyRun.sl.v229 (F := Ideal) c i arg2 harg2 arg3 harg3 arg4 harg4 arg5 harg5 arg6 harg6 arg7 harg7 arg8 harg8 x0 x1 x2 f8) shapeCasts_S1x1024x256_S1024x256))) (bodyRun.sl.r_26 (F := Ideal) c i arg2 harg2 arg3 harg3 arg4 harg4 arg5 harg5 arg6 harg6 arg7 harg7 arg8 harg8 x0 x1 x2 f8) (k0_pay306 (bodyRun.sl.r_27 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h3
  rw [← bandA3 c i arg2 harg2 arg3 harg3 arg4 harg4 arg5 harg5 arg6 harg6 arg7 harg7 arg8 harg8 x0 x1 x2 f8] at h
  have h2 := St.load 3 h rfl inb_S128x2048_S128x256_0_768
  suffices H : _ ∧ _ by
    have h3 := step1024 (S := (msk1024 0#32 768#32 (shapeCast S1024x256 (bodyRun.sl.v229 (F := Ideal) c i arg2 harg2 arg3 harg3 arg4 harg4 arg5 harg5 arg6 harg6 arg7 harg7 arg8 harg8 x0 x1 x2 f8) shapeCasts_S1x1024x256_S1024x256))) (vt := (bodyRun.sl.r_18 (F := Ideal) i arg4 harg4 x2)) h2 H.1 H.2
    refine ⟨h3.hm, ?_, ?_⟩
    · have t := h3.hl
      exact t
    · have t := h3.ha
      exact t
  refine ⟨fun x y => ?_, fun v x => ?_⟩
  · refine (msk1024_apply 0 768 (by omega) (by omega) _ x y).trans ?_
    rw [show (shapeCast S1024x256 (bodyRun.sl.v229 (F := Ideal) c i arg2 harg2 arg3 harg3 arg4 harg4 arg5 harg5 arg6 harg6 arg7 harg7 arg8 harg8 x0 x1 x2 f8) shapeCasts_S1x1024x256_S1024x256) (ix2 x y) = _ from (slab_load1024 arg7 _ 3 rfl _ _ x y).trans ((end_ok c i arg2 harg2 arg3 harg3 arg4 harg4 arg5 harg5 arg6 harg6 arg7 harg7 arg8 harg8 x0 x1 x2 f8).hT 3 _ y)]
    exact if_congr (by constructor <;> intro _ <;> omega) rfl rfl
  · exact vblock arg4 harg4 x2 (off8a i) (by omega) _ _ v _

/-- Group 4's band as the loops left it. -/
theorem bandA4 : band arg6 (arg6.view.writes (Elt Ideal) arg6.view.junk (bodyRun.sl.HS0_4 (F := Ideal) c i arg2 harg2 arg3 harg3 arg4 harg4 arg5 harg5 arg6 harg6 arg7 harg7 arg8 harg8 x0 x1 x2 f8)) 4 = band arg6 (arg6.view.writes (Elt Ideal) arg6.view.junk (L6 c i arg2 harg2 arg3 harg3 arg4 harg4 arg5 harg5 arg6 harg6 arg7 harg7 arg8 harg8 x0 x1 x2 f8)) 4 := by
  unfold bodyRun.sl.HS0_4
  refine (band_miss _ _ _ (by decide) _ _ _).trans ?_
  unfold bodyRun.sl.HS0_3
  refine (band_miss _ _ _ (by decide) _ _ _).trans ?_
  unfold bodyRun.sl.HS0_2
  refine (band_miss _ _ _ (by decide) _ _ _).trans ?_
  unfold bodyRun.sl.HS0_1_1
  refine (band_miss _ _ _ (by decide) _ _ _).trans ?_
  rfl

/-- Group 4 takes the first keys of the diagonal stretch. -/
theorem diag4 (hi : (i 1).val < 8) : St (sM (2048 * (i 1).val) (sc (qs c arg2 harg2 x0) x1)) (wv x2) (256 * 4) (2048 * (i 1).val + 1024) (bodyRun.sl.r_28 (F := Ideal) c i arg2 harg2 arg3 harg3 arg4 harg4 arg5 harg5 arg6 harg6 arg7 harg7 arg8 harg8 x0 x1 x2 f8) (bodyRun.sl.r_29 (F := Ideal) c i arg2 harg2 arg3 harg3 arg4 harg4 arg5 harg5 arg6 harg6 arg7 harg7 arg8 harg8 x0 x1 x2 f8) (k0_pay312 (bodyRun.sl.r_10 (F := Ideal) c i arg2 harg2 arg3 harg3 arg4 harg4 arg5 harg5 arg6 harg6 arg7 harg7 arg8 harg8 x0 x1 x2 f8) (bodyRun.sl.r_18 (F := Ideal) i arg4 harg4 x2) (bodyRun.sl.v261 (F := Ideal) c i arg2 harg2 arg3 harg3 arg4 harg4 arg5 harg5 arg6 harg6 arg7 harg7 arg8 harg8 x0 x1 x2 f8) (bodyRun.sl.v275 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h4
  rw [← bandA4 c i arg2 harg2 arg3 harg3 arg4 harg4 arg5 harg5 arg6 harg6 arg7 harg7 arg8 harg8 x0 x1 x2 f8] at h
  have h2 := St.load 4 h rfl inb_S128x2048_S128x256_0_1024
  suffices H : _ ∧ _ by
    have h3 := step1024 (S := (shapeCast S1024x256 (bodyRun.sl.v261 (F := Ideal) c i arg2 harg2 arg3 harg3 arg4 harg4 arg5 harg5 arg6 harg6 arg7 harg7 arg8 harg8 x0 x1 x2 f8) shapeCasts_S1x1024x256_S1024x256)) (vt := (bodyRun.sl.r_18 (F := Ideal) i arg4 harg4 x2)) h2 H.1 H.2
    refine ⟨h3.hm, ?_, ?_⟩
    · have t := h3.hl
      exact t
    · have t := h3.ha
      exact t
  refine ⟨fun x y => ?_, fun v x => ?_⟩
  · refine Eq.trans ((slab_load1024 arg7 _ 4 rfl _ _ x y).trans ((end_ok c i arg2 harg2 arg3 harg3 arg4 harg4 arg5 harg5 arg6 harg6 arg7 harg7 arg8 harg8 x0 x1 x2 f8).hT 4 _ y)) (if_pos ?_).symm
    have := x.isLt
    omega
  · exact vblock arg4 harg4 x2 (off8a i) (by omega) _ _ v _

/-- Group 5's band as the loops left it. -/
theorem bandA5 : band arg6 (arg6.view.writes (Elt Ideal) arg6.view.junk (bodyRun.sl.HS0_5 (F := Ideal) c i arg2 harg2 arg3 harg3 arg4 harg4 arg5 harg5 arg6 harg6 arg7 harg7 arg8 harg8 x0 x1 x2 f8)) 5 = band arg6 (arg6.view.writes (Elt Ideal) arg6.view.junk (L6 c i arg2 harg2 arg3 harg3 arg4 harg4 arg5 harg5 arg6 harg6 arg7 harg7 arg8 harg8 x0 x1 x2 f8)) 5 := by
  unfold bodyRun.sl.HS0_5
  refine (band_miss _ _ _ (by decide) _ _ _).trans ?_
  unfold bodyRun.sl.HS0_4
  refine (band_miss _ _ _ (by decide) _ _ _).trans ?_
  unfold bodyRun.sl.HS0_3
  refine (band_miss _ _ _ (by decide) _ _ _).trans ?_
  unfold bodyRun.sl.HS0_2
  refine (band_miss _ _ _ (by decide) _ _ _).trans ?_
  unfold bodyRun.sl.HS0_1_1
  refine (band_miss _ _ _ (by decide) _ _ _).trans ?_
  rfl

/-- Group 5 takes the first keys of the diagonal stretch. -/
theorem diag5 (hi : (i 1).val < 8) : St (sM (2048 * (i 1).val) (sc (qs c arg2 harg2 x0) x1)) (wv x2) (256 * 5) (2048 * (i 1).val + 1024) (bodyRun.sl.r_30 (F := Ideal) c i arg2 harg2 arg3 harg3 arg4 harg4 arg5 harg5 arg6 harg6 arg7 harg7 arg8 harg8 x0 x1 x2 f8) (bodyRun.sl.r_33 (F := Ideal) c i arg2 harg2 arg3 harg3 arg4 harg4 arg5 harg5 arg6 harg6 arg7 harg7 arg8 harg8 x0 x1 x2 f8) (k0_pay318 (bodyRun.sl.r_18 (F := Ideal) i arg4 harg4 x2) (bodyRun.sl.r_31 (F := Ideal) c i arg2 harg2 arg3 harg3 arg4 harg4 arg5 harg5 arg6 harg6 arg7 harg7 arg8 harg8 x0 x1 x2 f8) (bodyRun.sl.r_32 (F := Ideal) c i arg2 harg2 arg3 harg3 arg4 harg4 arg5 harg5 arg6 harg6 arg7 harg7 arg8 harg8 x0 x1 x2 f8) (bodyRun.sl.v298 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h5
  rw [← bandA5 c i arg2 harg2 arg3 harg3 arg4 harg4 arg5 harg5 arg6 harg6 arg7 harg7 arg8 harg8 x0 x1 x2 f8] at h
  have h2 := St.load 5 h rfl inb_S128x2048_S128x256_0_1280
  suffices H : _ ∧ _ by
    have h3 := step1024 (S := (shapeCast S1024x256 (bodyRun.sl.v284 (F := Ideal) c i arg2 harg2 arg3 harg3 arg4 harg4 arg5 harg5 arg6 harg6 arg7 harg7 arg8 harg8 x0 x1 x2 f8) shapeCasts_S1x1024x256_S1024x256)) (vt := (bodyRun.sl.r_18 (F := Ideal) i arg4 harg4 x2)) h2 H.1 H.2
    refine ⟨h3.hm, ?_, ?_⟩
    · have t := h3.hl
      exact t
    · have t := h3.ha
      exact t
  refine ⟨fun x y => ?_, fun v x => ?_⟩
  · refine Eq.trans ((slab_load1024 arg7 _ 5 rfl _ _ x y).trans ((end_ok c i arg2 harg2 arg3 harg3 arg4 harg4 arg5 harg5 arg6 harg6 arg7 harg7 arg8 harg8 x0 x1 x2 f8).hT 5 _ y)) (if_pos ?_).symm
    have := x.isLt
    omega
  · exact vblock arg4 harg4 x2 (off8a i) (by omega) _ _ v _

/-- Group 6's band as the loops left it. -/
theorem bandA6 : band arg6 (arg6.view.writes (Elt Ideal) arg6.view.junk (bodyRun.sl.HS0_6 (F := Ideal) c i arg2 harg2 arg3 harg3 arg4 harg4 arg5 harg5 arg6 harg6 arg7 harg7 arg8 harg8 x0 x1 x2 f8)) 6 = band arg6 (arg6.view.writes (Elt Ideal) arg6.view.junk (L6 c i arg2 harg2 arg3 harg3 arg4 harg4 arg5 harg5 arg6 harg6 arg7 harg7 arg8 harg8 x0 x1 x2 f8)) 6 := by
  unfold bodyRun.sl.HS0_6
  refine (band_miss _ _ _ (by decide) _ _ _).trans ?_
  unfold bodyRun.sl.HS0_5
  refine (band_miss _ _ _ (by decide) _ _ _).trans ?_
  unfold bodyRun.sl.HS0_4
  refine (band_miss _ _ _ (by decide) _ _ _).trans ?_
  unfold bodyRun.sl.HS0_3
  refine (band_miss _ _ _ (by decide) _ _ _).trans ?_
  unfold bodyRun.sl.HS0_2
  refine (band_miss _ _ _ (by decide) _ _ _).trans ?_
  unfold bodyRun.sl.HS0_1_1
  refine (band_miss _ _ _ (by decide) _ _ _).trans ?_
  rfl

/-- Group 6 takes the first keys of the diagonal stretch. -/
theorem diag6 (hi : (i 1).val < 8) : St (sM (2048 * (i 1).val) (sc (qs c arg2 harg2 x0) x1)) (wv x2) (256 * 6) (2048 * (i 1).val + 1024) (bodyRun.sl.r_34 (F := Ideal) c i arg2 harg2 arg3 harg3 arg4 harg4 arg5 harg5 arg6 harg6 arg7 harg7 arg8 harg8 x0 x1 x2 f8) (bodyRun.sl.r_35 (F := Ideal) c i arg2 harg2 arg3 harg3 arg4 harg4 arg5 harg5 arg6 harg6 arg7 harg7 arg8 harg8 x0 x1 x2 f8) (k0_pay324 (bodyRun.sl.r_14 (F := Ideal) c i arg2 harg2 arg3 harg3 arg4 harg4 arg5 harg5 arg6 harg6 arg7 harg7 arg8 harg8 x0 x1 x2 f8) (bodyRun.sl.r_18 (F := Ideal) i arg4 harg4 x2) (bodyRun.sl.v307 (F := Ideal) c i arg2 harg2 arg3 harg3 arg4 harg4 arg5 harg5 arg6 harg6 arg7 harg7 arg8 harg8 x0 x1 x2 f8) (bodyRun.sl.v321 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h6
  rw [← bandA6 c i arg2 harg2 arg3 harg3 arg4 harg4 arg5 harg5 arg6 harg6 arg7 harg7 arg8 harg8 x0 x1 x2 f8] at h
  have h2 := St.load 6 h rfl inb_S128x2048_S128x256_0_1536
  suffices H : _ ∧ _ by
    have h3 := step1024 (S := (shapeCast S1024x256 (bodyRun.sl.v307 (F := Ideal) c i arg2 harg2 arg3 harg3 arg4 harg4 arg5 harg5 arg6 harg6 arg7 harg7 arg8 harg8 x0 x1 x2 f8) shapeCasts_S1x1024x256_S1024x256)) (vt := (bodyRun.sl.r_18 (F := Ideal) i arg4 harg4 x2)) h2 H.1 H.2
    refine ⟨h3.hm, ?_, ?_⟩
    · have t := h3.hl
      exact t
    · have t := h3.ha
      exact t
  refine ⟨fun x y => ?_, fun v x => ?_⟩
  · refine Eq.trans ((slab_load1024 arg7 _ 6 rfl _ _ x y).trans ((end_ok c i arg2 harg2 arg3 harg3 arg4 harg4 arg5 harg5 arg6 harg6 arg7 harg7 arg8 harg8 x0 x1 x2 f8).hT 6 _ y)) (if_pos ?_).symm
    have := x.isLt
    omega
  · exact vblock arg4 harg4 x2 (off8a i) (by omega) _ _ v _

/-- Group 7's band as the loops left it. -/
theorem bandA7 : band arg6 (arg6.view.writes (Elt Ideal) arg6.view.junk (bodyRun.sl.HS0_7 (F := Ideal) c i arg2 harg2 arg3 harg3 arg4 harg4 arg5 harg5 arg6 harg6 arg7 harg7 arg8 harg8 x0 x1 x2 f8)) 7 = band arg6 (arg6.view.writes (Elt Ideal) arg6.view.junk (L6 c i arg2 harg2 arg3 harg3 arg4 harg4 arg5 harg5 arg6 harg6 arg7 harg7 arg8 harg8 x0 x1 x2 f8)) 7 := by
  unfold bodyRun.sl.HS0_7
  refine (band_miss _ _ _ (by decide) _ _ _).trans ?_
  unfold bodyRun.sl.HS0_6
  refine (band_miss _ _ _ (by decide) _ _ _).trans ?_
  unfold bodyRun.sl.HS0_5
  refine (band_miss _ _ _ (by decide) _ _ _).trans ?_
  unfold bodyRun.sl.HS0_4
  refine (band_miss _ _ _ (by decide) _ _ _).trans ?_
  unfold bodyRun.sl.HS0_3
  refine (band_miss _ _ _ (by decide) _ _ _).trans ?_
  unfold bodyRun.sl.HS0_2
  refine (band_miss _ _ _ (by decide) _ _ _).trans ?_
  unfold bodyRun.sl.HS0_1_1
  refine (band_miss _ _ _ (by decide) _ _ _).trans ?_
  rfl

/-- Group 7 takes the first keys of the diagonal stretch. -/
theorem diag7 (hi : (i 1).val < 8) : St (sM (2048 * (i 1).val) (sc (qs c arg2 harg2 x0) x1)) (wv x2) (256 * 7) (2048 * (i 1).val + 1024) (bodyRun.sl.r_37 (F := Ideal) c i arg2 harg2 arg3 harg3 arg4 harg4 arg5 harg5 arg6 harg6 arg7 harg7 arg8 harg8 x0 x1 x2 f8) (bodyRun.sl.r_40 (F := Ideal) c i arg2 harg2 arg3 harg3 arg4 harg4 arg5 harg5 arg6 harg6 arg7 harg7 arg8 harg8 x0 x1 x2 f8) (k0_pay331 (bodyRun.sl.r_18 (F := Ideal) i arg4 harg4 x2) (bodyRun.sl.r_36 (F := Ideal) c i arg2 harg2 arg3 harg3 arg4 harg4 arg5 harg5 arg6 harg6 arg7 harg7 arg8 harg8 x0 x1 x2 f8) (bodyRun.sl.r_38 (F := Ideal) c i arg2 harg2 arg3 harg3 arg4 harg4 arg5 harg5 arg6 harg6 arg7 harg7 arg8 harg8 x0 x1 x2 f8) (bodyRun.sl.r_39 (F := Ideal) c i arg2 harg2 arg3 harg3 arg4 harg4 arg5 harg5 arg6 harg6 arg7 harg7 arg8 harg8 x0 x1 x2 f8) (bodyRun.sl.v344 (F := Ideal) c i arg2 harg2 arg3 harg3 arg4 harg4 arg5 harg5 arg6 harg6 arg7 harg7 arg8 harg8 x0 x1 x2 f8)) := by
  have h := base_St c i arg2 harg2 arg3 harg3 arg4 harg4 arg5 harg5 arg6 harg6 arg7 harg7 arg8 harg8 x0 x1 x2 f8 (end_ok c i arg2 harg2 arg3 harg3 arg4 harg4 arg5 harg5 arg6 harg6 arg7 harg7 arg8 harg8 x0 x1 x2 f8).h7
  rw [← bandA7 c i arg2 harg2 arg3 harg3 arg4 harg4 arg5 harg5 arg6 harg6 arg7 harg7 arg8 harg8 x0 x1 x2 f8] at h
  have h2 := St.load 7 h rfl inb_S128x2048_S128x256_0_1792
  suffices H : _ ∧ _ by
    have h3 := step1024 (S := (shapeCast S1024x256 (bodyRun.sl.v330 (F := Ideal) c i arg2 harg2 arg3 harg3 arg4 harg4 arg5 harg5 arg6 harg6 arg7 harg7 arg8 harg8 x0 x1 x2 f8) shapeCasts_S1x1024x256_S1024x256)) (vt := (bodyRun.sl.r_18 (F := Ideal) i arg4 harg4 x2)) h2 H.1 H.2
    refine ⟨h3.hm, ?_, ?_⟩
    · have t := h3.hl
      exact t
    · have t := h3.ha
      exact t
  refine ⟨fun x y => ?_, fun v x => ?_⟩
  · refine Eq.trans ((slab_load1024 arg7 _ 7 rfl _ _ x y).trans ((end_ok c i arg2 harg2 arg3 harg3 arg4 harg4 arg5 harg5 arg6 harg6 arg7 harg7 arg8 harg8 x0 x1 x2 f8).hT 7 _ y)) (if_pos ?_).symm
    have := x.isLt
    omega
  · exact vblock arg4 harg4 x2 (off8a i) (by omega) _ _ v _

/-- Group 4's band after those. -/
theorem bandB4 : band arg6 (arg6.view.writes (Elt Ideal) arg6.view.junk (bodyRun.sl.HS0_8 (F := Ideal) c i arg2 harg2 arg3 harg3 arg4 harg4 arg5 harg5 arg6 harg6 arg7 harg7 arg8 harg8 x0 x1 x2 f8)) 4 = (k0_pay312 (bodyRun.sl.r_10 (F := Ideal) c i arg2 harg2 arg3 harg3 arg4 harg4 arg5 harg5 arg6 harg6 arg7 harg7 arg8 harg8 x0 x1 x2 f8) (bodyRun.sl.r_18 (F := Ideal) i arg4 harg4 x2) (bodyRun.sl.v261 (F := Ideal) c i arg2 harg2 arg3 harg3 arg4 harg4 arg5 harg5 arg6 harg6 arg7 harg7 arg8 harg8 x0 x1 x2 f8) (bodyRun.sl.v275 (F := Ideal) c i arg2 harg2 arg3 harg3 arg4 harg4 arg5 harg5 arg6 harg6 arg7 harg7 arg8 harg8 x0 x1 x2 f8)) := by
  unfold bodyRun.sl.HS0_8
  refine (band_miss _ _ _ (by decide) _ _ _).trans ?_
  unfold bodyRun.sl.HS0_7
  refine (band_miss _ _ _ (by decide) _ _ _).trans ?_
  unfold bodyRun.sl.HS0_6
  refine (band_miss _ _ _ (by decide) _ _ _).trans ?_
  unfold bodyRun.sl.HS0_5
  exact band_hit _ _ _ (by decide) _ _ _

/-- Group 4 takes the diagonal stretch's remaining keys. -/
theorem diagB4 (hi : (i 1).val < 8) : St (sM (2048 * (i 1).val) (sc (qs c arg2 harg2 x0) x1)) (wv x2) (256 * 4) (2048 * (i 1).val + 1024 + 256) (nm256 (bodyRun.sl.r_28 (F := Ideal) c i arg2 harg2 arg3 harg3 arg4 harg4 arg5 harg5 arg6 harg6 arg7 harg7 arg8 harg8 x0 x1 x2 f8) (msk256 1024#32 1024#32 (shapeCast S256x256 (bodyRun.sl.v359 (F := Ideal) c i arg2 harg2 arg3 harg3 arg4 harg4 arg5 harg5 arg6 harg6 arg7 harg7 arg8 harg8 x0 x1 x2 f8) shapeCasts_S1x256x256_S256x256))) (bodyRun.sl.r_46 (F := Ideal) c i arg2 harg2 arg3 harg3 arg4 harg4 arg5 harg5 arg6 harg6 arg7 harg7 arg8 harg8 x0 x1 x2 f8) (k0_pay340 (bodyRun.sl.r_41 (F := Ideal) i arg4 harg4 x2) (bodyRun.sl.r_42 (F := Ideal) c i arg2 harg2 arg3 harg3 arg4 harg4 arg5 harg5 arg6 harg6 arg7 harg7 arg8 harg8 x0 x1 x2 f8) (bodyRun.sl.r_43 (F := Ideal) c i arg2 harg2 arg3 harg3 arg4 harg4 arg5 harg5 arg6 harg6 arg7 harg7 arg8 harg8 x0 x1 x2 f8) (bodyRun.sl.v382 (F := Ideal) c i arg2 harg2 arg3 harg3 arg4 harg4 arg5 harg5 arg6 harg6 arg7 harg7 arg8 harg8 x0 x1 x2 f8)) := by
  have h := diag4 c i arg2 harg2 arg3 harg3 arg4 harg4 arg5 harg5 arg6 harg6 arg7 harg7 arg8 harg8 x0 x1 x2 f8 hi
  rw [← bandB4 c i arg2 harg2 arg3 harg3 arg4 harg4 arg5 harg5 arg6 harg6 arg7 harg7 arg8 harg8 x0 x1 x2 f8] at h
  have h2 := St.load 4 h rfl inb_S128x2048_S128x256_0_1024
  suffices H : _ ∧ _ by
    have h3 := step256 (S := (msk256 1024#32 1024#32 (shapeCast S256x256 (bodyRun.sl.v359 (F := Ideal) c i arg2 harg2 arg3 harg3 arg4 harg4 arg5 harg5 arg6 harg6 arg7 harg7 arg8 harg8 x0 x1 x2 f8) shapeCasts_S1x256x256_S256x256))) (vt := (extractStridedSlice S128x256 ![0, 0] (bodyRun.sl.r_41 (F := Ideal) i arg4 harg4 x2) slices_S128x1024_o0_0_S128x256)) h2 H.1 H.2
    refine ⟨h3.hm, ?_, ?_⟩
    · have t := h3.hl
      exact t
    · have t := h3.ha
      exact t
  refine ⟨fun x y => ?_, fun v x => ?_⟩
  · refine (msk256_apply 1024 1024 (by omega) (by omega) _ x y).trans ?_
    rw [show (shapeCast S256x256 (bodyRun.sl.v359 (F := Ideal) c i arg2 harg2 arg3 harg3 arg4 harg4 arg5 harg5 arg6 harg6 arg7 harg7 arg8 harg8 x0 x1 x2 f8) shapeCasts_S1x256x256_S256x256) (ix2 x y) = _ from (slab_load256 arg8 _ 4 rfl _ _ x y).trans (late4 c i arg2 harg2 arg3 harg3 arg4 harg4 arg5 harg5 arg6 harg6 arg7 harg7 arg8 harg8 x0 x1 x2 f8 _ hi x y)]
    exact if_congr (by constructor <;> intro _ <;> omega) rfl rfl
  · exact (vslice256 _ _ v x).trans (vblock arg4 harg4 x2 (off8b i) (by omega) _ _ v _)

/-- Group 5's band after those. -/
theorem bandB5 : band arg6 (arg6.view.writes (Elt Ideal) arg6.view.junk (bodyRun.sl.HS0_9 (F := Ideal) c i arg2 harg2 arg3 harg3 arg4 harg4 arg5 harg5 arg6 harg6 arg7 harg7 arg8 harg8 x0 x1 x2 f8)) 5 = (k0_pay318 (bodyRun.sl.r_18 (F := Ideal) i arg4 harg4 x2) (bodyRun.sl.r_31 (F := Ideal) c i arg2 harg2 arg3 harg3 arg4 harg4 arg5 harg5 arg6 harg6 arg7 harg7 arg8 harg8 x0 x1 x2 f8) (bodyRun.sl.r_32 (F := Ideal) c i arg2 harg2 arg3 harg3 arg4 harg4 arg5 harg5 arg6 harg6 arg7 harg7 arg8 harg8 x0 x1 x2 f8) (bodyRun.sl.v298 (F := Ideal) c i arg2 harg2 arg3 harg3 arg4 harg4 arg5 harg5 arg6 harg6 arg7 harg7 arg8 harg8 x0 x1 x2 f8)) := by
  unfold bodyRun.sl.HS0_9
  refine (band_miss _ _ _ (by decide) _ _ _).trans ?_
  unfold bodyRun.sl.HS0_8
  refine (band_miss _ _ _ (by decide) _ _ _).trans ?_
  unfold bodyRun.sl.HS0_7
  refine (band_miss _ _ _ (by decide) _ _ _).trans ?_
  unfold bodyRun.sl.HS0_6
  exact band_hit _ _ _ (by decide) _ _ _

/-- Group 5 takes the diagonal stretch's remaining keys. -/
theorem diagB5 (hi : (i 1).val < 8) : St (sM (2048 * (i 1).val) (sc (qs c arg2 harg2 x0) x1)) (wv x2) (256 * 5) (2048 * (i 1).val + 1024 + 512) (nm512 (bodyRun.sl.r_30 (F := Ideal) c i arg2 harg2 arg3 harg3 arg4 harg4 arg5 harg5 arg6 harg6 arg7 harg7 arg8 harg8 x0 x1 x2 f8) (msk512 1024#32 1280#32 (shapeCast S512x256 (bodyRun.sl.v392 (F := Ideal) c i arg2 harg2 arg3 harg3 arg4 harg4 arg5 harg5 arg6 harg6 arg7 harg7 arg8 harg8 x0 x1 x2 f8) shapeCasts_S1x512x256_S512x256))) (bodyRun.sl.r_47 (F := Ideal) c i arg2 harg2 arg3 harg3 arg4 harg4 arg5 harg5 arg6 harg6 arg7 harg7 arg8 harg8 x0 x1 x2 f8) (k0_pay347 (bodyRun.sl.r_48 (F := Ideal) c i arg2 harg2 arg3 harg3 arg4 harg4 arg5 harg5 arg6 harg6 arg7 harg7 arg8 harg8 x0 x1 x2 f8)) := by
  have h := diag5 c i arg2 harg2 arg3 harg3 arg4 harg4 arg5 harg5 arg6 harg6 arg7 harg7 arg8 harg8 x0 x1 x2 f8 hi
  rw [← bandB5 c i arg2 harg2 arg3 harg3 arg4 harg4 arg5 harg5 arg6 harg6 arg7 harg7 arg8 harg8 x0 x1 x2 f8] at h
  have h2 := St.load 5 h rfl inb_S128x2048_S128x256_0_1280
  suffices H : _ ∧ _ by
    have h3 := step512 (S := (msk512 1024#32 1280#32 (shapeCast S512x256 (bodyRun.sl.v392 (F := Ideal) c i arg2 harg2 arg3 harg3 arg4 harg4 arg5 harg5 arg6 harg6 arg7 harg7 arg8 harg8 x0 x1 x2 f8) shapeCasts_S1x512x256_S512x256))) (vt := (extractStridedSlice S128x512 ![0, 0] (bodyRun.sl.r_41 (F := Ideal) i arg4 harg4 x2) slices_S128x1024_o0_0_S128x512)) h2 H.1 H.2
    refine ⟨h3.hm, ?_, ?_⟩
    · have t := h3.hl
      exact t
    · have t := h3.ha
      exact t
  refine ⟨fun x y => ?_, fun v x => ?_⟩
  · refine (msk512_apply 1024 1280 (by omega) (by omega) _ x y).trans ?_
    rw [show (shapeCast S512x256 (bodyRun.sl.v392 (F := Ideal) c i arg2 harg2 arg3 harg3 arg4 harg4 arg5 harg5 arg6 harg6 arg7 harg7 arg8 harg8 x0 x1 x2 f8) shapeCasts_S1x512x256_S512x256) (ix2 x y) = _ from (slab_load512 arg8 _ 5 rfl _ _ x y).trans (late5 c i arg2 harg2 arg3 harg3 arg4 harg4 arg5 harg5 arg6 harg6 arg7 harg7 arg8 harg8 x0 x1 x2 f8 _ hi x y)]
    exact if_congr (by constructor <;> intro _ <;> omega) rfl rfl
  · exact (vslice512 _ _ v x).trans (vblock arg4 harg4 x2 (off8b i) (by omega) _ _ v _)

/-- Group 6's band after those. -/
theorem bandB6 : band arg6 (arg6.view.writes (Elt Ideal) arg6.view.junk (bodyRun.sl.HS0_10 (F := Ideal) c i arg2 harg2 arg3 harg3 arg4 harg4 arg5 harg5 arg6 harg6 arg7 harg7 arg8 harg8 x0 x1 x2 f8)) 6 = (k0_pay324 (bodyRun.sl.r_14 (F := Ideal) c i arg2 harg2 arg3 harg3 arg4 harg4 arg5 harg5 arg6 harg6 arg7 harg7 arg8 harg8 x0 x1 x2 f8) (bodyRun.sl.r_18 (F := Ideal) i arg4 harg4 x2) (bodyRun.sl.v307 (F := Ideal) c i arg2 harg2 arg3 harg3 arg4 harg4 arg5 harg5 arg6 harg6 arg7 harg7 arg8 harg8 x0 x1 x2 f8) (bodyRun.sl.v321 (F := Ideal) c i arg2 harg2 arg3 harg3 arg4 harg4 arg5 harg5 arg6 harg6 arg7 harg7 arg8 harg8 x0 x1 x2 f8)) := by
  unfold bodyRun.sl.HS0_10
  refine (band_miss _ _ _ (by decide) _ _ _).trans ?_
  unfold bodyRun.sl.HS0_9
  refine (band_miss _ _ _ (by decide) _ _ _).trans ?_
  unfold bodyRun.sl.HS0_8
  refine (band_miss _ _ _ (by decide) _ _ _).trans ?_
  unfold bodyRun.sl.HS0_7
  exact band_hit _ _ _ (by decide) _ _ _

/-- Group 6 takes the diagonal stretch's remaining keys. -/
theorem diagB6 (hi : (i 1).val < 8) : St (sM (2048 * (i 1).val) (sc (qs c arg2 harg2 x0) x1)) (wv x2) (256 * 6) (2048 * (i 1).val + 1024 + 768) (nm768 (bodyRun.sl.r_34 (F := Ideal) c i arg2 harg2 arg3 harg3 arg4 harg4 arg5 harg5 arg6 harg6 arg7 harg7 arg8 harg8 x0 x1 x2 f8) (msk768 1024#32 1536#32 (shapeCast S768x256 (bodyRun.sl.v425 (F := Ideal) c i arg2 harg2 arg3 harg3 arg4 harg4 arg5 harg5 arg6 harg6 arg7 harg7 arg8 harg8 x0 x1 x2 f8) shapeCasts_S1x768x256_S768x256))) (bodyRun.sl.r_49 (F := Ideal) c i arg2 harg2 arg3 harg3 arg4 harg4 arg5 harg5 arg6 harg6 arg7 harg7 arg8 harg8 x0 x1 x2 f8) (k0_pay353 (bodyRun.sl.r_34 (F := Ideal) c i arg2 harg2 arg3 harg3 arg4 harg4 arg5 harg5 arg6 harg6 arg7 harg7 arg8 harg8 x0 x1 x2 f8) (bodyRun.sl.r_41 (F := Ideal) i arg4 harg4 x2) (bodyRun.sl.v425 (F := Ideal) c i arg2 harg2 arg3 harg3 arg4 harg4 arg5 harg5 arg6 harg6 arg7 harg7 arg8 harg8 x0 x1 x2 f8) (bodyRun.sl.v448 (F := Ideal) c i arg2 harg2 arg3 harg3 arg4 harg4 arg5 harg5 arg6 harg6 arg7 harg7 arg8 harg8 x0 x1 x2 f8)) := by
  have h := diag6 c i arg2 harg2 arg3 harg3 arg4 harg4 arg5 harg5 arg6 harg6 arg7 harg7 arg8 harg8 x0 x1 x2 f8 hi
  rw [← bandB6 c i arg2 harg2 arg3 harg3 arg4 harg4 arg5 harg5 arg6 harg6 arg7 harg7 arg8 harg8 x0 x1 x2 f8] at h
  have h2 := St.load 6 h rfl inb_S128x2048_S128x256_0_1536
  suffices H : _ ∧ _ by
    have h3 := step768 (S := (msk768 1024#32 1536#32 (shapeCast S768x256 (bodyRun.sl.v425 (F := Ideal) c i arg2 harg2 arg3 harg3 arg4 harg4 arg5 harg5 arg6 harg6 arg7 harg7 arg8 harg8 x0 x1 x2 f8) shapeCasts_S1x768x256_S768x256))) (vt := (extractStridedSlice S128x768 ![0, 0] (bodyRun.sl.r_41 (F := Ideal) i arg4 harg4 x2) slices_S128x1024_o0_0_S128x768)) h2 H.1 H.2
    refine ⟨h3.hm, ?_, ?_⟩
    · have t := h3.hl
      exact t
    · have t := h3.ha
      exact t
  refine ⟨fun x y => ?_, fun v x => ?_⟩
  · refine (msk768_apply 1024 1536 (by omega) (by omega) _ x y).trans ?_
    rw [show (shapeCast S768x256 (bodyRun.sl.v425 (F := Ideal) c i arg2 harg2 arg3 harg3 arg4 harg4 arg5 harg5 arg6 harg6 arg7 harg7 arg8 harg8 x0 x1 x2 f8) shapeCasts_S1x768x256_S768x256) (ix2 x y) = _ from (slab_load768 arg8 _ 6 rfl _ _ x y).trans (late6 c i arg2 harg2 arg3 harg3 arg4 harg4 arg5 harg5 arg6 harg6 arg7 harg7 arg8 harg8 x0 x1 x2 f8 _ hi x y)]
    exact if_congr (by constructor <;> intro _ <;> omega) rfl rfl
  · exact (vslice768 _ _ v x).trans (vblock arg4 harg4 x2 (off8b i) (by omega) _ _ v _)

/-- Group 7's band after those. -/
theorem bandB7 : band arg6 (arg6.view.writes (Elt Ideal) arg6.view.junk (bodyRun.sl.HS0_11 (F := Ideal) c i arg2 harg2 arg3 harg3 arg4 harg4 arg5 harg5 arg6 harg6 arg7 harg7 arg8 harg8 x0 x1 x2 f8)) 7 = (k0_pay331 (bodyRun.sl.r_18 (F := Ideal) i arg4 harg4 x2) (bodyRun.sl.r_36 (F := Ideal) c i arg2 harg2 arg3 harg3 arg4 harg4 arg5 harg5 arg6 harg6 arg7 harg7 arg8 harg8 x0 x1 x2 f8) (bodyRun.sl.r_38 (F := Ideal) c i arg2 harg2 arg3 harg3 arg4 harg4 arg5 harg5 arg6 harg6 arg7 harg7 arg8 harg8 x0 x1 x2 f8) (bodyRun.sl.r_39 (F := Ideal) c i arg2 harg2 arg3 harg3 arg4 harg4 arg5 harg5 arg6 harg6 arg7 harg7 arg8 harg8 x0 x1 x2 f8) (bodyRun.sl.v344 (F := Ideal) c i arg2 harg2 arg3 harg3 arg4 harg4 arg5 harg5 arg6 harg6 arg7 harg7 arg8 harg8 x0 x1 x2 f8)) := by
  unfold bodyRun.sl.HS0_11
  refine (band_miss _ _ _ (by decide) _ _ _).trans ?_
  unfold bodyRun.sl.HS0_10
  refine (band_miss _ _ _ (by decide) _ _ _).trans ?_
  unfold bodyRun.sl.HS0_9
  refine (band_miss _ _ _ (by decide) _ _ _).trans ?_
  unfold bodyRun.sl.HS0_8
  exact band_hit _ _ _ (by decide) _ _ _

/-- Group 7 takes the diagonal stretch's remaining keys. -/
theorem diagB7 (hi : (i 1).val < 8) : St (sM (2048 * (i 1).val) (sc (qs c arg2 harg2 x0) x1)) (wv x2) (256 * 7) (2048 * (i 1).val + 1024 + 1024) (nm1024 (bodyRun.sl.r_37 (F := Ideal) c i arg2 harg2 arg3 harg3 arg4 harg4 arg5 harg5 arg6 harg6 arg7 harg7 arg8 harg8 x0 x1 x2 f8) (msk1024 1024#32 1792#32 (shapeCast S1024x256 (bodyRun.sl.v458 (F := Ideal) c i arg2 harg2 arg3 harg3 arg4 harg4 arg5 harg5 arg6 harg6 arg7 harg7 arg8 harg8 x0 x1 x2 f8) shapeCasts_S1x1024x256_S1024x256))) (bodyRun.sl.r_51 (F := Ideal) c i arg2 harg2 arg3 harg3 arg4 harg4 arg5 harg5 arg6 harg6 arg7 harg7 arg8 harg8 x0 x1 x2 f8) (k0_pay361 (bodyRun.sl.r_37 (F := Ideal) c i arg2 harg2 arg3 harg3 arg4 harg4 arg5 harg5 arg6 harg6 arg7 harg7 arg8 harg8 x0 x1 x2 f8) (bodyRun.sl.r_41 (F := Ideal) i arg4 harg4 x2) (bodyRun.sl.r_50 (F := Ideal) c i arg2 harg2 arg3 harg3 arg4 harg4 arg5 harg5 arg6 harg6 arg7 harg7 arg8 harg8 x0 x1 x2 f8) bodyRun.sl.v460 k0_pay355 (bodyRun.sl.v481 (F := Ideal) c i arg2 harg2 arg3 harg3 arg4 harg4 arg5 harg5 arg6 harg6 arg7 harg7 arg8 harg8 x0 x1 x2 f8)) := by
  have h := diag7 c i arg2 harg2 arg3 harg3 arg4 harg4 arg5 harg5 arg6 harg6 arg7 harg7 arg8 harg8 x0 x1 x2 f8 hi
  rw [← bandB7 c i arg2 harg2 arg3 harg3 arg4 harg4 arg5 harg5 arg6 harg6 arg7 harg7 arg8 harg8 x0 x1 x2 f8] at h
  have h2 := St.load 7 h rfl inb_S128x2048_S128x256_0_1792
  suffices H : _ ∧ _ by
    have h3 := step1024 (S := (msk1024 1024#32 1792#32 (shapeCast S1024x256 (bodyRun.sl.v458 (F := Ideal) c i arg2 harg2 arg3 harg3 arg4 harg4 arg5 harg5 arg6 harg6 arg7 harg7 arg8 harg8 x0 x1 x2 f8) shapeCasts_S1x1024x256_S1024x256))) (vt := (bodyRun.sl.r_41 (F := Ideal) i arg4 harg4 x2)) h2 H.1 H.2
    refine ⟨h3.hm, ?_, ?_⟩
    · have t := h3.hl
      exact t
    · have t := h3.ha
      exact t
  refine ⟨fun x y => ?_, fun v x => ?_⟩
  · refine (msk1024_apply 1024 1792 (by omega) (by omega) _ x y).trans ?_
    rw [show (shapeCast S1024x256 (bodyRun.sl.v458 (F := Ideal) c i arg2 harg2 arg3 harg3 arg4 harg4 arg5 harg5 arg6 harg6 arg7 harg7 arg8 harg8 x0 x1 x2 f8) shapeCasts_S1x1024x256_S1024x256) (ix2 x y) = _ from (slab_load1024 arg8 _ 7 rfl _ _ x y).trans (late7 c i arg2 harg2 arg3 harg3 arg4 harg4 arg5 harg5 arg6 harg6 arg7 harg7 arg8 harg8 x0 x1 x2 f8 _ hi x y)]
    exact if_congr (by constructor <;> intro _ <;> omega) rfl rfl
  · exact vblock arg4 harg4 x2 (off8b i) (by omega) _ _ v _

/-- Group 0's band at the end. -/
theorem bandC0 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 0 = (k0_pay284 (bodyRun.sl.r_2 (F := Ideal) c i arg2 harg2 arg3 harg3 arg4 harg4 arg5 harg5 arg6 harg6 arg7 harg7 arg8 harg8 x0 x1 x2 f8) (bodyRun.sl.r_18 (F := Ideal) i arg4 harg4 x2) (bodyRun.sl.v130 (F := Ideal) c i arg2 harg2 arg3 harg3 arg4 harg4 arg5 harg5 arg6 harg6 arg7 harg7 arg8 harg8 x0 x1 x2 f8) (bodyRun.sl.v153 (F := Ideal) c i arg2 harg2 arg3 harg3 arg4 harg4 arg5 harg5 arg6 harg6 arg7 harg7 arg8 harg8 x0 x1 x2 f8)) := by
  unfold bodyRun.sl.HS0_12
  refine (band_miss _ _ _ (by decide) _ _ _).trans ?_
  unfold bodyRun.sl.HS0_11
  refine (band_miss _ _ _ (by decide) _ _ _).trans ?_
  unfold bodyRun.sl.HS0_10
  refine (band_miss _ _ _ (by decide) _ _ _).trans ?_
  unfold bodyRun.sl.HS0_9
  refine (band_miss _ _ _ (by decide) _ _ _).trans ?_
  unfold bodyRun.sl.HS0_8
  refine (band_miss _ _ _ (by decide) _ _ _).trans ?_
  unfold bodyRun.sl.HS0_7
  refine (band_miss _ _ _ (by decide) _ _ _).trans ?_
  unfold bodyRun.sl.HS0_6
  refine (band_miss _ _ _ (by decide) _ _ _).trans ?_
  unfold bodyRun.sl.HS0_5
  refine (band_miss _ _ _ (by decide) _ _ _).trans ?_
  unfold bodyRun.sl.HS0_4
  refine (band_miss _ _ _ (by decide) _ _ _).trans ?_
  unfold bodyRun.sl.HS0_3
  refine (band_miss _ _ _ (by decide) _ _ _).trans ?_
  unfold bodyRun.sl.HS0_2
  refine (band_miss _ _ _ (by decide) _ _ _).trans ?_
  unfold bodyRun.sl.HS0_1_1
  exact band_hit _ _ _ (by decide) _ _ _

/-- Group 1's band at the end. -/
theorem bandC1 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 1 = (k0_pay292 (bodyRun.sl.r_4 (F := Ideal) c i arg2 harg2 arg3 harg3 arg4 harg4 arg5 harg5 arg6 harg6 arg7 harg7 arg8 harg8 x0 x1 x2 f8) (bodyRun.sl.r_18 (F := Ideal) i arg4 harg4 x2) (bodyRun.sl.r_20 (F := Ideal) c i arg2 harg2 arg3 harg3 arg4 harg4 arg5 harg5 arg6 harg6 arg7 harg7 arg8 harg8 x0 x1 x2 f8) k0_pay286 (bodyRun.sl.v186 (F := Ideal) c i arg2 harg2 arg3 harg3 arg4 harg4 arg5 harg5 arg6 harg6 arg7 harg7 arg8 harg8 x0 x1 x2 f8)) := by
  unfold bodyRun.sl.HS0_12
  refine (band_miss _ _ _ (by decide) _ _ _).trans ?_
  unfold bodyRun.sl.HS0_11
  refine (band_miss _ _ _ (by decide) _ _ _).trans ?_
  unfold bodyRun.sl.HS0_10
  refine (band_miss _ _ _ (by decide) _ _ _).trans ?_
  unfold bodyRun.sl.HS0_9
  refine (band_miss _ _ _ (by decide) _ _ _).trans ?_
  unfold bodyRun.sl.HS0_8
  refine (band_miss _ _ _ (by decide) _ _ _).trans ?_
  unfold bodyRun.sl.HS0_7
  refine (band_miss _ _ _ (by decide) _ _ _).trans ?_
  unfold bodyRun.sl.HS0_6
  refine (band_miss _ _ _ (by decide) _ _ _).trans ?_
  unfold bodyRun.sl.HS0_5
  refine (band_miss _ _ _ (by decide) _ _ _).trans ?_
  unfold bodyRun.sl.HS0_4
  refine (band_miss _ _ _ (by decide) _ _ _).trans ?_
  unfold bodyRun.sl.HS0_3
  refine (band_miss _ _ _ (by decide) _ _ _).trans ?_
  unfold bodyRun.sl.HS0_2
  exact band_hit _ _ _ (by decide) _ _ _

/-- Group 2's band at the end. -/
theorem bandC2 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 2 = (k0_pay299 (bodyRun.sl.r_18 (F := Ideal) i arg4 harg4 x2) (bodyRun.sl.r_22 (F := Ideal) c i arg2 harg2 arg3 harg3 arg4 harg4 arg5 harg5 arg6 harg6 arg7 harg7 arg8 harg8 x0 x1 x2 f8) (bodyRun.sl.r_23 (F := Ideal) c i arg2 harg2 arg3 harg3 arg4 harg4 arg5 harg5 arg6 harg6 arg7 harg7 arg8 harg8 x0 x1 x2 f8) (bodyRun.sl.v219 (F := Ideal) c i arg2 harg2 arg3 harg3 arg4 harg4 arg5 harg5 arg6 harg6 arg7 harg7 arg8 harg8 x0 x1 x2 f8)) := by
  unfold bodyRun.sl.HS0_12
  refine (band_miss _ _ _ (by decide) _ _ _).trans ?_
  unfold bodyRun.sl.HS0_11
  refine (band_miss _ _ _ (by decide) _ _ _).trans ?_
  unfold bodyRun.sl.HS0_10
  refine (band_miss _ _ _ (by decide) _ _ _).trans ?_
  unfold bodyRun.sl.HS0_9
  refine (band_miss _ _ _ (by decide) _ _ _).trans ?_
  unfold bodyRun.sl.HS0_8
  refine (band_miss _ _ _ (by decide) _ _ _).trans ?_
  unfold bodyRun.sl.HS0_7
  refine (band_miss _ _ _ (by decide) _ _ _).trans ?_
  unfold bodyRun.sl.HS0_6
  refine (band_miss _ _ _ (by decide) _ _ _).trans ?_
  unfold bodyRun.sl.HS0_5
  refine (band_miss _ _ _ (by decide) _ _ _).trans ?_
  unfold bodyRun.sl.HS0_4
  refine (band_miss _ _ _ (by decide) _ _ _).trans ?_
  unfold bodyRun.sl.HS0_3
  exact band_hit _ _ _ (by decide) _ _ _

/-- Group 3's band at the end. -/
theorem bandC3 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 3 = (k0_pay306 (bodyRun.sl.r_27 (F := Ideal) c i arg2 harg2 arg3 harg3 arg4 harg4 arg5 harg5 arg6 harg6 arg7 harg7 arg8 harg8 x0 x1 x2 f8)) := by
  unfold bodyRun.sl.HS0_12
  refine (band_miss _ _ _ (by decide) _ _ _).trans ?_
  unfold bodyRun.sl.HS0_11
  refine (band_miss _ _ _ (by decide) _ _ _).trans ?_
  unfold bodyRun.sl.HS0_10
  refine (band_miss _ _ _ (by decide) _ _ _).trans ?_
  unfold bodyRun.sl.HS0_9
  refine (band_miss _ _ _ (by decide) _ _ _).trans ?_
  unfold bodyRun.sl.HS0_8
  refine (band_miss _ _ _ (by decide) _ _ _).trans ?_
  unfold bodyRun.sl.HS0_7
  refine (band_miss _ _ _ (by decide) _ _ _).trans ?_
  unfold bodyRun.sl.HS0_6
  refine (band_miss _ _ _ (by decide) _ _ _).trans ?_
  unfold bodyRun.sl.HS0_5
  refine (band_miss _ _ _ (by decide) _ _ _).trans ?_
  unfold bodyRun.sl.HS0_4
  exact band_hit _ _ _ (by decide) _ _ _

/-- Group 4's band at the end. -/
theorem bandC4 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 4 = (k0_pay340 (bodyRun.sl.r_41 (F := Ideal) i arg4 harg4 x2) (bodyRun.sl.r_42 (F := Ideal) c i arg2 harg2 arg3 harg3 arg4 harg4 arg5 harg5 arg6 harg6 arg7 harg7 arg8 harg8 x0 x1 x2 f8) (bodyRun.sl.r_43 (F := Ideal) c i arg2 harg2 arg3 harg3 arg4 harg4 arg5 harg5 arg6 harg6 arg7 harg7 arg8 harg8 x0 x1 x2 f8) (bodyRun.sl.v382 (F := Ideal) c i arg2 harg2 arg3 harg3 arg4 harg4 arg5 harg5 arg6 harg6 arg7 harg7 arg8 harg8 x0 x1 x2 f8)) := by
  unfold bodyRun.sl.HS0_12
  refine (band_miss _ _ _ (by decide) _ _ _).trans ?_
  unfold bodyRun.sl.HS0_11
  refine (band_miss _ _ _ (by decide) _ _ _).trans ?_
  unfold bodyRun.sl.HS0_10
  refine (band_miss _ _ _ (by decide) _ _ _).trans ?_
  unfold bodyRun.sl.HS0_9
  exact band_hit _ _ _ (by decide) _ _ _

/-- Group 5's band at the end. -/
theorem bandC5 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 5 = (k0_pay347 (bodyRun.sl.r_48 (F := Ideal) c i arg2 harg2 arg3 harg3 arg4 harg4 arg5 harg5 arg6 harg6 arg7 harg7 arg8 harg8 x0 x1 x2 f8)) := by
  unfold bodyRun.sl.HS0_12
  refine (band_miss _ _ _ (by decide) _ _ _).trans ?_
  unfold bodyRun.sl.HS0_11
  refine (band_miss _ _ _ (by decide) _ _ _).trans ?_
  unfold bodyRun.sl.HS0_10
  exact band_hit _ _ _ (by decide) _ _ _

/-- Group 6's band at the end. -/
theorem bandC6 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 6 = (k0_pay353 (bodyRun.sl.r_34 (F := Ideal) c i arg2 harg2 arg3 harg3 arg4 harg4 arg5 harg5 arg6 harg6 arg7 harg7 arg8 harg8 x0 x1 x2 f8) (bodyRun.sl.r_41 (F := Ideal) i arg4 harg4 x2) (bodyRun.sl.v425 (F := Ideal) c i arg2 harg2 arg3 harg3 arg4 harg4 arg5 harg5 arg6 harg6 arg7 harg7 arg8 harg8 x0 x1 x2 f8) (bodyRun.sl.v448 (F := Ideal) c i arg2 harg2 arg3 harg3 arg4 harg4 arg5 harg5 arg6 harg6 arg7 harg7 arg8 harg8 x0 x1 x2 f8)) := by
  unfold bodyRun.sl.HS0_12
  refine (band_miss _ _ _ (by decide) _ _ _).trans ?_
  unfold bodyRun.sl.HS0_11
  exact band_hit _ _ _ (by decide) _ _ _

/-- Group 7's band at the end. -/
theorem bandC7 : band arg6 (arg6.view.writes (Elt Ideal) arg6.view.junk (bodyRun.sl.HS0_12 (F := Ideal) c i arg2 harg2 arg3 harg3 arg4 harg4 arg5 harg5 arg6 harg6 arg7 harg7 arg8 harg8 x0 x1 x2 f8)) 7 = (k0_pay361 (bodyRun.sl.r_37 (F := Ideal) c i arg2 harg2 arg3 harg3 arg4 harg4 arg5 harg5 arg6 harg6 arg7 harg7 arg8 harg8 x0 x1 x2 f8) (bodyRun.sl.r_41 (F := Ideal) i arg4 harg4 x2) (bodyRun.sl.r_50 (F := Ideal) c i arg2 harg2 arg3 harg3 arg4 harg4 arg5 harg5 arg6 harg6 arg7 harg7 arg8 harg8 x0 x1 x2 f8) bodyRun.sl.v460 k0_pay355 (bodyRun.sl.v481 (F := Ideal) c i arg2 harg2 arg3 harg3 arg4 harg4 arg5 harg5 arg6 harg6 arg7 harg7 arg8 harg8 x0 x1 x2 f8)) := by
  unfold bodyRun.sl.HS0_12
  exact band_hit _ _ _ (by decide) _ _ _

end

end Cert.Flash

end
-- ==== Proof.Out.lean ====
/- The block of queries written back: each query's weighted values over its sum of weights, over all the keys with those
   after the query masked. -/
module

public import proofs.«01_k».proof.Proof.Diag

@[expose] public section

set_option maxRecDepth 16384

noncomputable section

namespace Cert.Flash

open Cert.KernelIdeal Cert.KernelIdeal.Gen
open Idealize.ShloMosaic Idealize.ShloMosaic.TcCoe

/-- A block of 2048 queries' attention outputs, from the scores `s` of its rows, the values `w` and its first query `b`. -/
def out (b : ℕ) (s w : ℕ → ℕ → EReal) : Vec Ideal S2048x128 .bf16 :=
  fun j => Ideal.div (ac (sM b s (j 0).val) (w (j 1).val) 16384) (ls (sM b s (j 0).val) 16384)

/-- The kernel's last division on a group that has taken all the keys up to its own last query. -/
theorem piece {b N : ℕ} {s w : ℕ → ℕ → EReal} {l m : FVec Ideal S1x256 .f32} {a : FVec Ideal S128x256 .f32} (g : Fin 8)
    (h : St (sM b s) w (256 * g.val) N m l a) (hN : b + 256 * g.val + 256 ≤ N) (hN' : N ≤ 16384) (h1 h2 h3) (y : Fin 256) (v : Fin 128) :
    truncf .bf16 (transpose S256x128 [1, 0] (divf a (broadcastTo S128x256 l h1)) h2) h3 (ix2 y v) = out b s w (ix2 (colIx g y) v) := by
  have e1 := h.hl y
  have e2 := h.ha v y
  have t : ∀ k, N ≤ k → k < 16384 → sM b s (256 * g.val + y.val) k = ⊥ := fun k hk _ => if_neg (by have := y.isLt; omega)
  rw [← ls_tail _ hN' t] at e1
  rw [← ac_tail _ _ hN' t] at e2
  refine Eq.trans ?_ (congrArg₂ Ideal.div e2 e1)
  pointwise []

section
variable (arg5 : Memref sig .tc .vmem S2048x128 .bf16) (f : BufTy.Contents (Elt Ideal) arg5.view.ty)

/-- A piece's own rows. -/
theorem row_hit (c : Fin 8) {o : ℕ} (ho : o = 256 * c.val) (inb) (w : FVec Ideal S256x128 .bf16) (L : List (View.Piece (Elt Ideal) S2048x128 .bf16))
    (y : Fin 256) (v : Fin 128) :
    arg5.view.read (Elt Ideal) (arg5.view.writes (Elt Ideal) f (⟨Rect.unit (s := S2048x128) ![o, 0] S256x128.size inb, w⟩ :: L)) (ix2 (colIx c y) v) = w (ix2 y v) := by
  subst ho
  exact View.read_writes_cons_unit_of_mem arg5.view f inb w L _ (ix2 y v) rfl (by
    intro a
    fin_cases a
    · rfl
    · show v.val = 0 + v.val
      omega)

/-- Another piece's rows. -/
theorem row_miss (c : Fin 8) {o : ℕ} (ho : o + 256 ≤ 256 * c.val ∨ 256 * c.val + 256 ≤ o) (inb) (w : FVec Ideal S256x128 .bf16) (L : List (View.Piece (Elt Ideal) S2048x128 .bf16))
    (y : Fin 256) (v : Fin 128) :
    arg5.view.read (Elt Ideal) (arg5.view.writes (Elt Ideal) f (⟨Rect.unit (s := S2048x128) ![o, 0] S256x128.size inb, w⟩ :: L)) (ix2 (colIx c y) v)
      = arg5.view.read (Elt Ideal) (arg5.view.writes (Elt Ideal) f L) (ix2 (colIx c y) v) := by
  refine View.read_writes_cons_unit_of_not_mem arg5.view f inb w L _ rfl 0 ?_
  have := y.isLt
  show 256 * c.val + y.val < o ∨ o + 256 ≤ 256 * c.val + y.val
  omega

end

attribute [local irreducible] st_k0_t1 st_k0_t2

section
variable (c : Dev nD) (i : grid0.Coords) (arg2 : Memref sig .tc .vmem S1x2048x192 .f32) (harg2 : arg2.IsWhole) (arg3 : Memref sig .tc .vmem S1x16384x192 .bf16) (harg3 : arg3.IsWhole) (arg4 : Memref sig .tc .vmem S128x16384 .bf16) (harg4 : arg4.IsWhole) (arg5 : Memref sig .tc .vmem S2048x128 .bf16) (harg5 : arg5.IsWhole) (arg6 : Memref sig .tc .vmem S128x2048 .f32) (harg6 : arg6.IsWhole) (arg7 : Memref sig .tc .vmem S8x1024x256 .f32) (harg7 : arg7.IsWhole) (arg8 : Memref sig .tc .vmem S8x1024x256 .f32) (harg8 : arg8.IsWhole)
    (x0 : Vec Ideal S1x2048x192 .f32) (x1 : Vec Ideal S1x16384x192 .bf16) (x2 : Vec Ideal S128x16384 .bf16) (f8 : BufTy.Contents (Elt Ideal) arg8.view.ty)
include c i arg2 harg2 arg3 harg3 arg4 harg4 arg5 harg5 arg6 harg6 arg7 harg7 arg8 harg8 x0 x1 x2 f8

/-- Group 0's rows of the block. -/
theorem piece0 (hi : (i 1).val < 8) (y : Fin 256) (v : Fin 128) :
    (k0_pay362 (bodyRun.sl.r_19 (F := Ideal) c i arg2 harg2 arg3 harg3 arg4 harg4 arg5 harg5 arg6 harg6 arg7 harg7 arg8 harg8 x0 x1 x2 f8) (bodyRun.sl.v490 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 0 y) v) := by
  have e : (bodyRun.sl.v490 (F := Ideal) c i arg2 harg2 arg3 harg3 arg4 harg4 arg5 harg5 arg6 harg6 arg7 harg7 arg8 harg8 x0 x1 x2 f8) = (k0_pay284 (bodyRun.sl.r_2 (F := Ideal) c i arg2 harg2 arg3 harg3 arg4 harg4 arg5 harg5 arg6 harg6 arg7 harg7 arg8 harg8 x0 x1 x2 f8) (bodyRun.sl.r_18 (F := Ideal) i arg4 harg4 x2) (bodyRun.sl.v130 (F := Ideal) c i arg2 harg2 arg3 harg3 arg4 harg4 arg5 harg5 arg6 harg6 arg7 harg7 arg8 harg8 x0 x1 x2 f8) (bodyRun.sl.v153 (F := Ideal) c i arg2 harg2 arg3 harg3 arg4 harg4 arg5 harg5 arg6 harg6 arg7 harg7 arg8 harg8 x0 x1 x2 f8)) :=
    (band_load arg6 _ 0 rfl _).trans (bandC0 c i arg2 harg2 arg3 harg3 arg4 harg4 arg5 harg5 arg6 harg6 arg7 harg7 arg8 harg8 x0 x1 x2 f8)
  rw [e]
  have h := piece 0 (diag0 c i arg2 harg2 arg3 harg3 arg4 harg4 arg5 harg5 arg6 harg6 arg7 harg7 arg8 harg8 x0 x1 x2 f8 hi) (by show _ + 256 * 0 + 256 ≤ _; omega) (by omega) broadcasts_S1x256_S128x256 transposes_S128x256_p1_0_S256x128 bitsLt_bf16_f32 y v
  exact h

/-- Group 1's rows of the block. -/
theorem piece1 (hi : (i 1).val < 8) (y : Fin 256) (v : Fin 128) :
    (k0_pay363 (bodyRun.sl.r_21 (F := Ideal) c i arg2 harg2 arg3 harg3 arg4 harg4 arg5 harg5 arg6 harg6 arg7 harg7 arg8 harg8 x0 x1 x2 f8) (bodyRun.sl.v496 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 1 y) v) := by
  have e : (bodyRun.sl.v496 (F := Ideal) c i arg2 harg2 arg3 harg3 arg4 harg4 arg5 harg5 arg6 harg6 arg7 harg7 arg8 harg8 x0 x1 x2 f8) = (k0_pay292 (bodyRun.sl.r_4 (F := Ideal) c i arg2 harg2 arg3 harg3 arg4 harg4 arg5 harg5 arg6 harg6 arg7 harg7 arg8 harg8 x0 x1 x2 f8) (bodyRun.sl.r_18 (F := Ideal) i arg4 harg4 x2) (bodyRun.sl.r_20 (F := Ideal) c i arg2 harg2 arg3 harg3 arg4 harg4 arg5 harg5 arg6 harg6 arg7 harg7 arg8 harg8 x0 x1 x2 f8) k0_pay286 (bodyRun.sl.v186 (F := Ideal) c i arg2 harg2 arg3 harg3 arg4 harg4 arg5 harg5 arg6 harg6 arg7 harg7 arg8 harg8 x0 x1 x2 f8)) :=
    (band_load arg6 _ 1 rfl _).trans (bandC1 c i arg2 harg2 arg3 harg3 arg4 harg4 arg5 harg5 arg6 harg6 arg7 harg7 arg8 harg8 x0 x1 x2 f8)
  rw [e]
  have h := piece 1 (diag1 c i arg2 harg2 arg3 harg3 arg4 harg4 arg5 harg5 arg6 harg6 arg7 harg7 arg8 harg8 x0 x1 x2 f8 hi) (by show _ + 256 * 1 + 256 ≤ _; omega) (by omega) broadcasts_S1x256_S128x256 transposes_S128x256_p1_0_S256x128 bitsLt_bf16_f32 y v
  exact h

/-- Group 2's rows of the block. -/
theorem piece2 (hi : (i 1).val < 8) (y : Fin 256) (v : Fin 128) :
    (k0_pay364 (bodyRun.sl.r_25 (F := Ideal) c i arg2 harg2 arg3 harg3 arg4 harg4 arg5 harg5 arg6 harg6 arg7 harg7 arg8 harg8 x0 x1 x2 f8) (bodyRun.sl.v502 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 2 y) v) := by
  have e : (bodyRun.sl.v502 (F := Ideal) c i arg2 harg2 arg3 harg3 arg4 harg4 arg5 harg5 arg6 harg6 arg7 harg7 arg8 harg8 x0 x1 x2 f8) = (k0_pay299 (bodyRun.sl.r_18 (F := Ideal) i arg4 harg4 x2) (bodyRun.sl.r_22 (F := Ideal) c i arg2 harg2 arg3 harg3 arg4 harg4 arg5 harg5 arg6 harg6 arg7 harg7 arg8 harg8 x0 x1 x2 f8) (bodyRun.sl.r_23 (F := Ideal) c i arg2 harg2 arg3 harg3 arg4 harg4 arg5 harg5 arg6 harg6 arg7 harg7 arg8 harg8 x0 x1 x2 f8) (bodyRun.sl.v219 (F := Ideal) c i arg2 harg2 arg3 harg3 arg4 harg4 arg5 harg5 arg6 harg6 arg7 harg7 arg8 harg8 x0 x1 x2 f8)) :=
    (band_load arg6 _ 2 rfl _).trans (bandC2 c i arg2 harg2 arg3 harg3 arg4 harg4 arg5 harg5 arg6 harg6 arg7 harg7 arg8 harg8 x0 x1 x2 f8)
  rw [e]
  have h := piece 2 (diag2 c i arg2 harg2 arg3 harg3 arg4 harg4 arg5 harg5 arg6 harg6 arg7 harg7 arg8 harg8 x0 x1 x2 f8 hi) (by show _ + 256 * 2 + 256 ≤ _; omega) (by omega) broadcasts_S1x256_S128x256 transposes_S128x256_p1_0_S256x128 bitsLt_bf16_f32 y v
  exact h

/-- Group 3's rows of the block. -/
theorem piece3 (hi : (i 1).val < 8) (y : Fin 256) (v : Fin 128) :
    (k0_pay365 (bodyRun.sl.r_26 (F := Ideal) c i arg2 harg2 arg3 harg3 arg4 harg4 arg5 harg5 arg6 harg6 arg7 harg7 arg8 harg8 x0 x1 x2 f8) (bodyRun.sl.v508 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 3 y) v) := by
  have e : (bodyRun.sl.v508 (F := Ideal) c i arg2 harg2 arg3 harg3 arg4 harg4 arg5 harg5 arg6 harg6 arg7 harg7 arg8 harg8 x0 x1 x2 f8) = (k0_pay306 (bodyRun.sl.r_27 (F := Ideal) c i arg2 harg2 arg3 harg3 arg4 harg4 arg5 harg5 arg6 harg6 arg7 harg7 arg8 harg8 x0 x1 x2 f8)) :=
    (band_load arg6 _ 3 rfl _).trans (bandC3 c i arg2 harg2 arg3 harg3 arg4 harg4 arg5 harg5 arg6 harg6 arg7 harg7 arg8 harg8 x0 x1 x2 f8)
  rw [e]
  have h := piece 3 (diag3 c i arg2 harg2 arg3 harg3 arg4 harg4 arg5 harg5 arg6 harg6 arg7 harg7 arg8 harg8 x0 x1 x2 f8 hi) (by show _ + 256 * 3 + 256 ≤ _; omega) (by omega) broadcasts_S1x256_S128x256 transposes_S128x256_p1_0_S256x128 bitsLt_bf16_f32 y v
  exact h

/-- Group 4's rows of the block. -/
theorem piece4 (hi : (i 1).val < 8) (y : Fin 256) (v : Fin 128) :
    (k0_pay366 (bodyRun.sl.r_46 (F := Ideal) c i arg2 harg2 arg3 harg3 arg4 harg4 arg5 harg5 arg6 harg6 arg7 harg7 arg8 harg8 x0 x1 x2 f8) (bodyRun.sl.v514 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 4 y) v) := by
  have e : (bodyRun.sl.v514 (F := Ideal) c i arg2 harg2 arg3 harg3 arg4 harg4 arg5 harg5 arg6 harg6 arg7 harg7 arg8 harg8 x0 x1 x2 f8) = (k0_pay340 (bodyRun.sl.r_41 (F := Ideal) i arg4 harg4 x2) (bodyRun.sl.r_42 (F := Ideal) c i arg2 harg2 arg3 harg3 arg4 harg4 arg5 harg5 arg6 harg6 arg7 harg7 arg8 harg8 x0 x1 x2 f8) (bodyRun.sl.r_43 (F := Ideal) c i arg2 harg2 arg3 harg3 arg4 harg4 arg5 harg5 arg6 harg6 arg7 harg7 arg8 harg8 x0 x1 x2 f8) (bodyRun.sl.v382 (F := Ideal) c i arg2 harg2 arg3 harg3 arg4 harg4 arg5 harg5 arg6 harg6 arg7 harg7 arg8 harg8 x0 x1 x2 f8)) :=
    (band_load arg6 _ 4 rfl _).trans (bandC4 c i arg2 harg2 arg3 harg3 arg4 harg4 arg5 harg5 arg6 harg6 arg7 harg7 arg8 harg8 x0 x1 x2 f8)
  rw [e]
  have h := piece 4 (diagB4 c i arg2 harg2 arg3 harg3 arg4 harg4 arg5 harg5 arg6 harg6 arg7 harg7 arg8 harg8 x0 x1 x2 f8 hi) (by show _ + 256 * 4 + 256 ≤ _; omega) (by omega) broadcasts_S1x256_S128x256 transposes_S128x256_p1_0_S256x128 bitsLt_bf16_f32 y v
  exact h

/-- Group 5's rows of the block. -/
theorem piece5 (hi : (i 1).val < 8) (y : Fin 256) (v : Fin 128) :
    (k0_pay367 (bodyRun.sl.r_47 (F := Ideal) c i arg2 harg2 arg3 harg3 arg4 harg4 arg5 harg5 arg6 harg6 arg7 harg7 arg8 harg8 x0 x1 x2 f8) (bodyRun.sl.v520 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 5 y) v) := by
  have e : (bodyRun.sl.v520 (F := Ideal) c i arg2 harg2 arg3 harg3 arg4 harg4 arg5 harg5 arg6 harg6 arg7 harg7 arg8 harg8 x0 x1 x2 f8) = (k0_pay347 (bodyRun.sl.r_48 (F := Ideal) c i arg2 harg2 arg3 harg3 arg4 harg4 arg5 harg5 arg6 harg6 arg7 harg7 arg8 harg8 x0 x1 x2 f8)) :=
    (band_load arg6 _ 5 rfl _).trans (bandC5 c i arg2 harg2 arg3 harg3 arg4 harg4 arg5 harg5 arg6 harg6 arg7 harg7 arg8 harg8 x0 x1 x2 f8)
  rw [e]
  have h := piece 5 (diagB5 c i arg2 harg2 arg3 harg3 arg4 harg4 arg5 harg5 arg6 harg6 arg7 harg7 arg8 harg8 x0 x1 x2 f8 hi) (by show _ + 256 * 5 + 256 ≤ _; omega) (by omega) broadcasts_S1x256_S128x256 transposes_S128x256_p1_0_S256x128 bitsLt_bf16_f32 y v
  exact h

/-- Group 6's rows of the block. -/
theorem piece6 (hi : (i 1).val < 8) (y : Fin 256) (v : Fin 128) :
    (k0_pay368 (bodyRun.sl.r_49 (F := Ideal) c i arg2 harg2 arg3 harg3 arg4 harg4 arg5 harg5 arg6 harg6 arg7 harg7 arg8 harg8 x0 x1 x2 f8) (bodyRun.sl.v526 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 6 y) v) := by
  have e : (bodyRun.sl.v526 (F := Ideal) c i arg2 harg2 arg3 harg3 arg4 harg4 arg5 harg5 arg6 harg6 arg7 harg7 arg8 harg8 x0 x1 x2 f8) = (k0_pay353 (bodyRun.sl.r_34 (F := Ideal) c i arg2 harg2 arg3 harg3 arg4 harg4 arg5 harg5 arg6 harg6 arg7 harg7 arg8 harg8 x0 x1 x2 f8) (bodyRun.sl.r_41 (F := Ideal) i arg4 harg4 x2) (bodyRun.sl.v425 (F := Ideal) c i arg2 harg2 arg3 harg3 arg4 harg4 arg5 harg5 arg6 harg6 arg7 harg7 arg8 harg8 x0 x1 x2 f8) (bodyRun.sl.v448 (F := Ideal) c i arg2 harg2 arg3 harg3 arg4 harg4 arg5 harg5 arg6 harg6 arg7 harg7 arg8 harg8 x0 x1 x2 f8)) :=
    (band_load arg6 _ 6 rfl _).trans (bandC6 c i arg2 harg2 arg3 harg3 arg4 harg4 arg5 harg5 arg6 harg6 arg7 harg7 arg8 harg8 x0 x1 x2 f8)
  rw [e]
  have h := piece 6 (diagB6 c i arg2 harg2 arg3 harg3 arg4 harg4 arg5 harg5 arg6 harg6 arg7 harg7 arg8 harg8 x0 x1 x2 f8 hi) (by show _ + 256 * 6 + 256 ≤ _; omega) (by omega) broadcasts_S1x256_S128x256 transposes_S128x256_p1_0_S256x128 bitsLt_bf16_f32 y v
  exact h

/-- Group 7's rows of the block. -/
theorem piece7 (hi : (i 1).val < 8) (y : Fin 256) (v : Fin 128) :
    (k0_pay1 (bodyRun.sl.r_52 (F := Ideal) c i arg2 harg2 arg3 harg3 arg4 harg4 arg5 harg5 arg6 harg6 arg7 harg7 arg8 harg8 x0 x1 x2 f8)) (ix2 y v) = out (2048 * (i 1).val) (sc (qs c arg2 harg2 x0) x1) (wv x2) (ix2 (colIx 7 y) v) := by
  have e : (bodyRun.sl.v532 (F := Ideal) c i arg2 harg2 arg3 harg3 arg4 harg4 arg5 harg5 arg6 harg6 arg7 harg7 arg8 harg8 x0 x1 x2 f8) = (k0_pay361 (bodyRun.sl.r_37 (F := Ideal) c i arg2 harg2 arg3 harg3 arg4 harg4 arg5 harg5 arg6 harg6 arg7 harg7 arg8 harg8 x0 x1 x2 f8) (bodyRun.sl.r_41 (F := Ideal) i arg4 harg4 x2) (bodyRun.sl.r_50 (F := Ideal) c i arg2 harg2 arg3 harg3 arg4 harg4 arg5 harg5 arg6 harg6 arg7 harg7 arg8 harg8 x0 x1 x2 f8) bodyRun.sl.v460 k0_pay355 (bodyRun.sl.v481 (F := Ideal) c i arg2 harg2 arg3 harg3 arg4 harg4 arg5 harg5 arg6 harg6 arg7 harg7 arg8 harg8 x0 x1 x2 f8)) :=
    (band_load arg6 _ 7 rfl _).trans (bandC7 c i arg2 harg2 arg3 harg3 arg4 harg4 arg5 harg5 arg6 harg6 arg7 harg7 arg8 harg8 x0 x1 x2 f8)
  unfold bodyRun.sl.r_52
  rw [e]
  have h := piece 7 (diagB7 c i arg2 harg2 arg3 harg3 arg4 harg4 arg5 harg5 arg6 harg6 arg7 harg7 arg8 harg8 x0 x1 x2 f8 hi) (by show _ + 256 * 7 + 256 ≤ _; omega) (by omega) broadcasts_S1x256_S128x256 transposes_S128x256_p1_0_S256x128 bitsLt_bf16_f32 y v
  exact h

/-- The block written back. -/
theorem out_eq (hi : (i 1).val < 8) (f3 : BufTy.Contents (Elt Ideal) arg5.view.ty) (f6 : BufTy.Contents (Elt Ideal) arg6.view.ty) (f7 : BufTy.Contents (Elt Ideal) arg7.view.ty) :
    arg5.view.read (Elt Ideal) (arg5.view.writes (Elt Ideal) f3 ((bodyRun (F := Ideal) c i arg2 harg2 arg3 harg3 arg4 harg4 arg5 harg5 arg6 harg6 arg7 harg7 arg8 harg8 x0 x1 x2).1 f6 f7 f8))
      = out (2048 * (i 1).val) (sc (qs c arg2 harg2 x0) x1) (wv x2) := by
  have key : ∀ (g : Fin 8) (y : Fin 256) (v : Fin 128),
      arg5.view.read (Elt Ideal) (arg5.view.writes (Elt Ideal) f3 ((bodyRun (F := Ideal) c i arg2 harg2 arg3 harg3 arg4 harg4 arg5 harg5 arg6 harg6 arg7 harg7 arg8 harg8 x0 x1 x2).1 f6 f7 f8)) (ix2 (colIx g y) v)
        = out (2048 * (i 1).val) (sc (qs c arg2 harg2 x0) x1) (wv x2) (ix2 (colIx g y) v) := by
    intro g y v
    unfold bodyRun
    dsimp only
    fin_cases g
    · refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      exact (row_hit _ _ _ (by decide) _ _ _ _ _).trans (piece0 c i arg2 harg2 arg3 harg3 arg4 harg4 arg5 harg5 arg6 harg6 arg7 harg7 arg8 harg8 x0 x1 x2 f8 hi y v)
    · refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      exact (row_hit _ _ _ (by decide) _ _ _ _ _).trans (piece1 c i arg2 harg2 arg3 harg3 arg4 harg4 arg5 harg5 arg6 harg6 arg7 harg7 arg8 harg8 x0 x1 x2 f8 hi y v)
    · refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      exact (row_hit _ _ _ (by decide) _ _ _ _ _).trans (piece2 c i arg2 harg2 arg3 harg3 arg4 harg4 arg5 harg5 arg6 harg6 arg7 harg7 arg8 harg8 x0 x1 x2 f8 hi y v)
    · refine (row_miss _ _ _ (by decide) _ _ _ _ _).trans ?_
      refine (row_miss _ _ _ (by decide) _ _ _ _ _).trans ?_
      refine (row_miss _ _ _ (by decide) _ _ _ _ _).trans ?_
      refine (row_miss _ _ _ (by decide) _ _ _ _ _).trans ?_
      exact (row_hit _ _ _ (by decide) _ _ _ _ _).trans (piece3 c i arg2 harg2 arg3 harg3 arg4 harg4 arg5 harg5 arg6 harg6 arg7 harg7 arg8 harg8 x0 x1 x2 f8 hi y v)
    · refine (row_miss _ _ _ (by decide) _ _ _ _ _).trans ?_
      refine (row_miss _ _ _ (by decide) _ _ _ _ _).trans ?_
      refine (row_miss _ _ _ (by decide) _ _ _ _ _).trans ?_
      exact (row_hit _ _ _ (by decide) _ _ _ _ _).trans (piece4 c i arg2 harg2 arg3 harg3 arg4 harg4 arg5 harg5 arg6 harg6 arg7 harg7 arg8 harg8 x0 x1 x2 f8 hi y v)
    · refine (row_miss _ _ _ (by decide) _ _ _ _ _).trans ?_
      refine (row_miss _ _ _ (by decide) _ _ _ _ _).trans ?_
      exact (row_hit _ _ _ (by decide) _ _ _ _ _).trans (piece5 c i arg2 harg2 arg3 harg3 arg4 harg4 arg5 harg5 arg6 harg6 arg7 harg7 arg8 harg8 x0 x1 x2 f8 hi y v)
    · refine (row_miss _ _ _ (by decide) _ _ _ _ _).trans ?_
      exact (row_hit _ _ _ (by decide) _ _ _ _ _).trans (piece6 c i arg2 harg2 arg3 harg3 arg4 harg4 arg5 harg5 arg6 harg6 arg7 harg7 arg8 harg8 x0 x1 x2 f8 hi y v)
    · exact (row_hit _ _ _ (by decide) _ _ _ _ _).trans (piece7 c i arg2 harg2 arg3 harg3 arg4 harg4 arg5 harg5 arg6 harg6 arg7 harg7 arg8 harg8 x0 x1 x2 f8 hi y v)
  funext j
  have hj : j = ix2 (colIx ⟨(j 0).val / 256, by have h : (j 0).val < 2048 := (j 0).isLt; omega⟩ ⟨(j 0).val % 256, Nat.mod_lt _ (by omega)⟩) (j 1) := by
    funext a
    apply Fin.ext
    fin_cases a
    · show (j 0).val = 256 * ((j 0).val / 256) + (j 0).val % 256
      omega
    · rfl
  rw [hj]
  exact key _ _ _

end

end Cert.Flash

end
-- ==== Proof.Launch.lean ====
/- The flash attention kernel's launch on ideal values: the proof data of its pipeline, the body at every grid point, the
   run of the whole program, and the output array block by block. -/
module

public import proofs.«01_k».proof.Proof.Out
public import Idealize.ShloMosaic.Lib.Claim
public import Idealize.ShloMosaic.Lib.Pipeline.Value

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The second grid coordinate, the block of queries, is below 8. -/
theorem coord_lt (t : Fin cfg0.N) : ((grid0.coords t) 1).val < 8 := ((grid0.coords t) 1).isLt

/-- What the body leaves in the output's staging buffer at point `t`. -/
def outAt (c : Dev nD) (t : Fin cfg0.N) : Vec Ideal S2048x128 .bf16 :=
  out (2048 * ((grid0.coords t) 1).val) (sc (qs c (ms0_0 t) (hs0_0 t) (iblk m c 0 t)) (iblk m c 1 t)) (wv (iblk m c 2 t))

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold owns
  iintro ⟨⟨⟨⟨%e6, %f6, -, HS0⟩, ⟨%e7, %f7, -, HS1⟩, ⟨%e8, %f8, -, HS2⟩⟩, Hg⟩, Ho, ⟨%d0, H0⟩, ⟨%d1, H1⟩, ⟨%d2, H2⟩, ⟨%d3, %f3, -, H3⟩⟩
  have hb := fun K => (bodyRun (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t)).2 Set.univ K f3 f6 f7 f8
  unfold owns at hb
  iapply (hb _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexists _; isplitr
  swap; · iexact H3
  ipureintro; exact out_eq c (grid0.coords t) _ _ _ _ _ _ _ _ _ _ _ _ _ _ (iblk m c 0 t) (iblk m c 1 t) (iblk m c 2 t) f8 (coord_lt t) f3 f6 f7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt Ideal) ((dats m 0 c).arrAt 3 cfg0.N) = (dats m 0 c).flushed 3 t :=
  (dats m 0 c).read_blk_arrAt_eq_flushed 3 disjoint3 cfg0.N t t.isLt hf

/-- After the frame run, output window 3's array is `(dats m 0 c).arrAt 3 N`. -/
theorem post3 (r : PUnit × MemSt nD τ sig (Elt Ideal)) (h : Pipeline.FramePost cfgs (dats m) 0 (V m) r) (c : Dev nD) :
    r.2.mem ((c : Thread nD τ).loc main_v10) = (dats m 0 c).arrAt 3 cfg0.N :=
  (h c).1 3

end Cert.Flash

end
-- ==== Proof.Entry.lean ====
/- The kernel's three operands, block by block, in terms of the arguments. -/
module

public import proofs.«01_k».proof.Proof.Launch
public import Idealize.ShloMosaic.Lib.Pipeline.ValueKit

@[expose] public section

set_option maxRecDepth 16384

noncomputable section

namespace Cert.Flash

open Cert.KernelIdeal Cert.KernelIdeal.Gen
open Idealize.ShloMosaic Idealize.ShloMosaic.TcCoe Idealize.ShloMosaic.Tactic

/-- The block each window is at, at every grid point. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0]
    ∧ win0_3.index t = ![(grid0.coords t 1).val, (grid0.coords t 0).val] :=
  (by decide +kernel : ∀ t : Fin grid0.N, _)

variable (m : (ℓ : Loc nD τ sig) → Buf (Elt Ideal) ℓ) (c : Dev nD) (t : Fin cfg0.N)

/-- Row `q` of the query block is row `n` of the queries of head `h`. -/
theorem q_at (h : Fin 8) (n : Fin 16384) (q : Fin 2048) (d : Fin 192) (hh : (grid0.coords t 0).val = h.val)
    (hn : 2048 * (grid0.coords t 1).val + q.val = n.val) : iblk m c 0 t (ix3 0 q d) = V m c main_v8 (ix3 h n d) := by
  blk_ext [iblk, idx t]

/-- Row `n` of the queries is the two argument rows side by side. -/
theorem q_row (h : Fin 8) (n : Fin 16384) (d : Fin 192) : V m c main_v8 (ix3 h n d)
    = if hd : d.val < 128 then m ((c : Thread nD τ).loc main_arg0) (ix3 n h ⟨d.val, hd⟩)
      else m ((c : Thread nD τ).loc main_arg1) (ix3 n h ⟨d.val - 128, by have := d.isLt; omega⟩) := by
  entry_read
  pointwise

/-- Row `k` of the key block is row `k` of the keys of head `h`. -/
theorem k_at (h : Fin 8) (k : Fin 16384) (d : Fin 192) (hh : (grid0.coords t 0).val = h.val) :
    iblk m c 1 t (ix3 0 k d) = V m c main_v9 (ix3 h k d) := by
  blk_ext [iblk, idx t]

/-- Row `k` of the keys is the two argument rows side by side, the second shared by all heads. -/
theorem k_row (h : Fin 8) (k : Fin 16384) (d : Fin 192) : V m c main_v9 (ix3 h k d)
    = if hd : d.val < 128 then m ((c : Thread nD τ).loc main_arg2) (ix3 k h ⟨d.val, hd⟩)
      else m ((c : Thread nD τ).loc main_arg3) (ix2 k ⟨d.val - 128, by have := d.isLt; omega⟩) := by
  entry_read
  pointwise

/-- Entry `(v, k)` of the value block is component `v` of key `k`'s value at head `h`. -/
theorem v_at (h : Fin 8) (v : Fin 128) (k : Fin 16384) (hh : (grid0.coords t 0).val = h.val) :
    iblk m c 2 t (ix2 v k) = V m c main_v7 (ix2 ⟨128 * h.val + v.val, by have := h.isLt; have := v.isLt; omega⟩ k) := by
  blk_ext [iblk, idx t]

/-- The transposed values, read from the argument. -/
theorem v_row (h : Fin 8) (v : Fin 128) (k : Fin 16384) :
    V m c main_v7 (ix2 ⟨128 * h.val + v.val, by have := h.isLt; have := v.isLt; omega⟩ k) = m ((c : Thread nD τ).loc main_arg4) (ix3 k h v) := by
  entry_read
  pointwise
  blk_ext

end Cert.Flash

end
-- ==== Proof.Softmax.lean ====
/- The kernel's softmax, in powers of two over scores scaled by `(log 2)⁻¹`, and the usual one, in powers of `e`: the same
   weights, and the division may come before or after the sum. -/
module

public import proofs.«01_k».proof.Proof.Online

@[expose] public section

noncomputable section

namespace Cert.Flash

open Idealize.ShloMosaic

/-- `2` to the power `x / log 2` is `e` to the power `x`. -/
theorem exp2_log (x : ℝ) : Ideal.exp2 ((x * (Real.log 2)⁻¹ : ℝ) : EReal) = ((Real.exp x : ℝ) : EReal) := by
  have h : Real.log 2 ≠ 0 := (Real.log_pos (by norm_num)).ne'
  rw [Ideal.exp2_coe]
  congr 1
  show (2 : ℝ) ^ (x * (Real.log 2)⁻¹) = _
  rw [Real.rpow_def_of_pos (by norm_num)]
  congr 1
  field_simp

/-- Dividing by a positive real is multiplying by its inverse. -/
theorem div_pos_coe (x : EReal) {L : ℝ} (h : 0 < L) : Ideal.div x ((L : ℝ) : EReal) = x * ((L⁻¹ : ℝ) : EReal) := by
  unfold Ideal.div
  rw [if_neg (by exact_mod_cast h.ne'), EReal.coe_inv]

theorem coe_sum (f : ℕ → ℝ) (S : Finset ℕ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

section
variable (a : ℕ → ℝ) (n : ℕ)

/-- Real scores, those after key `n` masked. -/
def masked (k : ℕ) : EReal := if k ≤ n then ((a k : ℝ) : EReal) else ⊥

/-- The largest of the masked scores is the one of the key whose real score is largest. -/
theorem masked_max {N k0 : ℕ} (h : n < N) (h0 : k0 ≤ n) (hm : ∀ k ≤ n, a k ≤ a k0) : mx (masked a n) N = ((a k0 : ℝ) : EReal) := by
  refine le_antisymm ?_ ?_
  · refine Finset.sup_le fun k _ => ?_
    unfold masked
    split
    · next hk => exact EReal.coe_le_coe_iff.mpr (hm k hk)
    · exact bot_le
  · have := le_mx (masked a n) (show k0 < N by omega)
    rwa [show masked a n k0 = ((a k0 : ℝ) : EReal) from if_pos h0] at this

/-- The weighted values over the sum of weights, in powers of two over the scores `s`, are the values weighted by the
    softmax of the scores `r`, where `s` is `r` over `log 2`. -/
theorem soft {N : ℕ} (h : n < N) (s r w : ℕ → EReal) (hs : ∀ k < N, s k = masked (fun k => a k * (Real.log 2)⁻¹) n k)
    (hr : ∀ k < N, r k = masked a n k) :
    Ideal.div (ac s w N) (ls s N)
      = ∑ k ∈ Finset.range N, w k * Ideal.div (Ideal.exp (r k - mx r N)) (∑ j ∈ Finset.range N, Ideal.exp (r j - mx r N)) := by
  have hc : 0 < (Real.log 2)⁻¹ := inv_pos.mpr (Real.log_pos (by norm_num))
  obtain ⟨k0, h0, hm⟩ := Finset.exists_max_image (Finset.range (n + 1)) a ⟨0, by simp⟩
  have h0' : k0 ≤ n := by simpa [Nat.lt_succ_iff] using h0
  have hm' : ∀ k ≤ n, a k ≤ a k0 := fun k hk => hm k (by simpa [Nat.lt_succ_iff] using hk)
  have m1 : mx s N = ((a k0 * (Real.log 2)⁻¹ : ℝ) : EReal) :=
    (mx_congr hs).trans (masked_max _ n h h0' fun k hk => mul_le_mul_of_nonneg_right (hm' k hk) hc.le)
  have m2 : mx r N = ((a k0 : ℝ) : EReal) := (mx_congr hr).trans (masked_max a n h h0' hm')
  let P : ℕ → ℝ := fun k => if k ≤ n then Real.exp (a k - a k0) else 0
  have p1 : ∀ k ∈ Finset.range N, Ideal.exp2 (s k - mx s N) = ((P k : ℝ) : EReal) := fun k hk => by
    rw [m1, hs k (Finset.mem_range.mp hk)]
    unfold masked
    by_cases h : k ≤ n
    · rw [if_pos h, show P k = Real.exp (a k - a k0) from if_pos h, ← EReal.coe_sub, ← sub_mul]
      exact exp2_log _
    · rw [if_neg h, show P k = 0 from if_neg h]
      simp
  have p2 : ∀ k ∈ Finset.range N, Ideal.exp (r k - mx r N) = ((P k : ℝ) : EReal) := fun k hk => by
    rw [m2, hr k (Finset.mem_range.mp hk)]
    unfold masked
    by_cases h : k ≤ n
    · rw [if_pos h, show P k = Real.exp (a k - a k0) from if_pos h, ← EReal.coe_sub]
      exact Ideal.exp_coe _
    · rw [if_neg h, show P k = 0 from if_neg h]
      simp
  have hP : ∀ k, 0 ≤ P k := fun k => by
    show 0 ≤ if k ≤ n then Real.exp (a k - a k0) else 0
    split
    · exact (Real.exp_pos _).le
    · exact le_rfl
  have hL : 0 < ∑ k ∈ Finset.range N, P k :=
    Finset.sum_pos' (fun k _ => hP k) ⟨k0, Finset.mem_range.mpr (by omega), by
      rw [show P k0 = Real.exp (a k0 - a k0) from if_pos h0']; exact Real.exp_pos _⟩
  unfold ac ls
  rw [Finset.sum_congr rfl p1, Finset.sum_congr rfl p2, coe_sum, div_pos_coe _ hL, mul_comm,
    mul_sum _ (EReal.coe_nonneg.mpr (inv_nonneg.mpr hL.le)) (EReal.coe_ne_top _)]
  refine Finset.sum_congr rfl fun k hk => ?_
  rw [p1 k hk, p2 k hk, div_pos_coe _ hL, mul_comm, mul_assoc]

end

end Cert.Flash

end
-- ==== Proof.Ref.lean ====
/- The reference attention read at an index: the masked scores of one query and their weighted mean of the values. -/
module

public import proofs.«01_k».proof.Proof.Gen.ReferenceIdeal.Read
public import proofs.«01_k».proof.Proof.Softmax
public import proofs.«01_k».proof.Proof.Step
public import Idealize.ShloMosaic.Lib.Pipeline.ValueKit

@[expose] public section

set_option maxRecDepth 16384

noncomputable section

namespace Cert.Ref

open Idealize.ShloMosaic Idealize.ShloMosaic.TcCoe Cert.ReferenceIdeal Cert.ReferenceIdeal.Gen Cert.ReferenceIdeal.Read Cert.Flash

variable (x0 : FVec Ideal S16384x8x128 .f32) (x1 : FVec Ideal S16384x8x64 .f32) (x2 : FVec Ideal S16384x8x128 .f32)
  (x3 : FVec Ideal S16384x64 .f32) (x4 : FVec Ideal S16384x8x128 .f32)

/-- The score of query `n` against key `k` at head `h`, as a real number. -/
def score (h : Fin 8) (n k : Fin 16384) : ℝ :=
  (∑ d : Fin 128, (x0 (ix3 n h d)).toReal * (x2 (ix3 k h d)).toReal + ∑ d : Fin 64, (x3 (ix2 k d)).toReal * (x1 (ix3 n h d)).toReal) / Real.sqrt 192

/-- The score of query `n` against key `k`, `0` past the last key. -/
def scoreN (h : Fin 8) (n : Fin 16384) (k : ℕ) : ℝ := if hk : k < 16384 then score x0 x1 x2 x3 h n ⟨k, hk⟩ else 0

/-- The entries the scores are made of are real numbers. -/
structure Real4 : Prop where
  r0 : ∀ n h d, x0 (ix3 n h d) = ((x0 (ix3 n h d)).toReal : EReal)
  r1 : ∀ n h d, x1 (ix3 n h d) = ((x1 (ix3 n h d)).toReal : EReal)
  r2 : ∀ n h d, x2 (ix3 n h d) = ((x2 (ix3 n h d)).toReal : EReal)
  r3 : ∀ n d, x3 (ix2 n d) = ((x3 (ix2 n d)).toReal : EReal)

/-- A sum of real numbers is the same sum taken on the extended line. -/
theorem coe_sum' {n : ℕ} (f : Fin n → ℝ) : ((∑ d, f d : ℝ) : EReal) = ∑ d, (f d : EReal) :=
  map_sum (⟨⟨Real.toEReal, EReal.coe_zero⟩, EReal.coe_add⟩ : ℝ →+ EReal) f _

/-- The word of 192. -/
theorem w192 : Ideal.ofBits FTy.f32 0x43400000#32 = ((192 : ℝ) : EReal) := by
  simp [Ideal.ofBits, Ideal.ieee]
  rw [← EReal.coe_mul]
  norm_num

/-- The unmasked score. -/
theorem score_at (H : Real4 x0 x1 x2 x3) (h : Fin 8) (n k : Fin 16384) :
    val_main_v7 (F := Ideal) x0 x1 x2 x3 (ix3 h n k) = (score x0 x1 x2 x3 h n k : EReal) := by
  rw [val_main_v7_apply, val_main_v4_apply, val_main_v6_apply, val_main_v5_apply, val_main_v3_apply, val_main_v1_apply, val_main_v2_apply]
  have e1 : ∀ d, lidx_main_v1 (ix3 h n k) d = ix3 n h d := fun d => by blk_ext
  have e2 : ∀ d, ridx_main_v1 (ix3 h n k) d = ix3 k h d := fun d => by blk_ext
  have e3 : ∀ d, lidx_main_v2 (idx_main_v3 (ix3 h n k)) d = ix2 k d := fun d => by blk_ext
  have e4 : ∀ d, ridx_main_v2 (idx_main_v3 (ix3 h n k)) d = ix3 n h d := fun d => by blk_ext
  have s1 : ∑ d : Fin 128, x0 (ix3 n h d) * x2 (ix3 k h d)
      = ((∑ d : Fin 128, (x0 (ix3 n h d)).toReal * (x2 (ix3 k h d)).toReal : ℝ) : EReal) := by
    rw [coe_sum']
    refine Finset.sum_congr rfl fun d _ => ?_
    rw [EReal.coe_mul, ← H.r0, ← H.r2]
  have s2 : ∑ d : Fin 64, x3 (ix2 k d) * x1 (ix3 n h d)
      = ((∑ d : Fin 64, (x3 (ix2 k d)).toReal * (x1 (ix3 n h d)).toReal : ℝ) : EReal) := by
    rw [coe_sum']
    refine Finset.sum_congr rfl fun d _ => ?_
    rw [EReal.coe_mul, ← H.r3, ← H.r1]
  simp only [e1, e2, e3, e4]
  rw [s1, s2, val_main_cst_apply, show FloatOps.ofBits (F := Ideal) FTy.f32 0x43400000#32 = ((192 : ℝ) : EReal) from w192]
  unfold score
  generalize (∑ d : Fin 128, (x0 (ix3 n h d)).toReal * (x2 (ix3 k h d)).toReal) = A
  generalize (∑ d : Fin 64, (x3 (ix2 k d)).toReal * (x1 (ix3 n h d)).toReal) = B
  show Ideal.div ((A : EReal) + (B : EReal)) (Ideal.sqrt ((192 : ℝ) : EReal)) = _
  rw [Ideal.sqrt_coe, if_neg (by norm_num), ← EReal.coe_add]
  rw [Ideal.div_coe (by positivity), ← EReal.coe_mul, mul_one_div]

/-- The masked score. -/
theorem row_at (H : Real4 x0 x1 x2 x3) (h : Fin 8) (n k : Fin 16384) :
    val_main_v13 (F := Ideal) x0 x1 x2 x3 (ix3 h n k) = masked (scoreN x0 x1 x2 x3 h n) n.val k.val := by
  rw [val_main_v13_apply, val_main_call0_v1_apply, val_main_call0_v2_apply, val_main_v12_apply, val_main_v10_apply, val_main_v11_apply,
    val_main_v8_apply, val_main_v9_apply, score_at x0 x1 x2 x3 H]
  simp only [val_main_v0_apply]
  have t1 : (BitVec.ofNat 32 n.val).toInt = n.val := by
    rw [BitVec.toInt_eq_toNat_of_lt] <;> rw [BitVec.toNat_ofNat] <;> omega
  have t2 : (BitVec.ofNat 32 k.val).toInt = k.val := by
    rw [BitVec.toInt_eq_toNat_of_lt] <;> rw [BitVec.toNat_ofNat] <;> omega
  show Scalar.select (IntOp.cmpi CmpIPredicate.sle (BitVec.ofNat 32 k.val) (BitVec.ofNat 32 n.val)) _ (Ideal.ofBits FTy.f32 0xFF800000#32) = _
  rw [negInf]
  simp only [Scalar.select, IntOp.cmpi, BitVec.sle, t1, t2, Nat.cast_le]
  unfold masked scoreN
  rw [dif_pos k.isLt]
  by_cases hk : k.val ≤ n.val <;> simp [hk]

/-- The masked scores of query `n`, by the key's number. -/
def row (h : Fin 8) (n : Fin 16384) (k : ℕ) : EReal := if hk : k < 16384 then val_main_v13 (F := Ideal) x0 x1 x2 x3 (ix3 h n ⟨k, hk⟩) else ⊥

/-- Component `v` of the values at head `h`, by the key's number. -/
def val (h : Fin 8) (v : Fin 128) (k : ℕ) : EReal := if hk : k < 16384 then x4 (ix3 ⟨k, hk⟩ h v) else 0

/-- The largest masked score. -/
theorem max_at (h : Fin 8) (n : Fin 16384) : val_main_v16 (F := Ideal) x0 x1 x2 x3 (ix2 h n) = mx (row x0 x1 x2 x3 h n) 16384 := by
  rw [val_main_v16_apply, val_main_v15_apply, val_main_cst_2_apply]
  unfold val_main_v14
  pointwise
  show max (Ideal.ofBits FTy.f32 0xFF800000#32) (Finset.fold max (Ideal.ofBits FTy.f32 0xFF800000#32) _ _) = _
  rw [negInf, fold_max_eq_sup, max_eq_right bot_le]
  unfold mx
  refine le_antisymm (Finset.sup_le fun k _ => ?_) (Finset.sup_le fun k hk => ?_)
  · refine le_trans (le_of_eq ?_) (Finset.le_sup (f := row x0 x1 x2 x3 h n) (Finset.mem_range.mpr k.isLt))
    unfold row
    rw [dif_pos k.isLt]
  · unfold row
    rw [dif_pos (Finset.mem_range.mp hk)]
    exact Finset.le_sup (f := fun x : Fin 16384 => val_main_v13 (F := Ideal) x0 x1 x2 x3 (ix3 h n x)) (Finset.mem_univ _)

/-- The weight of key `k`. -/
theorem exp_at (h : Fin 8) (n k : Fin 16384) : val_main_v20 (F := Ideal) x0 x1 x2 x3 (ix3 h n k)
    = Ideal.exp (row x0 x1 x2 x3 h n k - mx (row x0 x1 x2 x3 h n) 16384) := by
  rw [val_main_v20_apply, val_main_v19_apply, val_main_v18_apply, val_main_v17_apply, ← max_at]
  have e : idx_main_v17 (idx_main_v18 (ix3 h n k)) = ix2 h n := by blk_ext
  rw [e]
  unfold row
  rw [dif_pos k.isLt]
  rfl

/-- The sum of the weights. -/
theorem sum_at (h : Fin 8) (n : Fin 16384) : val_main_v21 (F := Ideal) x0 x1 x2 x3 (ix2 h n)
    = ∑ j ∈ Finset.range 16384, Ideal.exp (row x0 x1 x2 x3 h n j - mx (row x0 x1 x2 x3 h n) 16384) := by
  rw [val_main_v21_apply, ← Fin.sum_univ_eq_sum_range (fun j => Ideal.exp (row x0 x1 x2 x3 h n j - mx (row x0 x1 x2 x3 h n) 16384))]
  simp only [← exp_at]
  have e : ∀ k, idx_main_v21 (ix2 h n) k = ix3 h n k := fun k => by blk_ext
  simp only [e]
  rw [val_main_cst_3_apply, show FloatOps.ofBits (F := Ideal) FTy.f32 0x00000000#32 = (0 : EReal) from Ideal.ofBits_zero_f32, zero_add]

/-- The reference's result: the mean of the values under those weights. -/
theorem out_at (h : Fin 8) (v : Fin 128) (n : Fin 16384) : val_main_v28 (F := Ideal) x0 x1 x2 x3 x4 (ix2 n ⟨128 * h.val + v.val, by omega⟩)
    = ∑ k ∈ Finset.range 16384, val x4 h v k * Ideal.div (Ideal.exp (row x0 x1 x2 x3 h n k - mx (row x0 x1 x2 x3 h n) 16384))
        (∑ j ∈ Finset.range 16384, Ideal.exp (row x0 x1 x2 x3 h n j - mx (row x0 x1 x2 x3 h n) 16384)) := by
  rw [val_main_v28_apply, val_main_v27_apply, val_main_v26_apply, val_main_v25_apply,
    ← Fin.sum_univ_eq_sum_range (fun k => val x4 h v k * Ideal.div (Ideal.exp (row x0 x1 x2 x3 h n k - mx (row x0 x1 x2 x3 h n) 16384))
        (∑ j ∈ Finset.range 16384, Ideal.exp (row x0 x1 x2 x3 h n j - mx (row x0 x1 x2 x3 h n) 16384)))]
  simp only [val_main_v24_apply, val_main_v23_apply, val_main_v22_apply]
  have e1 : ∀ k, lidx_main_v25 (idx_main_v26 (idx_main_v27 (ix2 n ⟨128 * h.val + v.val, by omega⟩))) k = ix3 k h v := fun k => by blk_ext
  have e2 : ∀ k, ridx_main_v25 (idx_main_v26 (idx_main_v27 (ix2 n ⟨128 * h.val + v.val, by omega⟩))) k = ix3 h n k := fun k => by blk_ext
  have e3 : ∀ k, idx_main_v22 (idx_main_v23 (ix3 h n k)) = ix2 h n := fun k => by blk_ext
  simp only [e1, e2, e3, exp_at, sum_at]
  refine Finset.sum_congr rfl fun k _ => ?_
  unfold val
  rw [dif_pos k.isLt]
  rfl

end Cert.Ref

end
-- ==== Proof.Final.lean ====
/- The kernel's output array is the reference's result, when the entries the scores are made of are real. -/
module

public import proofs.«01_k».proof.Proof.Entry
public import proofs.«01_k».proof.Proof.Ref

@[expose] public section

set_option maxRecDepth 16384

noncomputable section

namespace Cert.Flash

open Cert.KernelIdeal Cert.KernelIdeal.Gen
open Idealize.ShloMosaic Idealize.ShloMosaic.TcCoe Idealize.ShloMosaic.Tactic Cert.Ref

/-- The real number the queries are scaled by. -/
def qscale : ℝ := (Real.sqrt 192)⁻¹ * (Real.log 2)⁻¹

/-- The scaling of a block of queries, entry by entry. -/
theorem scaled_at (x : Vec Ideal S1x2048x192 .f32) (q : Fin 2048) (d : Fin 192) :
    k0_pay240 (F := Ideal) x (ix2 q d) = x (ix3 0 q d) * (qscale : EReal) := by
  pointwise [k0_pay240]
  exact congrArg (x (ix3 0 q d) * ·) (IdealRules.named_const.ideal_named_scalar (φ := .f32) Cert.KernelIdeal.κ "q_scale" 0x3DD53B95#32 (qscale : EReal) rfl)

/-- The scaled queries of a block. -/
theorem qs_at (c : Dev nD) (arg2 : Memref sig .tc .vmem S1x2048x192 .f32) (harg2 : arg2.IsWhole) (x0 : Vec Ideal S1x2048x192 .f32) (q : Fin 2048) (d : Fin 192) :
    qs c arg2 harg2 x0 (ix2 q d) = x0 (ix3 0 q d) * (qscale : EReal) := by
  unfold qs bodyRun.sl.r
  refine (scaled_at _ q d).trans ?_
  rw [View.readAt_apply, harg2.read_unread]
  congr 2
  funext a
  apply Fin.ext
  fin_cases a
  · rfl
  · show 0 + 1 * q.val = q.val
    omega
  · show 0 + 1 * d.val = d.val
    omega

/-- 192 products summed are the first 128 and the last 64. -/
theorem sum192 (f : Fin 192 → EReal) : ∑ d, f d = ∑ d : Fin 128, f ⟨d.val, by omega⟩ + ∑ d : Fin 64, f ⟨128 + d.val, by omega⟩ :=
  Fin.sum_univ_add (a := 128) (b := 64) f

/-- The kernel's score, whose queries carry the scale, is the reference's score over `log 2`. -/
theorem score_eq (a b : Fin 128 → ℝ) (a' b' : Fin 64 → ℝ) :
    ∑ d, (b d : EReal) * ((a d : EReal) * (qscale : EReal)) + ∑ d, (b' d : EReal) * ((a' d : EReal) * (qscale : EReal))
      = (((∑ d, a d * b d + ∑ d, b' d * a' d) / Real.sqrt 192 * (Real.log 2)⁻¹ : ℝ) : EReal) := by
  simp only [← EReal.coe_mul]
  rw [← coe_sum', ← coe_sum', ← EReal.coe_add]
  congr 1
  unfold qscale
  rw [div_eq_mul_inv, mul_assoc, add_mul, Finset.sum_mul, Finset.sum_mul]
  congr 1
  · exact Finset.sum_congr rfl fun d _ => by ring
  · exact Finset.sum_congr rfl fun d _ => by ring

variable (m : (ℓ : Loc nD τ sig) → Buf (Elt Ideal) ℓ) (c : Dev nD)

/-- The reference's result on core `c`'s arguments. -/
abbrev ref : Vec Ideal S16384x1024 .bf16 :=
  Cert.ReferenceIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

variable (H : Real4 (m ((c : Thread nD τ).loc main_arg0)) (m ((c : Thread nD τ).loc main_arg1))
    (m ((c : Thread nD τ).loc main_arg2)) (m ((c : Thread nD τ).loc main_arg3)))
include H

/-- The kernel's score of query `n` and key `k` at grid point `t`. -/
theorem sc_at (t : Fin cfg0.N) (h : Fin 8) (hh : (grid0.coords t 0).val = h.val) (n : Fin 16384) (q : Fin 2048)
    (hn : 2048 * (grid0.coords t 1).val + q.val = n.val) (k : Fin 16384) :
    sc (qs c (ms0_0 t) (hs0_0 t) (iblk m c 0 t)) (iblk m c 1 t) q.val k.val
      = ((scoreN (m ((c : Thread nD τ).loc main_arg0)) (m ((c : Thread nD τ).loc main_arg1)) (m ((c : Thread nD τ).loc main_arg2))
          (m ((c : Thread nD τ).loc main_arg3)) h n k.val * (Real.log 2)⁻¹ : ℝ) : EReal) := by
  unfold sc scoreN
  rw [dif_pos ⟨q.isLt, k.isLt⟩, dif_pos k.isLt, sum192]
  unfold score
  rw [← score_eq]
  congr 1
  · refine Finset.sum_congr rfl fun d _ => ?_
    rw [qs_at, q_at m c t h n q _ hh hn, q_row, k_at m c t h k _ hh, k_row]
    rw [dif_pos d.isLt, dif_pos d.isLt, ← H.r0, ← H.r2]
  · refine Finset.sum_congr rfl fun d _ => ?_
    rw [qs_at, q_at m c t h n q _ hh hn, q_row, k_at m c t h k _ hh, k_row]
    rw [dif_neg (by show ¬ 128 + d.val < 128; omega), dif_neg (by show ¬ 128 + d.val < 128; omega)]
    rw [show (⟨128 + d.val - 128, by omega⟩ : Fin 64) = d from Fin.ext (by simp), ← H.r1, ← H.r3]

/-- What the body leaves at grid point `t`, entry by entry: the reference's result. -/
theorem outAt_at (t : Fin cfg0.N) (h : Fin 8) (hh : (grid0.coords t 0).val = h.val) (n : Fin 16384) (q : Fin 2048) (v : Fin 128)
    (hn : 2048 * (grid0.coords t 1).val + q.val = n.val) :
    outAt m c t (ix2 q v) = ref m c (ix2 n ⟨128 * h.val + v.val, by omega⟩) := by
  unfold ref
  rw [out_at]
  unfold outAt out
  have hw : wv (iblk m c 2 t) v.val = val (m ((c : Thread nD τ).loc main_arg4)) h v := by
    funext k
    unfold wv val
    by_cases hk : k < 16384
    · rw [dif_pos ⟨v.isLt, hk⟩, dif_pos hk, v_at m c t h v ⟨k, hk⟩ hh, v_row]
    · rw [dif_neg (fun e => hk e.2), dif_neg hk]
  show Ideal.div (ac _ (wv _ v.val) 16384) (ls _ 16384) = _
  rw [hw]
  refine soft (a := scoreN (m ((c : Thread nD τ).loc main_arg0)) (m ((c : Thread nD τ).loc main_arg1)) (m ((c : Thread nD τ).loc main_arg2))
          (m ((c : Thread nD τ).loc main_arg3)) h n) (n := n.val) n.isLt _ _ _ (fun k hk => ?_) (fun k hk => ?_)
  · show sM _ _ q.val k = _
    unfold sM masked
    rw [hn, sc_at m c H t h hh n q hn ⟨k, hk⟩]
  · unfold row
    rw [dif_pos hk]
    exact row_at _ _ _ _ H h n ⟨k, hk⟩

/-- The output array after the run is the reference's result. -/
theorem final : (dats m 0 c).arrAt 3 cfg0.N = ref m c := by
  refine (dats m 0 c).arrAt_eq_of_covers 3 _ (by decide +kernel) fun t _ y => ?_
  have hy : y = ix2 (y 0) (y 1) := by blk_ext
  blk_simp
  rw [after0_3, hy]
  refine (outAt_at m c H t (grid0.coords t 0) rfl ⟨2048 * (grid0.coords t 1).val + (y 0).val, ?_⟩ (y 0) (y 1) rfl).trans ?_
  · have h1 := coord_lt t
    have h2 : (y 0).val < 2048 := (y 0).isLt
    omega
  · congr 1
    blk_ext [idx t]

end Cert.Flash

end
-- ==== Proof.Finite.lean ====
/- What the precondition says: every entry the scores are made of is a real number. -/
module

public import proofs.«01_k».proof.Proof.Gen.Pre_finite_scores
public import Idealize.ShloMosaic.Lib.Pipeline.ValueKit

@[expose] public section

noncomputable section

namespace Cert.Finite

open Idealize.ShloMosaic Cert.Pre_finite_scores Cert.Pre_finite_scores.Gen

variable (x0 : FVec Ideal S16384x8x128 .f32) (x1 : FVec Ideal S16384x8x64 .f32) (x2 : FVec Ideal S16384x8x128 .f32)
  (x3 : FVec Ideal S16384x64 .f32) (x4 : FVec Ideal S16384x8x128 .f32)

/-- The word of positive infinity. -/
theorem posInf : Ideal.ofBits FTy.f32 0x7F800000#32 = ⊤ := by simp [Ideal.ofBits, Ideal.ieee]

/-- Two tests "the absolute value is below infinity" both hold only of two real numbers. -/
theorem both_real (a b : EReal) (H : IntOp.andi (BitVec.ofBool (decide (FloatOps.absf (F := Ideal) (φ := .f32) a < Ideal.ofBits FTy.f32 0x7F800000#32)))
      (BitVec.ofBool (decide (FloatOps.absf (F := Ideal) (φ := .f32) b < Ideal.ofBits FTy.f32 0x7F800000#32))) = 1#1) :
    a = (a.toReal : EReal) ∧ b = (b.toReal : EReal) := by
  have t : ∀ x : EReal, FloatOps.absf (F := Ideal) (φ := .f32) x < (⊤ : EReal) → x = (x.toReal : EReal) := by
    intro x hx
    have hx' : max x (-x) < (⊤ : EReal) := hx
    refine (EReal.coe_toReal ?_ ?_).symm
    · rintro rfl
      simp at hx'
    · rintro rfl
      simp at hx'
  rw [posInf] at H
  have h2 : FloatOps.absf (F := Ideal) (φ := .f32) a < (⊤ : EReal) ∧ FloatOps.absf (F := Ideal) (φ := .f32) b < (⊤ : EReal) := by
    by_cases ha : FloatOps.absf (F := Ideal) (φ := .f32) a < (⊤ : EReal)
    · by_cases hb : FloatOps.absf (F := Ideal) (φ := .f32) b < (⊤ : EReal)
      · exact ⟨ha, hb⟩
      · rw [decide_eq_true ha, decide_eq_false hb] at H
        exact absurd H (by decide)
    · rw [decide_eq_false ha] at H
      cases hb : decide (FloatOps.absf (F := Ideal) (φ := .f32) b < (⊤ : EReal)) <;> rw [hb] at H <;> exact absurd H (by decide)
  exact ⟨t a h2.1, t b h2.2⟩

/-- The first 128 coordinates of queries and keys are real. -/
theorem at_lo (hp : Cert.Pre_finite_scores.fn x0 x1 x2 x3 x4 = fun _ => 1#1) (n : Fin 16384) (h : Fin 8) (d : Fin 128) :
    x0 (ix3 n h d) = ((x0 (ix3 n h d)).toReal : EReal) ∧ x2 (ix3 n h d) = ((x2 (ix3 n h d)).toReal : EReal) := by
  have e := congrFun hp (ix3 n h ⟨d.val, by omega⟩)
  unfold Cert.Pre_finite_scores.fn at e
  simp only [] at e
  revert e
  pointwise
  exact both_real _ _

/-- The other 64 coordinates of queries and keys are real. -/
theorem at_hi (hp : Cert.Pre_finite_scores.fn x0 x1 x2 x3 x4 = fun _ => 1#1) (n : Fin 16384) (h : Fin 8) (d : Fin 64) :
    x1 (ix3 n h d) = ((x1 (ix3 n h d)).toReal : EReal) ∧ x3 (ix2 n d) = ((x3 (ix2 n d)).toReal : EReal) := by
  have e := congrFun hp (ix3 n h ⟨128 + d.val, by omega⟩)
  unfold Cert.Pre_finite_scores.fn at e
  simp only [] at e
  revert e
  pointwise
  exact both_real _ _

end Cert.Finite

end
-- ==== Proof.MemKv.lean ====
/- The memory's keys and values: the kernel normalizes the memory's rows, multiplies them with the weights and stores the
   product's two halves, which is what the reference computes. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.MemKv

open Cert.Kernel3Ideal Cert.Kernel3Ideal.Gen
open Idealize.ShloMosaic Idealize.ShloMosaic.TcCoe Idealize.SL.Sem
open Idealize.ShloMosaic.Pipeline (Dat)
open Cert.Reference3Ideal.Read

variable (m : (ℓ : Loc nD τ sig) → Buf (Elt Ideal) ℓ)

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The reference's product of normalized rows and weights at row `i`, column `j`. -/
theorem prod_at (x : FVec Ideal S256x1024 .f32) (g : FVec Ideal S1024 .f32) (w : FVec Ideal S1024x1024 .f32) (i : Fin 256) (j : Fin 1024) :
    Cert.Reference3Ideal.Read.val_main_v13 (F := Ideal) x g w (ix2 i j)
      = ∑ k : Fin 1024, x (ix2 i k) * Ideal.rsqrt (Ideal.div (∑ l : Fin 1024, x (ix2 i l) * x (ix2 i l)) (Ideal.ofBits .f32 0x44800000#32)
          + Ideal.ofBits .f32 0x358637BD#32) * g (ix1 k) * w (ix2 k j) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]

/-- The kernel's product at row `i`, column `j`. -/
theorem pay_at (x : FVec Ideal S256x1024 .f32) (g : FVec Ideal S1x1024 .f32) (w : FVec Ideal S1024x1024 .bf16) (i : Fin 256) (j : Fin 1024) :
    k0_pay1 (F := Ideal) x g w (ix2 i j)
      = ∑ k : Fin 1024, x (ix2 i k) * Ideal.rsqrt (Ideal.div (∑ l : Fin 1024, x (ix2 i l) * x (ix2 i l)) (Ideal.ofBits .f32 0x44800000#32)
          + Ideal.ofBits .f32 0x358637BD#32) * g (ix2 0 k) * w (ix2 k j) := by
  pointwise [k0_pay1]

/-- The first output is the left half of the reference's product. -/
theorem final3 (c : Dev nD) : (dats m 0 c).arrAt 3 (cfgs 0).N
    = val_main_v14 (F := Ideal) (m ((c : Thread nD τ).loc main_arg0)) (m ((c : Thread nD τ).loc main_arg1)) (m ((c : Thread nD τ).loc main_arg2)) := by
  refine (dats m 0 c).arrAt_eq_of_after_last 3 t0_0 (by decide +kernel) _ fun j => ?_
  blk_simp
  rw [after0_3]
  frame_out
  pointwise [k0_pay2, val_main_v14]
  refine (pay_at _ _ _ (j 0) _).trans (Eq.trans ?_ (prod_at _ _ _ (j 0) _).symm)
  blk_point [iblk, V, idx t0_0]

/-- The second output is the right half of the reference's product. -/
theorem final4 (c : Dev nD) : (dats m 0 c).arrAt 4 (cfgs 0).N
    = val_main_v15 (F := Ideal) (m ((c : Thread nD τ).loc main_arg0)) (m ((c : Thread nD τ).loc main_arg1)) (m ((c : Thread nD τ).loc main_arg2)) := by
  refine (dats m 0 c).arrAt_eq_of_after_last 4 t0_0 (by decide +kernel) _ fun j => ?_
  blk_simp
  rw [after0_4]
  frame_out
  pointwise [k0_pay3, val_main_v15]
  refine (pay_at _ _ _ (j 0) _).trans (Eq.trans ?_ (prod_at _ _ _ (j 0) _).symm)
  blk_point [iblk, V, idx t0_0]

end Cert.MemKv

end
-- ==== Proof.Rows.lean ====
/- One token's row through the end of a layer over the extended reals: the memory attention, the output projection, the
   norms and the gated feed-forward, as functions of the row's entries and the weights. -/
module

public import Idealize.ShloMosaic.PureOps.Ideal.Laws
public import Idealize.ShloMosaic.Lib.Pipeline.ValueKit

@[expose] public section

noncomputable section

namespace Cert.Tail

open Idealize.ShloMosaic

/-- A row divided by its root mean square and multiplied with a gain. -/
def nrm (x g : Fin 1024 → EReal) (j : Fin 1024) : EReal :=
  x j * Ideal.rsqrt (Ideal.div (∑ l, x l * x l) (Ideal.ofBits .f32 0x44800000#32) + Ideal.ofBits .f32 0x358637BD#32) * g j

/-- The softmax of a row of 256 scores. -/
def smax (s : Fin 256 → EReal) (x : Fin 256) : EReal :=
  Ideal.div (Ideal.exp (s x - Finset.univ.sup s)) (∑ z, Ideal.exp (s z - Finset.univ.sup s))

/-- Head `h`'s scores of a query row against the memory's keys. -/
def score (q : Fin 512 → EReal) (mk : Fin 256 → Fin 512 → EReal) (h : ℕ) (hh : h < 4) (s : Fin 256) : EReal :=
  (∑ d : Fin 128, q ⟨128 * h + d, by omega⟩ * mk s ⟨128 * h + d, by omega⟩) * Ideal.ofBits .f32 0x3DB504F3#32

/-- The memory attention of a query row. -/
def matt (q : Fin 512 → EReal) (mk mv : Fin 256 → Fin 512 → EReal) (e : Fin 512) : EReal :=
  ∑ s : Fin 256, smax (score q mk (e / 128) (by omega)) s * mv s e

/-- The memory attention at component `d` of head `h`. -/
theorem matt_head (q : Fin 512 → EReal) (mk mv : Fin 256 → Fin 512 → EReal) (h : ℕ) (hh : h < 4) (d : Fin 128) :
    matt q mk mv ⟨128 * h + d, by omega⟩ = ∑ s : Fin 256, smax (score q mk h hh) s * mv s ⟨128 * h + d, by omega⟩ := by
  have e : (128 * h + d.val) / 128 = h := by omega
  have e' : ∀ h' (hh' : h' < 4), h' = h → score q mk h' hh' = score q mk h hh := by rintro _ _ rfl; rfl
  simp only [matt]
  rw [e' _ _ e]

/-- The output projection of a row: the attention's output and the memory attention's output against the weights. -/
def outp (y : Fin 1024 → EReal) (ym : Fin 512 → EReal) (w : Fin 1536 → Fin 1024 → EReal) (j : Fin 1024) : EReal :=
  ∑ k : Fin 1024, y k * w ⟨k, by omega⟩ j + ∑ k : Fin 512, ym k * w ⟨1024 + k, by omega⟩ j

/-- The feed-forward's gated inner value `f` of a row. -/
def act (h : Fin 1024 → EReal) (wgu : Fin 1024 → Fin 5632 → EReal) (f : Fin 2816) : EReal :=
  (∑ k, h k * wgu k ⟨f, by omega⟩) * Ideal.logistic (∑ k, h k * wgu k ⟨f, by omega⟩) * ∑ k, h k * wgu k ⟨2816 + f, by omega⟩

/-- The feed-forward of a row. -/
def ffn (h : Fin 1024 → EReal) (wgu : Fin 1024 → Fin 5632 → EReal) (wd : Fin 2816 → Fin 1024 → EReal) (j : Fin 1024) : EReal :=
  ∑ f : Fin 2816, act h wgu f * wd f j

/-- The feed-forward summed over eleven chunks of 256 inner values. -/
theorem ffn_chunks (h : Fin 1024 → EReal) (wgu : Fin 1024 → Fin 5632 → EReal) (wd : Fin 2816 → Fin 1024 → EReal) (j : Fin 1024) :
    ffn h wgu wd j = ∑ c : Fin 11, ∑ x : Fin 256, act h wgu ⟨c * 256 + x, by omega⟩ * wd ⟨c * 256 + x, by omega⟩ j :=
  (Fin.sum_mul_add_fin 11 256 fun f => act h wgu f * wd f j).symm

/-- The row after the output projection. -/
def mid (y : Fin 1024 → EReal) (q : Fin 512 → EReal) (mk mv : Fin 256 → Fin 512 → EReal) (x : Fin 1024 → EReal)
    (w : Fin 1536 → Fin 1024 → EReal) (g : Fin 1024 → EReal) (j : Fin 1024) : EReal :=
  x j + nrm (outp y (matt q mk mv) w) g j

/-- The row after the feed-forward. -/
def tail (y : Fin 1024 → EReal) (q : Fin 512 → EReal) (mk mv : Fin 256 → Fin 512 → EReal) (x : Fin 1024 → EReal)
    (w : Fin 1536 → Fin 1024 → EReal) (g gpre gpost : Fin 1024 → EReal) (wgu : Fin 1024 → Fin 5632 → EReal)
    (wd : Fin 2816 → Fin 1024 → EReal) (j : Fin 1024) : EReal :=
  mid y q mk mv x w g j + nrm (ffn (nrm (mid y q mk mv x w g) gpre) wgu wd) gpost j

end Cert.Tail

end
-- ==== Proof.TailOps.lean ====
/- The kernel's vector operations at the end of a layer (root mean square norm, memory attention, output projection, one
   chunk of the feed-forward), named once, and what each makes of its operands' rows. -/
module

public import proofs.«01_k».proof.Proof.Gen.Kernel2Ideal.Frame
public import proofs.«01_k».proof.Proof.Rows

@[expose] public section

set_option maxRecDepth 16384

noncomputable section

namespace Cert.Tail

open Cert.Kernel2Ideal Cert.Kernel2Ideal.Gen
open Idealize.ShloMosaic Idealize.ShloMosaic.TcCoe

section
variable {F : FTy → Type} [FloatOps F]

/-- Rows divided by their root mean squares and multiplied with a gain. -/
def nrmB (x : FVec F S512x1024 .f32) (g : FVec F S1x1024 .f32) : FVec F S512x1024 .f32 :=
  mulf (mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 g broadcasts_S1x1024_S512x1024)

/-- One head's scaled scores. -/
def scoreB (q : FVec F S512x128 .bf16) (k : FVec F S128x256 .bf16) : FVec F S512x256 .f32 :=
  mulf (matmul dot_S512x128_S128x256_S512x256_1_0_0_1_n_n none q (shapeCast S128x256 k shapeCasts_S128x256_S128x256)
    (constant S512x256 .f32 0x00000000#32)) (broadcast S512x256 (Scalar.ofBits .f32 0x3DB504F3#32))

/-- Scores less their row's largest, exponentiated. -/
def expB (s : FVec F S512x256 .f32) : FVec F S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The softmax of a row of scores. -/
def smaxB (s : FVec F S512x256 .f32) : FVec F S512x256 .bf16 :=
  truncf .bf16 (divf (expB s) (broadcastTo S512x256 (shapeCast S512x1 (multiReduction .add [1] S512 (expB s) 0x00000000#32
    reduces_S512x256_S512 (.inl rfl) rfl) shapeCasts_S512_S512x1) broadcasts_S512x1_S512x256)) bitsLt_bf16_f32

/-- One head's output. -/
def headB (p : FVec F S512x256 .bf16) (v : FVec F S256x128 .bf16) : FVec F S512x128 .f32 :=
  matmul dot_S512x256_S256x128_S512x128_1_0_0_1_n_n none p (shapeCast S256x128 v shapeCasts_S256x128_S256x128)
    (constant S512x128 .f32 0x00000000#32)

/-- The four heads' outputs side by side. -/
def catB (a b c d : FVec F S512x128 .f32) : FVec F S512x512 .f32 :=
  concatenate S512x512 1 [⟨S512x128, a⟩, ⟨S512x128, b⟩, ⟨S512x128, c⟩, ⟨S512x128, d⟩]
    concatenates_S512x128_S512x128_S512x128_S512x128_S512x512_d1

/-- The memory attention of a block of queries. -/
def mattB (q : Vec F S512x512 .bf16) (k : Vec F S512x256 .bf16) (v : Vec F S256x512 .bf16) : FVec F S512x512 .f32 :=
  catB (headB (smaxB (scoreB (extractStridedSlice S512x128 ![0, 0] q slices_S512x512_o0_0_S512x128) (View.ld k r0_2))) (View.ld v r0_6))
    (headB (smaxB (scoreB (extractStridedSlice S512x128 ![0, 128] q slices_S512x512_o0_128_S512x128) (View.ld k r0_3))) (View.ld v r0_7))
    (headB (smaxB (scoreB (extractStridedSlice S512x128 ![0, 256] q slices_S512x512_o0_256_S512x128) (View.ld k r0_4))) (View.ld v r0_8))
    (headB (smaxB (scoreB (extractStridedSlice S512x128 ![0, 384] q slices_S512x512_o0_384_S512x128) (View.ld k r0_5))) (View.ld v r0_9))

/-- The output projection. -/
def outpB (y : FVec F S512x1024 .bf16) (ym : FVec F S512x512 .f32) (wa : FVec F S1024x1024 .bf16) (wm : FVec F S512x1024 .bf16) : FVec F S512x1024 .f32 :=
  addf (matmul dot_S512x1024_S1024x1024_S512x1024_1_0_0_1_n_n none y (shapeCast S1024x1024 wa shapeCasts_S1024x1024_S1024x1024)
      (constant S512x1024 .f32 0x00000000#32))
    (matmul dot_S512x512_S512x1024_S512x1024_1_0_0_1_n_n none (truncf .bf16 ym bitsLt_bf16_f32)
      (shapeCast S512x1024 wm shapeCasts_S512x1024_S512x1024) (constant S512x1024 .f32 0x00000000#32))

/-- A chunk's product with rows. -/
def upB (h : FVec F S512x1024 .bf16) (w : FVec F S1024x256 .bf16) : FVec F S512x256 .f32 :=
  matmul dot_S512x1024_S1024x256_S512x256_1_0_0_1_n_n none h (shapeCast S1024x256 w shapeCasts_S1024x256_S1024x256)
    (constant S512x256 .f32 0x00000000#32)

/-- One chunk of the feed-forward added to an accumulator. -/
def chunkB (h : FVec F S512x1024 .bf16) (acc : FVec F S512x1024 .f32) (wg wu : FVec F S1024x256 .bf16) (wd : FVec F S256x1024 .bf16) :
    FVec F S512x1024 .f32 :=
  addf acc (matmul dot_S512x256_S256x1024_S512x1024_1_0_0_1_n_n none
    (truncf .bf16 (mulf (mulf (upB h wg) (logistic (upB h wg))) (upB h wu)) bitsLt_bf16_f32)
    (shapeCast S256x1024 wd shapeCasts_S256x1024_S256x1024) (constant S512x1024 .f32 0x00000000#32))

/-- The feed-forward of a block of rows, chunk by chunk. -/
def ffnB (h : FVec F S512x1024 .bf16) (wgu : Vec F S1024x5632 .bf16) (wd : Vec F S2816x1024 .bf16) : FVec F S512x1024 .f32 :=
  let a0 : FVec F S512x1024 .f32 := broadcast S512x1024 (Scalar.ofBits .f32 0x00000000#32)
  let a1 := chunkB h a0 (View.ld wgu r0_12) (View.ld wgu r0_13) (View.ld wd r0_14)
  let a2 := chunkB h a1 (View.ld wgu r0_15) (View.ld wgu r0_16) (View.ld wd r0_17)
  let a3 := chunkB h a2 (View.ld wgu r0_18) (View.ld wgu r0_19) (View.ld wd r0_20)
  let a4 := chunkB h a3 (View.ld wgu r0_21) (View.ld wgu r0_22) (View.ld wd r0_23)
  let a5 := chunkB h a4 (View.ld wgu r0_24) (View.ld wgu r0_25) (View.ld wd r0_26)
  let a6 := chunkB h a5 (View.ld wgu r0_27) (View.ld wgu r0_28) (View.ld wd r0_29)
  let a7 := chunkB h a6 (View.ld wgu r0_30) (View.ld wgu r0_31) (View.ld wd r0_32)
  let a8 := chunkB h a7 (View.ld wgu r0_33) (View.ld wgu r0_34) (View.ld wd r0_35)
  let a9 := chunkB h a8 (View.ld wgu r0_36) (View.ld wgu r0_37) (View.ld wd r0_38)
  let a10 := chunkB h a9 (View.ld wgu r0_39) (View.ld wgu r0_40) (View.ld wd r0_41)
  chunkB h a10 (View.ld wgu r0_42) (View.ld wgu r0_43) (View.ld wd r0_44)

/-- The rows after the output projection. -/
def midB (y : FVec F S512x1024 .bf16) (q : Vec F S512x512 .bf16) (k : Vec F S512x256 .bf16) (v : Vec F S256x512 .bf16) (x : FVec F S512x1024 .f32)
    (wa : FVec F S1024x1024 .bf16) (wm : FVec F S512x1024 .bf16) (g : FVec F S1x1024 .f32) : FVec F S512x1024 .f32 :=
  addf x (nrmB (outpB y (mattB q k v) wa wm) (shapeCast S1x1024 g shapeCasts_S1x1024_S1x1024))

/-- The rows after the feed-forward, from the rows before it. -/
def resB (z : FVec F S512x1024 .f32) (gpre gpost : FVec F S1x1024 .f32) (wgu : Vec F S1024x5632 .bf16) (wd : Vec F S2816x1024 .bf16) :
    FVec F S512x1024 .f32 :=
  addf z (nrmB (ffnB (truncf .bf16 (nrmB z (shapeCast S1x1024 gpre shapeCasts_S1x1024_S1x1024)) bitsLt_bf16_f32) wgu wd)
    (shapeCast S1x1024 gpost shapeCasts_S1x1024_S1x1024))

/-- The body's one store is these operations of the blocks. -/
theorem out_eq (x0 : Vec F S512x1024 .bf16) (x1 : Vec F S512x512 .bf16) (x2 : Vec F S512x256 .bf16) (x3 : Vec F S256x512 .bf16)
    (x4 : Vec F S512x1024 .f32) (x5 : Vec F S1024x1024 .bf16) (x6 : Vec F S512x1024 .bf16) (x7 x8 x9 : Vec F S1x1024 .f32)
    (x10 : Vec F S1024x5632 .bf16) (x11 : Vec F S2816x1024 .bf16) :
    out0_12 x0 x1 x2 x3 x4 x5 x6 x7 x8 x9 x10 x11
      = View.canon [⟨r0_0, resB (midB (View.ld x0 r0_0) (View.ld x1 r0_1) x2 x3 (View.ld x4 r0_0) (View.ld x5 r0_10) (View.ld x6 r0_0)
          (View.ld x7 r0_11)) (View.ld x8 r0_11) (View.ld x9 r0_11) x10 x11⟩] := rfl

end

theorem nrmB_at (x : FVec Ideal S512x1024 .f32) (g : FVec Ideal S1x1024 .f32) (i : Fin 512) (j : Fin 1024) :
    nrmB x g (ix2 i j) = nrm (fun k => x (ix2 i k)) (fun k => g (ix2 0 k)) j := by
  pointwise [nrmB, nrm]

theorem scoreB_at (q : FVec Ideal S512x128 .bf16) (k : FVec Ideal S128x256 .bf16) (i : Fin 512) (s : Fin 256) :
    scoreB q k (ix2 i s) = (∑ d : Fin 128, q (ix2 i d) * k (ix2 d s)) * Ideal.ofBits .f32 0x3DB504F3#32 := by
  pointwise [scoreB]

theorem expB_at (s : FVec Ideal S512x256 .f32) (i : Fin 512) (x : Fin 256) :
    expB s (ix2 i x) = Ideal.exp (s (ix2 i x) - Finset.univ.sup fun x : Fin 256 => s (ix2 i x)) := by
  pointwise [expB]
  rw [show Ideal.ofBits FTy.f32 0xFF800000#32 = ⊥ by simp [Ideal.ofBits, Ideal.ieee]]
  rfl

theorem smaxB_at (s : FVec Ideal S512x256 .f32) (i : Fin 512) (x : Fin 256) :
    smaxB s (ix2 i x) = smax (fun x => s (ix2 i x)) x := by
  pointwise [smaxB]
  simp only [expB_at]
  rfl

theorem headB_at (p : FVec Ideal S512x256 .bf16) (v : FVec Ideal S256x128 .bf16) (i : Fin 512) (d : Fin 128) :
    headB p v (ix2 i d) = ∑ s : Fin 256, p (ix2 i s) * v (ix2 s d) := by
  pointwise [headB]

theorem outpB_at (y : FVec Ideal S512x1024 .bf16) (ym : FVec Ideal S512x512 .f32) (wa : FVec Ideal S1024x1024 .bf16) (wm : FVec Ideal S512x1024 .bf16)
    (i : Fin 512) (j : Fin 1024) :
    outpB y ym wa wm (ix2 i j) = ∑ k : Fin 1024, y (ix2 i k) * wa (ix2 k j) + ∑ k : Fin 512, ym (ix2 i k) * wm (ix2 k j) := by
  pointwise [outpB]

theorem upB_at (h : FVec Ideal S512x1024 .bf16) (w : FVec Ideal S1024x256 .bf16) (i : Fin 512) (x : Fin 256) :
    upB h w (ix2 i x) = ∑ k : Fin 1024, h (ix2 i k) * w (ix2 k x) := by
  pointwise [upB]

theorem chunkB_at (h : FVec Ideal S512x1024 .bf16) (acc : FVec Ideal S512x1024 .f32) (wg wu : FVec Ideal S1024x256 .bf16) (wd : FVec Ideal S256x1024 .bf16)
    (i : Fin 512) (j : Fin 1024) :
    chunkB h acc wg wu wd (ix2 i j) = acc (ix2 i j) + ∑ x : Fin 256, (∑ k : Fin 1024, h (ix2 i k) * wg (ix2 k x))
      * Ideal.logistic (∑ k : Fin 1024, h (ix2 i k) * wg (ix2 k x)) * (∑ k : Fin 1024, h (ix2 i k) * wu (ix2 k x)) * wd (ix2 x j) := by
  pointwise [chunkB]
  simp only [upB_at]

end Cert.Tail

end
-- ==== Proof.MemAttRef.lean ====
/- The reference's memory attention, read one row at a time. -/
module

public import proofs.«01_k».proof.Proof.Gen.Reference2Ideal.Read
public import proofs.«01_k».proof.Proof.Rows

@[expose] public section

set_option maxRecDepth 16384

noncomputable section

namespace Cert.Tail.Ref

open Cert.Reference2Ideal Cert.Reference2Ideal.Gen Cert.Reference2Ideal.Read
open Idealize.ShloMosaic Idealize.ShloMosaic.TcCoe

variable (x0 : FVec Ideal S16384x1024 .bf16) (x1 : FVec Ideal S16384x512 .bf16) (x2 x3 : FVec Ideal S256x512 .f32) (x4 : FVec Ideal S16384x1024 .f32)
  (x5 : FVec Ideal S1536x1024 .f32) (x6 x7 x8 : FVec Ideal S1024 .f32) (x9 : FVec Ideal S1024x5632 .f32) (x10 : FVec Ideal S2816x1024 .f32)

/-- The scaled scores. -/
theorem score_at (h : Fin 4) (n : Fin 16384) (s : Fin 256) :
    val_main_v6 (F := Ideal) x1 x2 (ix3 h n s) = score (fun k => x1 (ix2 n k)) (fun s k => x2 (ix2 s k)) h h.isLt s := by
  pointwise [val_main_v0, val_main_v1, val_main_v2, val_main_v4, val_main_v5, val_main_v6, val_main_cst]
  simp only [score, mul_comm (128 : ℕ)]

/-- The largest score of a row. -/
theorem max_at (h : Fin 4) (n : Fin 16384) :
    val_main_v7 (F := Ideal) x1 x2 (ix2 h n) = Finset.univ.sup fun s : Fin 256 => val_main_v6 (F := Ideal) x1 x2 (ix3 h n s) := by
  pointwise [val_main_v7, val_main_cst_0]
  rw [show Ideal.ofBits FTy.f32 0xFF800000#32 = ⊥ by simp [Ideal.ofBits, Ideal.ieee]]
  rfl

/-- A score less the row's largest, exponentiated. -/
theorem exp_at (h : Fin 4) (n : Fin 16384) (s : Fin 256) :
    val_main_v13 (F := Ideal) x1 x2 (ix3 h n s) = Ideal.exp (val_main_v6 (F := Ideal) x1 x2 (ix3 h n s)
      - Finset.univ.sup fun s : Fin 256 => val_main_v6 (F := Ideal) x1 x2 (ix3 h n s)) := by
  have e : idx_main_v10 (idx_main_v11 (ix3 h n s)) = ix2 h n := by blk_ext
  rw [val_main_v13_apply, val_main_v12_apply, val_main_v11_apply, val_main_v10_apply, e, val_main_v9_apply, val_main_v8_apply,
    val_main_cst_1_apply, max_at,
    show FloatOps.ofBits (F := Ideal) FTy.f32 0xFF800000#32 = (⊥ : EReal) by show Ideal.ofBits _ _ = _; simp [Ideal.ofBits, Ideal.ieee]]
  show Ideal.exp (_ - max ⊥ _) = _
  rw [max_eq_right bot_le]

/-- The softmax of the scores. -/
theorem prob_at (h : Fin 4) (n : Fin 16384) (s : Fin 256) :
    val_main_v17 (F := Ideal) x1 x2 (ix3 h n s) = smax (fun s => val_main_v6 (F := Ideal) x1 x2 (ix3 h n s)) s := by
  have e : idx_main_v15 (idx_main_v16 (ix3 h n s)) = ix2 h n := by blk_ext
  have e' : ∀ k, idx_main_v14 (ix2 h n) k = ix3 h n k := fun k => by blk_ext
  rw [val_main_v17_apply, val_main_v16_apply, val_main_v15_apply, e, val_main_v14_apply, val_main_cst_2_apply,
    show FloatOps.ofBits (F := Ideal) FTy.f32 0x00000000#32 = (0 : EReal) from Ideal.ofBits_zero_f32, zero_add]
  simp only [e', exp_at]
  rfl

/-- The memory attention's head outputs. -/
theorem head_at (h : Fin 4) (d : Fin 128) (n : Fin 16384) :
    val_main_v18 (F := Ideal) x1 x2 x3 (ix3 h d n) = ∑ s : Fin 256, val_main_v17 (F := Ideal) x1 x2 (ix3 h n s) * x3 (ix2 s ⟨128 * h + d, by omega⟩) := by
  pointwise [val_main_v3, val_main_v18]
  simp only [mul_comm]

/-- The memory attention. -/
theorem matt_at (n : Fin 16384) (e : Fin 512) :
    val_main_v20 (F := Ideal) x1 x2 x3 (ix2 n e) = matt (fun k => x1 (ix2 n k)) (fun s k => x2 (ix2 s k)) (fun s k => x3 (ix2 s k)) e := by
  pointwise [val_main_v19, val_main_v20]
  refine (head_at x1 x2 x3 _ _ n).trans ?_
  unfold matt
  refine Finset.sum_congr rfl fun s _ => ?_
  rw [prob_at, show (fun s => val_main_v6 (F := Ideal) x1 x2 (ix3 _ n s)) = _ from funext fun s => score_at x1 x2 _ n s]
  congr 3
  exact Fin.ext (by show 128 * (e.val / 128) + e.val % 128 = e.val; omega)

end Cert.Tail.Ref

end
-- ==== Proof.TailRef.lean ====
/- The reference's end of a layer, read one row at a time. -/
module

public import proofs.«01_k».proof.Proof.MemAttRef

@[expose] public section

set_option maxRecDepth 16384

noncomputable section

namespace Cert.Tail.Ref

open Cert.Reference2Ideal Cert.Reference2Ideal.Gen Cert.Reference2Ideal.Read
open Idealize.ShloMosaic Idealize.ShloMosaic.TcCoe

variable (x0 : FVec Ideal S16384x1024 .bf16) (x1 : FVec Ideal S16384x512 .bf16) (x2 x3 : FVec Ideal S256x512 .f32) (x4 : FVec Ideal S16384x1024 .f32)
  (x5 : FVec Ideal S1536x1024 .f32) (x6 x7 x8 : FVec Ideal S1024 .f32) (x9 : FVec Ideal S1024x5632 .f32) (x10 : FVec Ideal S2816x1024 .f32)

/-- The output projection. -/
theorem outp_at (n : Fin 16384) (j : Fin 1024) :
    val_main_v23 (F := Ideal) x0 x1 x2 x3 x5 (ix2 n j)
      = outp (fun k => x0 (ix2 n k)) (fun k => val_main_v20 (F := Ideal) x1 x2 x3 (ix2 n k)) (fun k j => x5 (ix2 k j)) j := by
  pointwise [val_main_v21, val_main_v22, val_main_v23]
  rfl

/-- The row after the output projection. -/
theorem mid_at (n : Fin 16384) (j : Fin 1024) :
    val_main_v37 (F := Ideal) x0 x1 x2 x3 x4 x5 x6 (ix2 n j)
      = x4 (ix2 n j) + nrm (fun k => val_main_v23 (F := Ideal) x0 x1 x2 x3 x5 (ix2 n k)) (fun k => x6 (ix1 k)) j := by
  pointwise [nrm, val_main_v24, val_main_v25, val_main_v26, val_main_v27, val_main_v28, val_main_v29, val_main_v30, val_main_v31, val_main_v32, val_main_v33, val_main_v34, val_main_v35, val_main_v36, val_main_v37, val_main_cst_3, val_main_cst_4, val_main_cst_5]

/-- The normalized row before the feed-forward. -/
theorem pre_at (n : Fin 16384) (j : Fin 1024) :
    val_main_v50 (F := Ideal) x0 x1 x2 x3 x4 x5 x6 x7 (ix2 n j)
      = nrm (fun k => val_main_v37 (F := Ideal) x0 x1 x2 x3 x4 x5 x6 (ix2 n k)) (fun k => x7 (ix1 k)) j := by
  pointwise [nrm, val_main_v38, val_main_v39, val_main_v40, val_main_v41, val_main_v42, val_main_v43, val_main_v44, val_main_v45, val_main_v46, val_main_v47, val_main_v48, val_main_v49, val_main_v50, val_main_cst_6, val_main_cst_7, val_main_cst_8]

/-- The feed-forward. -/
theorem ffn_at (n : Fin 16384) (j : Fin 1024) :
    val_main_v56 (F := Ideal) x0 x1 x2 x3 x4 x5 x6 x7 x9 x10 (ix2 n j)
      = ffn (fun k => val_main_v50 (F := Ideal) x0 x1 x2 x3 x4 x5 x6 x7 (ix2 n k)) (fun k f => x9 (ix2 k f)) (fun f j => x10 (ix2 f j)) j := by
  pointwise [ffn, act, val_main_v51, val_main_v52, val_main_v53, val_main_v54, val_main_v55, val_main_v56, val_main_call0_v0, val_main_call0_v1, val_main_call0_v2, val_main_call0_v3, val_main_call0_v4, val_main_call0_v5, val_main_call0_cst, val_main_call0_cst_0]
  rfl

/-- The result. -/
theorem res_at (n : Fin 16384) (j : Fin 1024) :
    val_main_v70 (F := Ideal) x0 x1 x2 x3 x4 x5 x6 x7 x8 x9 x10 (ix2 n j)
      = val_main_v37 (F := Ideal) x0 x1 x2 x3 x4 x5 x6 (ix2 n j)
        + nrm (fun k => val_main_v56 (F := Ideal) x0 x1 x2 x3 x4 x5 x6 x7 x9 x10 (ix2 n k)) (fun k => x8 (ix1 k)) j := by
  pointwise [nrm, val_main_v57, val_main_v58, val_main_v59, val_main_v60, val_main_v61, val_main_v62, val_main_v63, val_main_v64, val_main_v65, val_main_v66, val_main_v67, val_main_v68, val_main_v69, val_main_v70, val_main_cst_9, val_main_cst_10, val_main_cst_11]

/-- The reference's result is the row function of the arguments' rows. -/
theorem tail_at (n : Fin 16384) (j : Fin 1024) :
    val_main_v70 (F := Ideal) x0 x1 x2 x3 x4 x5 x6 x7 x8 x9 x10 (ix2 n j)
      = tail (fun k => x0 (ix2 n k)) (fun k => x1 (ix2 n k)) (fun s k => x2 (ix2 s k)) (fun s k => x3 (ix2 s k)) (fun k => x4 (ix2 n k))
          (fun k j => x5 (ix2 k j)) (fun k => x6 (ix1 k)) (fun k => x7 (ix1 k)) (fun k => x8 (ix1 k)) (fun k f => x9 (ix2 k f))
          (fun f j => x10 (ix2 f j)) j := by
  have h1 : (fun k => val_main_v20 (F := Ideal) x1 x2 x3 (ix2 n k)) = _ := funext fun k => matt_at x1 x2 x3 n k
  have h2 : (fun k => val_main_v23 (F := Ideal) x0 x1 x2 x3 x5 (ix2 n k)) = _ := funext fun k => outp_at x0 x1 x2 x3 x5 n k
  have h3 : (fun k => val_main_v37 (F := Ideal) x0 x1 x2 x3 x4 x5 x6 (ix2 n k)) = _ := funext fun k => mid_at x0 x1 x2 x3 x4 x5 x6 n k
  have h4 : (fun k => val_main_v50 (F := Ideal) x0 x1 x2 x3 x4 x5 x6 x7 (ix2 n k)) = _ := funext fun k => pre_at x0 x1 x2 x3 x4 x5 x6 x7 n k
  have h5 : (fun k => val_main_v56 (F := Ideal) x0 x1 x2 x3 x4 x5 x6 x7 x9 x10 (ix2 n k)) = _ :=
    funext fun k => ffn_at x0 x1 x2 x3 x4 x5 x6 x7 x9 x10 n k
  rw [res_at, mid_at, h5, h4, h3, h2, h1]
  rfl

end Cert.Tail.Ref

end
-- ==== Proof.TailKernel.lean ====
/- A block of rows through the kernel's end of a layer, and the array the kernel leaves: the reference's. -/
module

public import proofs.«01_k».proof.Proof.Gen.Kernel2Ideal.Value
public import proofs.«01_k».proof.Proof.TailOps
public import proofs.«01_k».proof.Proof.TailRef

@[expose] public section

set_option maxRecDepth 16384

noncomputable section

namespace Cert.Tail

open Cert.Kernel2Ideal Cert.Kernel2Ideal.Gen
open Idealize.ShloMosaic Idealize.ShloMosaic.TcCoe Idealize.SL.Sem
open Idealize.ShloMosaic.Pipeline (Dat)

/-- One head of the memory attention, from the slices of queries, keys and values the kernel takes. -/
theorem head_of (q : Vec Ideal S512x512 .bf16) (k : Vec Ideal S512x256 .bf16) (v : Vec Ideal S256x512 .bf16) (h : ℕ) (hh : h < 4)
    (hq : S512x512.Slices ![0, 128 * h] S512x128) (hk hv) (i : Fin 512) (d : Fin 128) :
    headB (F := Ideal) (smaxB (scoreB (extractStridedSlice S512x128 ![0, 128 * h] q hq)
        (View.ld k (Rect.unit (s := S512x256) ![128 * h, 0] S128x256.size hk))))
        (View.ld v (Rect.unit (s := S256x512) ![0, 128 * h] S256x128.size hv)) (ix2 i d)
      = matt (fun e => q (ix2 i e)) (fun s e => k (ix2 e s)) (fun s e => v (ix2 s e)) ⟨128 * h + d, by omega⟩ := by
  rw [matt_head _ _ _ h hh d, headB_at]
  refine Finset.sum_congr rfl fun s _ => ?_
  have e1 : ∀ s : Fin 256, scoreB (F := Ideal) (extractStridedSlice S512x128 ![0, 128 * h] q hq)
      (View.ld k (Rect.unit (s := S512x256) ![128 * h, 0] S128x256.size hk)) (ix2 i s)
      = score (fun e => q (ix2 i e)) (fun s e => k (ix2 e s)) h hh s := fun s => by
    rw [scoreB_at]
    unfold score
    refine congrArg (· * _) (Finset.sum_congr rfl fun d _ => congrArg₂ (· * ·) ?_ ?_)
    · exact extractStridedSlice_apply _ _ _ _ (ix2 i ⟨128 * h + d, by omega⟩) (fun a => match a with
        | ⟨0, _⟩ => (Nat.zero_add _).symm
        | ⟨1, _⟩ => rfl)
    · exact View.ld_unit_apply_of k _ _ _ _ (ix2 ⟨128 * h + d, by omega⟩ s) (fun a => match a with
        | ⟨0, _⟩ => rfl
        | ⟨1, _⟩ => (Nat.zero_add _).symm)
  rw [smaxB_at, funext e1]
  have e2 : View.ld v (Rect.unit (s := S256x512) ![0, 128 * h] S256x128.size hv) (ix2 s d) = v (ix2 s ⟨128 * h + d, by omega⟩) :=
    View.ld_unit_apply_of v _ _ _ _ _ (fun a => match a with
        | ⟨0, _⟩ => (Nat.zero_add _).symm
        | ⟨1, _⟩ => rfl)
  rw [e2]

/-- The same with the slices' offset and the output's column given apart. -/
theorem head_col (q : Vec Ideal S512x512 .bf16) (k : Vec Ideal S512x256 .bf16) (v : Vec Ideal S256x512 .bf16) (h : ℕ) (hh : h < 4) (o : ℕ) (ho : o = 128 * h)
    (hq : S512x512.Slices ![0, o] S512x128) (hk hv) (i : Fin 512) (d : Fin 128) (e : Fin 512) (he : e.val = 128 * h + d.val) :
    headB (F := Ideal) (smaxB (scoreB (extractStridedSlice S512x128 ![0, o] q hq)
        (View.ld k (Rect.unit (s := S512x256) ![o, 0] S128x256.size hk))))
        (View.ld v (Rect.unit (s := S256x512) ![0, o] S256x128.size hv)) (ix2 i d)
      = matt (fun e => q (ix2 i e)) (fun s e => k (ix2 e s)) (fun s e => v (ix2 s e)) e := by
  subst ho
  have e1 : e = ⟨128 * h + d, by omega⟩ := Fin.ext he
  rw [e1]
  exact head_of q k v h hh hq hk hv i d

/-- Four heads side by side are a row whose quarters are the heads'. -/
theorem catB_at (a b c d : FVec Ideal S512x128 .f32) (f : Fin 512 → EReal) (i : Fin 512)
    (ha : ∀ x : Fin 128, a (ix2 i x) = f ⟨x, by omega⟩) (hb : ∀ x : Fin 128, b (ix2 i x) = f ⟨128 + x, by omega⟩)
    (hc : ∀ x : Fin 128, c (ix2 i x) = f ⟨256 + x, by omega⟩) (hd : ∀ x : Fin 128, d (ix2 i x) = f ⟨384 + x, by omega⟩) (e : Fin 512) :
    catB a b c d (ix2 i e) = f e := by
  pointwise [catB]
  by_cases h0 : e.val < 128
  · rw [dif_pos h0]
    exact ha ⟨e, h0⟩
  rw [dif_neg h0]
  by_cases h1 : e.val - 128 < 128
  · rw [dif_pos h1]
    exact (hb ⟨e.val - 128, h1⟩).trans (congrArg f (Fin.ext (by dsimp only; omega)))
  rw [dif_neg h1]
  by_cases h2 : e.val - 128 - 128 < 128
  · rw [dif_pos h2]
    exact (hc ⟨e.val - 128 - 128, h2⟩).trans (congrArg f (Fin.ext (by dsimp only; omega)))
  rw [dif_neg h2]
  exact (hd ⟨e.val - 128 - 128 - 128, by omega⟩).trans (congrArg f (Fin.ext (by dsimp only; omega)))

/-- The memory attention of a block of queries. -/
theorem mattB_at (q : Vec Ideal S512x512 .bf16) (k : Vec Ideal S512x256 .bf16) (v : Vec Ideal S256x512 .bf16) (i e : Fin 512) :
    mattB (F := Ideal) q k v (ix2 i e) = matt (fun e => q (ix2 i e)) (fun s e => k (ix2 e s)) (fun s e => v (ix2 s e)) e :=
  catB_at _ _ _ _ _ i (fun x => head_col q k v 0 (by decide) 0 rfl _ _ _ i x _ (by dsimp only; omega))
    (fun x => head_col q k v 1 (by decide) 128 rfl _ _ _ i x _ rfl)
    (fun x => head_col q k v 2 (by decide) 256 rfl _ _ _ i x _ rfl)
    (fun x => head_col q k v 3 (by decide) 384 rfl _ _ _ i x _ rfl) e

/-- One chunk of the feed-forward, from the slices of the weights the kernel takes. -/
theorem chunk_of (h : FVec Ideal S512x1024 .bf16) (acc : FVec Ideal S512x1024 .f32) (wgu : Vec Ideal S1024x5632 .bf16) (wd : Vec Ideal S2816x1024 .bf16)
    (c : Fin 11) (hg hu hd) (i : Fin 512) (j : Fin 1024) :
    chunkB (F := Ideal) h acc (View.ld wgu (Rect.unit (s := S1024x5632) ![0, c.val * 256] S1024x256.size hg))
        (View.ld wgu (Rect.unit (s := S1024x5632) ![0, 2816 + c.val * 256] S1024x256.size hu))
        (View.ld wd (Rect.unit (s := S2816x1024) ![c.val * 256, 0] S256x1024.size hd)) (ix2 i j)
      = acc (ix2 i j) + ∑ x : Fin 256, act (fun k => h (ix2 i k)) (fun k f => wgu (ix2 k f)) ⟨c * 256 + x, by omega⟩
          * wd (ix2 ⟨c * 256 + x, by omega⟩ j) := by
  rw [chunkB_at]
  refine congrArg (_ + ·) (Finset.sum_congr rfl fun x _ => ?_)
  have e1 : ∀ k : Fin 1024, View.ld wgu (Rect.unit (s := S1024x5632) ![0, c.val * 256] S1024x256.size hg) (ix2 k x)
      = wgu (ix2 k ⟨c * 256 + x, by omega⟩) := fun k => View.ld_unit_apply_of wgu _ _ _ _ _ (fun a => match a with
        | ⟨0, _⟩ => (Nat.zero_add _).symm
        | ⟨1, _⟩ => rfl)
  have e2 : ∀ k : Fin 1024, View.ld wgu (Rect.unit (s := S1024x5632) ![0, 2816 + c.val * 256] S1024x256.size hu) (ix2 k x)
      = wgu (ix2 k ⟨2816 + (c * 256 + x), by omega⟩) := fun k => View.ld_unit_apply_of wgu _ _ _ _ _ (fun a => match a with
        | ⟨0, _⟩ => (Nat.zero_add _).symm
        | ⟨1, _⟩ => (Nat.add_assoc _ _ _).symm)
  have e3 : View.ld wd (Rect.unit (s := S2816x1024) ![c.val * 256, 0] S256x1024.size hd) (ix2 x j) = wd (ix2 ⟨c * 256 + x, by omega⟩ j) :=
    View.ld_unit_apply_of wd _ _ _ _ _ (fun a => match a with
        | ⟨0, _⟩ => rfl
        | ⟨1, _⟩ => (Nat.zero_add _).symm)
  simp only [e1, e2, e3]
  rfl

/-- A sum of eleven terms, from the first on. -/
theorem sum_eleven (T : Fin 11 → EReal) : ∑ c, T c = 0 + T 0 + T 1 + T 2 + T 3 + T 4 + T 5 + T 6 + T 7 + T 8 + T 9 + T 10 := by
  simp only [Fin.sum_univ_castSucc, Fin.sum_univ_zero]
  rfl

/-- The feed-forward of a block of rows. -/
theorem ffnB_at (h : FVec Ideal S512x1024 .bf16) (wgu : Vec Ideal S1024x5632 .bf16) (wd : Vec Ideal S2816x1024 .bf16) (i : Fin 512) (j : Fin 1024) :
    ffnB (F := Ideal) h wgu wd (ix2 i j) = ffn (fun k => h (ix2 i k)) (fun k f => wgu (ix2 k f)) (fun f j => wd (ix2 f j)) j := by
  rw [ffn_chunks, sum_eleven]
  have z : (broadcast S512x1024 (Scalar.ofBits .f32 0x00000000#32) : FVec Ideal S512x1024 .f32) (ix2 i j) = 0 := by pointwise
  unfold ffnB
  refine (chunk_of h _ wgu wd 10 _ _ _ i j).trans (congrArg (· + _) ?_)
  refine (chunk_of h _ wgu wd 9 _ _ _ i j).trans (congrArg (· + _) ?_)
  refine (chunk_of h _ wgu wd 8 _ _ _ i j).trans (congrArg (· + _) ?_)
  refine (chunk_of h _ wgu wd 7 _ _ _ i j).trans (congrArg (· + _) ?_)
  refine (chunk_of h _ wgu wd 6 _ _ _ i j).trans (congrArg (· + _) ?_)
  refine (chunk_of h _ wgu wd 5 _ _ _ i j).trans (congrArg (· + _) ?_)
  refine (chunk_of h _ wgu wd 4 _ _ _ i j).trans (congrArg (· + _) ?_)
  refine (chunk_of h _ wgu wd 3 _ _ _ i j).trans (congrArg (· + _) ?_)
  refine (chunk_of h _ wgu wd 2 _ _ _ i j).trans (congrArg (· + _) ?_)
  refine (chunk_of h _ wgu wd 1 _ _ _ i j).trans (congrArg (· + _) ?_)
  exact (chunk_of h _ wgu wd 0 _ _ _ i j).trans (congrArg (· + _) z)

/-- The rows after the output projection. -/
theorem midB_at (y : FVec Ideal S512x1024 .bf16) (q : Vec Ideal S512x512 .bf16) (k : Vec Ideal S512x256 .bf16) (v : Vec Ideal S256x512 .bf16)
    (x : FVec Ideal S512x1024 .f32) (wa : FVec Ideal S1024x1024 .bf16) (wm : FVec Ideal S512x1024 .bf16) (g : FVec Ideal S1x1024 .f32)
    (w : Fin 1536 → Fin 1024 → EReal) (ha : ∀ k j : Fin 1024, wa (ix2 k j) = w ⟨k, by omega⟩ j)
    (hm : ∀ (k : Fin 512) (j : Fin 1024), wm (ix2 k j) = w ⟨1024 + k, by omega⟩ j) (i : Fin 512) (j : Fin 1024) :
    midB (F := Ideal) y q k v x wa wm g (ix2 i j)
      = mid (fun k => y (ix2 i k)) (fun e => q (ix2 i e)) (fun s e => k (ix2 e s)) (fun s e => v (ix2 s e)) (fun k => x (ix2 i k)) w
          (fun k => g (ix2 0 k)) j := by
  have e1 : ∀ j : Fin 1024, outpB y (mattB q k v) wa wm (ix2 i j) = outp (fun k => y (ix2 i k))
      (matt (fun e => q (ix2 i e)) (fun s e => k (ix2 e s)) (fun s e => v (ix2 s e))) w j := fun j => by
    rw [outpB_at]
    simp only [mattB_at, ha, hm]
    rfl
  have e2 : ∀ k : Fin 1024, shapeCast S1x1024 g shapeCasts_S1x1024_S1x1024 (ix2 0 k) = g (ix2 0 k) := fun k => by pointwise
  show x (ix2 i j) + nrmB (F := Ideal) _ _ (ix2 i j) = _
  rw [nrmB_at, funext e1, funext e2]
  rfl

/-- The rows after the feed-forward. -/
theorem resB_at (z : FVec Ideal S512x1024 .f32) (gpre gpost : FVec Ideal S1x1024 .f32) (wgu : Vec Ideal S1024x5632 .bf16) (wd : Vec Ideal S2816x1024 .bf16)
    (i : Fin 512) (j : Fin 1024) :
    resB (F := Ideal) z gpre gpost wgu wd (ix2 i j)
      = z (ix2 i j) + nrm (ffn (nrm (fun k => z (ix2 i k)) (fun k => gpre (ix2 0 k))) (fun k f => wgu (ix2 k f)) (fun f j => wd (ix2 f j)))
          (fun k => gpost (ix2 0 k)) j := by
  have e2 : ∀ (g : FVec Ideal S1x1024 .f32) (k : Fin 1024), shapeCast S1x1024 g shapeCasts_S1x1024_S1x1024 (ix2 0 k) = g (ix2 0 k) :=
    fun g k => by pointwise
  show z (ix2 i j) + nrmB (F := Ideal) _ _ (ix2 i j) = _
  rw [nrmB_at, funext fun k => ffnB_at _ wgu wd i k, funext (e2 gpost)]
  have e3 : (fun k : Fin 1024 => (truncf .bf16 (nrmB z (shapeCast S1x1024 gpre shapeCasts_S1x1024_S1x1024)) bitsLt_bf16_f32 : FVec Ideal S512x1024 .bf16) (ix2 i k))
      = nrm (fun k => z (ix2 i k)) (fun k => gpre (ix2 0 k)) := funext fun k => by
    show nrmB (F := Ideal) _ _ (ix2 i k) = _
    rw [nrmB_at, funext (e2 gpre)]
  rw [e3]

variable (m : (ℓ : Loc nD τ sig) → Buf (Elt Ideal) ℓ)

/-- Where the windows' blocks stand: the token windows move with the grid point, the others are whole arrays. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

variable (c : Dev nD) (t : Fin cfg0.N)

/-- The host's transposed keys, projection halves and reshaped gains at an index. -/
theorem entry_v4 (k : Fin 512) (s : Fin 256) : V m c main_v4 (ix2 k s) = m ((c : Thread nD τ).loc main_arg2) (ix2 s k) := by
  entry_read
  pointwise

theorem entry_v5 (s : Fin 256) (k : Fin 512) : V m c main_v5 (ix2 s k) = m ((c : Thread nD τ).loc main_arg3) (ix2 s k) := by
  entry_read
  pointwise

theorem entry_v1 (k j : Fin 1024) : V m c main_v1 (ix2 k j) = m ((c : Thread nD τ).loc main_arg5) (ix2 (⟨k, by omega⟩ : Fin 1536) j) := by
  entry_read
  pointwise

theorem entry_v2 (k : Fin 512) (j : Fin 1024) : V m c main_v2 (ix2 k j) = m ((c : Thread nD τ).loc main_arg5) (ix2 (⟨1024 + k, by omega⟩ : Fin 1536) j) := by
  entry_read
  pointwise

theorem entry_v6 (k : Fin 1024) (f : Fin 5632) : V m c main_v6 (ix2 k f) = m ((c : Thread nD τ).loc main_arg9) (ix2 k f) := by
  entry_read
  pointwise

theorem entry_v7 (f : Fin 2816) (j : Fin 1024) : V m c main_v7 (ix2 f j) = m ((c : Thread nD τ).loc main_arg10) (ix2 f j) := by
  entry_read
  pointwise

theorem entry_v8 (k : Fin 1024) : V m c main_v8 (ix2 0 k) = m ((c : Thread nD τ).loc main_arg6) (ix1 k) := by
  entry_read
  pointwise

theorem entry_v9 (k : Fin 1024) : V m c main_v9 (ix2 0 k) = m ((c : Thread nD τ).loc main_arg7) (ix1 k) := by
  entry_read
  pointwise

theorem entry_v10 (k : Fin 1024) : V m c main_v10 (ix2 0 k) = m ((c : Thread nD τ).loc main_arg8) (ix1 k) := by
  entry_read
  pointwise

/-- The token windows' blocks at a row, and the whole-array windows' at an index. -/
theorem blk0 (i : Fin 512) (k : Fin 1024) (n : Fin 16384) (hn : n.val = 512 * t.val + i.val) :
    iblk m c 0 t (ix2 i k) = m ((c : Thread nD τ).loc main_arg0) (ix2 n k) := by
  blk_ext [iblk, V, idx t]

theorem blk1 (i : Fin 512) (k : Fin 512) (n : Fin 16384) (hn : n.val = 512 * t.val + i.val) :
    iblk m c 1 t (ix2 i k) = m ((c : Thread nD τ).loc main_arg1) (ix2 n k) := by
  blk_ext [iblk, V, idx t]

theorem blk4 (i : Fin 512) (k : Fin 1024) (n : Fin 16384) (hn : n.val = 512 * t.val + i.val) :
    iblk m c 4 t (ix2 i k) = m ((c : Thread nD τ).loc main_arg4) (ix2 n k) := by
  blk_ext [iblk, V, idx t]

theorem blk2 (k : Fin 512) (s : Fin 256) : iblk m c 2 t (ix2 k s) = V m c main_v4 (ix2 k s) := by
  blk_ext [iblk, idx t]

theorem blk3 (k : Fin 256) (s : Fin 512) : iblk m c 3 t (ix2 k s) = V m c main_v5 (ix2 k s) := by
  blk_ext [iblk, idx t]

theorem blk5 (k : Fin 1024) (s : Fin 1024) : iblk m c 5 t (ix2 k s) = V m c main_v1 (ix2 k s) := by
  blk_ext [iblk, idx t]

theorem blk6 (k : Fin 512) (s : Fin 1024) : iblk m c 6 t (ix2 k s) = V m c main_v2 (ix2 k s) := by
  blk_ext [iblk, idx t]

theorem blk7 (k : Fin 1) (s : Fin 1024) : iblk m c 7 t (ix2 k s) = V m c main_v8 (ix2 k s) := by
  blk_ext [iblk, idx t]

theorem blk8 (k : Fin 1) (s : Fin 1024) : iblk m c 8 t (ix2 k s) = V m c main_v9 (ix2 k s) := by
  blk_ext [iblk, idx t]

theorem blk9 (k : Fin 1) (s : Fin 1024) : iblk m c 9 t (ix2 k s) = V m c main_v10 (ix2 k s) := by
  blk_ext [iblk, idx t]

theorem blk10 (k : Fin 1024) (s : Fin 5632) : iblk m c 10 t (ix2 k s) = V m c main_v6 (ix2 k s) := by
  blk_ext [iblk, idx t]

theorem blk11 (k : Fin 2816) (s : Fin 1024) : iblk m c 11 t (ix2 k s) = V m c main_v7 (ix2 k s) := by
  blk_ext [iblk, idx t]

/-- Block `t` of the result is block `t` of the reference's: the same function of the same rows and weights. -/
theorem point (y : S512x1024.Idx) :
    resB (F := Ideal) (midB (iblk m c 0 t) (iblk m c 1 t) (iblk m c 2 t) (iblk m c 3 t) (iblk m c 4 t) (iblk m c 5 t) (iblk m c 6 t) (iblk m c 7 t))
        (iblk m c 8 t) (iblk m c 9 t) (iblk m c 10 t) (iblk m c 11 t) y
      = Cert.Reference2Ideal.Read.val_main_v70 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (((View.whole main_v11).slice (win0_12.rect t)).emb y) := by
  have ht : t.val < 32 := lt_of_lt_of_eq t.isLt N_0
  obtain ⟨i, j, rfl⟩ : ∃ (i : Fin 512) (j : Fin 1024), y = ix2 i j := ⟨y 0, y 1, by blk_ext⟩
  have ej : ((View.whole main_v11).slice (win0_12.rect t)).emb (ix2 i j) = ix2 (⟨512 * t.val + i.val, by omega⟩ : Fin 16384) j := by
    blk_ext [idx t]
  rw [resB_at]
  refine Eq.trans ?_ ((Cert.Tail.Ref.tail_at _ _ _ _ _ _ _ _ _ _ _ ⟨512 * t.val + i.val, by omega⟩ j).symm.trans (congrArg _ ej.symm))
  have h0 : (fun k : Fin 1024 => iblk m c 0 t (ix2 i k)) = _ := funext fun k => blk0 m c t i k ⟨512 * t.val + i.val, by omega⟩ rfl
  have h1 : (fun k : Fin 512 => iblk m c 1 t (ix2 i k)) = _ := funext fun k => blk1 m c t i k ⟨512 * t.val + i.val, by omega⟩ rfl
  have h4 : (fun k : Fin 1024 => iblk m c 4 t (ix2 i k)) = _ := funext fun k => blk4 m c t i k ⟨512 * t.val + i.val, by omega⟩ rfl
  have h2 : (fun (s : Fin 256) (k : Fin 512) => iblk m c 2 t (ix2 k s)) = _ := funext fun s => funext fun k => (blk2 m c t k s).trans (entry_v4 m c k s)
  have h3 : (fun (s : Fin 256) (k : Fin 512) => iblk m c 3 t (ix2 s k)) = _ := funext fun s => funext fun k => (blk3 m c t s k).trans (entry_v5 m c s k)
  have h7 : (fun k : Fin 1024 => iblk m c 7 t (ix2 0 k)) = _ := funext fun k => (blk7 m c t 0 k).trans (entry_v8 m c k)
  have h8 : (fun k : Fin 1024 => iblk m c 8 t (ix2 0 k)) = _ := funext fun k => (blk8 m c t 0 k).trans (entry_v9 m c k)
  have h9 : (fun k : Fin 1024 => iblk m c 9 t (ix2 0 k)) = _ := funext fun k => (blk9 m c t 0 k).trans (entry_v10 m c k)
  have h10 : (fun (k : Fin 1024) (f : Fin 5632) => iblk m c 10 t (ix2 k f)) = _ :=
    funext fun k => funext fun f => (blk10 m c t k f).trans (entry_v6 m c k f)
  have h11 : (fun (f : Fin 2816) (j : Fin 1024) => iblk m c 11 t (ix2 f j)) = _ :=
    funext fun f => funext fun j => (blk11 m c t f j).trans (entry_v7 m c f j)
  have hm := fun k => midB_at (iblk m c 0 t) (iblk m c 1 t) (iblk m c 2 t) (iblk m c 3 t) (iblk m c 4 t) (iblk m c 5 t) (iblk m c 6 t)
    (iblk m c 7 t) (fun k j => m ((c : Thread nD τ).loc main_arg5) (ix2 k j))
    (fun k j => (blk5 m c t k j).trans (entry_v1 m c k j)) (fun k j => (blk6 m c t k j).trans (entry_v2 m c k j)) i k
  rw [h0, h1, h2, h3, h4, h7] at hm
  rw [hm, funext hm, h8, h9, h10, h11]
  rfl

/-- The output array is the reference's. -/
theorem final : (dats m 0 c).arrAt 12 (cfgs 0).N
    = Cert.Reference2Ideal.Read.val_main_v70 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12, out_eq]
  frame_out
  exact point m c t y

end Cert.Tail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel2Ideal.Value
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.KernelLaunch
public import proofs.«01_k».proof.Proof.Final
public import proofs.«01_k».proof.Proof.Finite
public import proofs.«01_k».proof.Proof.MemKv
public import proofs.«01_k».proof.Proof.TailKernel
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel on words: it runs, leaves its arguments, and every semaphore ends at zero. -/
theorem quiescent_kernel : Cert.quiescent_Kernel := fun m g _ => Cert.FlashBits.frame m g

/-- The kernel on ideal values: the same. -/
theorem quiescent_ideal : Cert.quiescent_KernelIdeal := fun m g _ => Cert.Flash.frame m g

/-- The same from the memories the precondition admits. -/
theorem quiescent_ideal_pre : Cert.quiescent_KernelIdeal_pre_finite_scores := fun m g _ => Cert.Flash.frame m g

/-- The reference: the same (it has no semaphore). -/
theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reference from the memories the precondition admits. -/
theorem quiescent_reference_pre : Cert.quiescent_ReferenceIdeal_pre_finite_scores := fun m g _ =>
  (θ_run Cert.ReferenceIdeal.defs _ _).mono (fun r h => ⟨fun c => (h c).2, sem_eq_zero_of_no_sems (by decide) r.2⟩)
    (Cert.ReferenceIdeal.Value.run m g)

/-- The scale of the queries stands for the number it rounds. -/
theorem preserves : Cert.preserves_Kernel_KernelIdeal :=
  IdealRules.named_const.statement Cert.KernelIdeal.κ "q_scale" .f32 0x3DD53B95#32 _ rfl

/-- The precondition makes every entry of the scores a real number. -/
theorem real4 (m : (ℓ : Loc Cert.KernelIdeal.nD Cert.KernelIdeal.τ Cert.KernelIdeal.sig) → Buf (Elt Ideal) ℓ) (hp : Cert.Pre_KernelIdeal_finite_scores m)
    (c : Dev Cert.KernelIdeal.nD) :
    Cert.Ref.Real4 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
  ⟨fun n h d => (Cert.Finite.at_lo _ _ _ _ _ (hp c) n h d).1, fun n h d => (Cert.Finite.at_hi _ _ _ _ _ (hp c) n h d).1,
    fun n h d => (Cert.Finite.at_lo _ _ _ _ _ (hp c) n h d).2, fun n d => (Cert.Finite.at_hi _ _ _ _ _ (hp c) n 0 d).2⟩

/-- The kernel computes the reference's result. -/
theorem algebraic : Cert.algebraic_KernelIdeal_ReferenceIdeal_pre_finite_scores := by
  intro m g m' g' hpre hagree
  refine ⟨fun c => Cert.Flash.ref m c, ?_, ?_⟩
  · refine (θ_run Cert.KernelIdeal.defs _ _).mono (fun r h c => ⟨?_, h.1 c⟩) (θ_run_and (Cert.Flash.unchanged m g) (Cert.Flash.run_main m g))
    exact (Cert.Flash.post3 m r h.2 c).trans (Cert.Flash.final m c (real4 m hpre c))
  · refine (θ_run Cert.ReferenceIdeal.defs _ _).mono (fun r h c => ⟨?_, (h c).2⟩) (Cert.ReferenceIdeal.Value.run m' g')
    obtain ⟨a0, a1, a2, a3, a4⟩ := hagree c
    refine ((h c).1.trans (Cert.ReferenceIdeal.Read.val_main_v28_eq m' c)).trans ?_
    rw [a0, a1, a2, a3, a4]

/-- The tail call on words. -/
theorem quiescent_kernel2 : Cert.quiescent_Kernel2 := fun m g _ => Cert.Kernel2.Gen.frame m g

/-- The tail call on ideal values. -/
theorem quiescent_ideal2 : Cert.quiescent_Kernel2Ideal := fun m g _ => Cert.Kernel2Ideal.Gen.frame m g

/-- The reference of the tail call. -/
theorem quiescent_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The tail call computes its reference's result. -/
theorem algebraic2 : Cert.algebraic_Kernel2Ideal_Reference2Ideal := by
  intro m g m' g' _ hagree
  refine ⟨fun c => (Cert.Kernel2Ideal.Gen.dats m 0 c).arrAt 12 (Cert.Kernel2Ideal.cfgs 0).N, Cert.Kernel2Ideal.Value.run_blocks m g, ?_⟩
  refine (θ_run Cert.Reference2Ideal.defs _ _).mono (fun r h c => ⟨?_, (h c).2⟩) (Cert.Reference2Ideal.Value.run m' g')
  obtain ⟨a0, a1, a2, a3, a4, a5, a6, a7, a8, a9, a10⟩ := hagree c
  refine ((h c).1.trans (Cert.Reference2Ideal.Read.val_main_v70_eq _)).trans ?_
  show Cert.Reference2Ideal.Read.val_main_v70 (F := Ideal) (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))
    (m' ((c.tc : Thread Cert.Reference2Ideal.nD Cert.Reference2Ideal.τ).loc Cert.Reference2Ideal.main_arg6))
    (m' ((c.tc : Thread Cert.Reference2Ideal.nD Cert.Reference2Ideal.τ).loc Cert.Reference2Ideal.main_arg7))
    (m' ((c.tc : Thread Cert.Reference2Ideal.nD Cert.Reference2Ideal.τ).loc Cert.Reference2Ideal.main_arg8))
    (m' ((c.tc : Thread Cert.Reference2Ideal.nD Cert.Reference2Ideal.τ).loc Cert.Reference2Ideal.main_arg9))
    (m' ((c.tc : Thread Cert.Reference2Ideal.nD Cert.Reference2Ideal.τ).loc Cert.Reference2Ideal.main_arg10)) = _
  rw [a0, a1, a2, a3, a4, a5, a6, a7, a8, a9, a10]
  exact (Cert.Tail.final m c).symm

/-- The memory's keys and values on words. -/
theorem quiescent_kernel3 : Cert.quiescent_Kernel3 := fun m g _ => Cert.Kernel3.Gen.frame m g

/-- The memory's keys and values on ideal values. -/
theorem quiescent_ideal3 : Cert.quiescent_Kernel3Ideal := fun m g _ => Cert.Kernel3Ideal.Gen.frame m g

/-- The reference of the memory's keys and values. -/
theorem quiescent_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

/-- The memory's keys and values are the reference's. -/
theorem algebraic3 : Cert.algebraic_Kernel3Ideal_Reference3Ideal := by
  intro m g m' g' _ hagree
  refine ⟨fun c => (Cert.Kernel3Ideal.Gen.dats m 0 c).arrAt 3 (Cert.Kernel3Ideal.cfgs 0).N,
    fun c => (Cert.Kernel3Ideal.Gen.dats m 0 c).arrAt 4 (Cert.Kernel3Ideal.cfgs 0).N, Cert.Kernel3Ideal.Value.run_blocks m g, ?_⟩
  refine (θ_run Cert.Reference3Ideal.defs _ _).mono (fun r h c => ⟨?_, ?_, (h c).2.2⟩) (Cert.Reference3Ideal.Value.run m' g')
  · obtain ⟨a0, a1, a2⟩ := hagree c
    refine ((h c).1.trans (Cert.Reference3Ideal.Read.val_main_v14_eq _ _ _)).trans ?_
    rw [a0, a1, a2]
    exact (Cert.MemKv.final3 m c).symm
  · obtain ⟨a0, a1, a2⟩ := hagree c
    refine ((h c).2.1.trans (Cert.Reference3Ideal.Read.val_main_v15_eq _ _ _)).trans ?_
    rw [a0, a1, a2]
    exact (Cert.MemKv.final4 m c).symm

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_scores.Gen.facts,
  quiescent_kernel, quiescent_ideal, quiescent_ideal_pre, quiescent_reference, quiescent_reference_pre,
  quiescent_kernel2, quiescent_ideal2, quiescent_reference2, quiescent_kernel3, quiescent_ideal3, quiescent_reference3,
  preserves, algebraic, trivial, algebraic2, trivial, algebraic3⟩

end Cert.Proof

end
